-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x512 : Shape := ⟨2, ![512, 512]⟩
abbrev S2048x512 : Shape := ⟨2, ![2048, 512]⟩
abbrev S128 : Shape := ⟨1, ![128]⟩
abbrev S_ : Shape := ⟨0, ![]⟩
abbrev S1 : Shape := ⟨1, ![1]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S256x512 : Shape := ⟨2, ![256, 512]⟩
abbrev S32x512 : Shape := ⟨2, ![32, 512]⟩
abbrev S8x512 : Shape := ⟨2, ![8, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | .local _ .vmem, ⟨0, _⟩ => ⟨S1024x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S2048x512, .f32⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 259 → Bool
  | ⟨i, _⟩ => dmaSemScopedAt i

abbrev sig : RefSig :=
  (ofTc nBuf bufTy 1 259 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v8 : BitVec 32 := Scalar.xori v2 c1_i32_2
  let c1_i32_26 : BitVec 32 := 1#32
  let v46 : BitVec 32 := Scalar.muli v8 c1_i32_26
  let v47 : BitVec 32 := Scalar.addi c0_i32 v46
  v47.toNat
def k0_dev2 (d0 : Dev nD) : Nat :=
  let c0_i32_29 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v11 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.addi v5 c1_i32_3
  let c3_i32_4 : BitVec 32 := 3#32
  let v10 : BitVec 32 := Scalar.andi v9 c3_i32_4
  let v12 : BitVec 32 := Scalar.muli c2_i32 v10
  let v13 : BitVec 32 := Scalar.addi v11 v12
  let v6 : BitVec 32 := Scalar.xori v4 v5
  let c1_i32_1 : BitVec 32 := 1#32
  let v7 : BitVec 32 := Scalar.andi v6 c1_i32_1
  let c1_i32_5 : BitVec 32 := 1#32
  let v14 : BitVec 32 := Scalar.andi v10 c1_i32_5
  let v15 : BitVec 32 := Scalar.xori v7 v14
  let v16 : BitVec 32 := Scalar.addi v13 v15
  let c1_i32_28 : BitVec 32 := 1#32
  let v48 : BitVec 32 := Scalar.muli v16 c1_i32_28
  let v49 : BitVec 32 := Scalar.addi c0_i32_29 v48
  v49.toNat
def k0_dev3 (d0 : Dev nD) : Nat :=
  let c0_i32_32 : BitVec 32 := 0#32
  let c8_i32_8 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v19 : BitVec 32 := Scalar.muli c8_i32_8 v3
  let c2_i32_9 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_6 : BitVec 32 := 2#32
  let v17 : BitVec 32 := Scalar.addi v5 c2_i32_6
  let c3_i32_7 : BitVec 32 := 3#32
  let v18 : BitVec 32 := Scalar.andi v17 c3_i32_7
  let v20 : BitVec 32 := Scalar.muli c2_i32_9 v18
  let v21 : BitVec 32 := Scalar.addi v19 v20
  let v6 : BitVec 32 := Scalar.xori v4 v5
  let c1_i32_1 : BitVec 32 := 1#32
  let v7 : BitVec 32 := Scalar.andi v6 c1_i32_1
  let c1_i32_10 : BitVec 32 := 1#32
  let v22 : BitVec 32 := Scalar.andi v18 c1_i32_10
  let v23 : BitVec 32 := Scalar.xori v7 v22
  let v24 : BitVec 32 := Scalar.addi v21 v23
  let c1_i32_31 : BitVec 32 := 1#32
  let v50 : BitVec 32 := Scalar.muli v24 c1_i32_31
  let v51 : BitVec 32 := Scalar.addi c0_i32_32 v50
  v51.toNat
def k0_dev4 (d0 : Dev nD) : Nat :=
  let c0_i32_35 : BitVec 32 := 0#32
  let c8_i32_13 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v27 : BitVec 32 := Scalar.muli c8_i32_13 v3
  let c2_i32_14 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_11 : BitVec 32 := 3#32
  let v25 : BitVec 32 := Scalar.addi v5 c3_i32_11
  let c3_i32_12 : BitVec 32 := 3#32
  let v26 : BitVec 32 := Scalar.andi v25 c3_i32_12
  let v28 : BitVec 32 := Scalar.muli c2_i32_14 v26
  let v29 : BitVec 32 := Scalar.addi v27 v28
  let v6 : BitVec 32 := Scalar.xori v4 v5
  let c1_i32_1 : BitVec 32 := 1#32
  let v7 : BitVec 32 := Scalar.andi v6 c1_i32_1
  let c1_i32_15 : BitVec 32 := 1#32
  let v30 : BitVec 32 := Scalar.andi v26 c1_i32_15
  let v31 : BitVec 32 := Scalar.xori v7 v30
  let v32 : BitVec 32 := Scalar.addi v29 v31
  let c1_i32_34 : BitVec 32 := 1#32
  let v52 : BitVec 32 := Scalar.muli v32 c1_i32_34
  let v53 : BitVec 32 := Scalar.addi c0_i32_35 v52
  v53.toNat
def k0_dev5 (d0 : Dev nD) : Nat :=
  let c0_i32_38 : BitVec 32 := 0#32
  let c8_i32_18 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_16 : BitVec 32 := 1#32
  let v33 : BitVec 32 := Scalar.addi v3 c1_i32_16
  let c3_i32_17 : BitVec 32 := 3#32
  let v34 : BitVec 32 := Scalar.andi v33 c3_i32_17
  let v35 : BitVec 32 := Scalar.muli c8_i32_18 v34
  let c7_i32 : BitVec 32 := 7#32
  let v4 : BitVec 32 := Scalar.andi v2 c7_i32
  let v36 : BitVec 32 := Scalar.addi v35 v4
  let c1_i32_37 : BitVec 32 := 1#32
  let v54 : BitVec 32 := Scalar.muli v36 c1_i32_37
  let v55 : BitVec 32 := Scalar.addi c0_i32_38 v54
  v55.toNat
def k0_dev6 (d0 : Dev nD) : Nat :=
  let c0_i32_41 : BitVec 32 := 0#32
  let c8_i32_21 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_19 : BitVec 32 := 2#32
  let v37 : BitVec 32 := Scalar.addi v3 c2_i32_19
  let c3_i32_20 : BitVec 32 := 3#32
  let v38 : BitVec 32 := Scalar.andi v37 c3_i32_20
  let v39 : BitVec 32 := Scalar.muli c8_i32_21 v38
  let c7_i32 : BitVec 32 := 7#32
  let v4 : BitVec 32 := Scalar.andi v2 c7_i32
  let v40 : BitVec 32 := Scalar.addi v39 v4
  let c1_i32_40 : BitVec 32 := 1#32
  let v56 : BitVec 32 := Scalar.muli v40 c1_i32_40
  let v57 : BitVec 32 := Scalar.addi c0_i32_41 v56
  v57.toNat
def k0_dev7 (d0 : Dev nD) : Nat :=
  let c0_i32_44 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_22 : BitVec 32 := 3#32
  let v41 : BitVec 32 := Scalar.addi v3 c3_i32_22
  let c3_i32_23 : BitVec 32 := 3#32
  let v42 : BitVec 32 := Scalar.andi v41 c3_i32_23
  let v43 : BitVec 32 := Scalar.muli c8_i32_24 v42
  let c7_i32 : BitVec 32 := 7#32
  let v4 : BitVec 32 := Scalar.andi v2 c7_i32
  let v44 : BitVec 32 := Scalar.addi v43 v4
  let c1_i32_43 : BitVec 32 := 1#32
  let v58 : BitVec 32 := Scalar.muli v44 c1_i32_43
  let v59 : BitVec 32 := Scalar.addi c0_i32_44 v58
  v59.toNat
def k0_off1 (d0 : Dev nD) (c0_i32_47 : BitVec 32) : Fin 2 → Nat :=
  let c1_i32_46 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let v60 : BitVec 32 := Scalar.subi c1_i32_46 v7
  let c128_i32 : BitVec 32 := 128#32
  let v61 : BitVec 32 := Scalar.muli v60 c128_i32
  let v62 : BitVec 32 := Scalar.addi c0_i32_47 v61
  let c0_i32_57 : BitVec 32 := 0#32
  ![v62.toNat, 0]
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_50 : BitVec 32 := 1#32
  let v65 : BitVec 32 := Scalar.xori v2 c1_i32_50
  let c1_i32_53 : BitVec 32 := 1#32
  let v66 : BitVec 32 := Scalar.muli v65 c1_i32_53
  let v67 : BitVec 32 := Scalar.addi c0_i32_54 v66
  v67.toNat
def k0_off2 (d0 : Dev nD) (c1_i32_58 : BitVec 32) : Fin 2 → Nat :=
  let c256_i32_64 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v76 : BitVec 32 := Scalar.addi v5 c1_i32_58
  let c3_i32_59 : BitVec 32 := 3#32
  let v77 : BitVec 32 := Scalar.andi v76 c3_i32_59
  let c64_i32_63 : BitVec 32 := 64#32
  let v84 : BitVec 32 := Scalar.muli v77 c64_i32_63
  let v85 : BitVec 32 := Scalar.addi c256_i32_64 v84
  let c0_i32_70 : BitVec 32 := 0#32
  ![v85.toNat, 0]
def k0_dev9 (d0 : Dev nD) : Nat :=
  let c0_i32_68 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v78 : BitVec 32 := Scalar.muli c8_i32_60 v3
  let c2_i32_61 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_58 : BitVec 32 := 1#32
  let v76 : BitVec 32 := Scalar.addi v5 c1_i32_58
  let c3_i32_59 : BitVec 32 := 3#32
  let v77 : BitVec 32 := Scalar.andi v76 c3_i32_59
  let v79 : BitVec 32 := Scalar.muli c2_i32_61 v77
  let v80 : BitVec 32 := Scalar.addi v78 v79
  let v6 : BitVec 32 := Scalar.xori v4 v5
  let c1_i32_1 : BitVec 32 := 1#32
  let v7 : BitVec 32 := Scalar.andi v6 c1_i32_1
  let c1_i32_62 : BitVec 32 := 1#32
  let v81 : BitVec 32 := Scalar.andi v77 c1_i32_62
  let v82 : BitVec 32 := Scalar.xori v7 v81
  let v83 : BitVec 32 := Scalar.addi v80 v82
  let c1_i32_67 : BitVec 32 := 1#32
  let v86 : BitVec 32 := Scalar.muli v83 c1_i32_67
  let v87 : BitVec 32 := Scalar.addi c0_i32_68 v86
  v87.toNat
def k0_dev10 (d0 : Dev nD) : Nat :=
  let c0_i32_81 : BitVec 32 := 0#32
  let c8_i32_73 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v96 : BitVec 32 := Scalar.muli c8_i32_73 v3
  let c2_i32_74 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_71 : BitVec 32 := 2#32
  let v94 : BitVec 32 := Scalar.addi v5 c2_i32_71
  let c3_i32_72 : BitVec 32 := 3#32
  let v95 : BitVec 32 := Scalar.andi v94 c3_i32_72
  let v97 : BitVec 32 := Scalar.muli c2_i32_74 v95
  let v98 : BitVec 32 := Scalar.addi v96 v97
  let v6 : BitVec 32 := Scalar.xori v4 v5
  let c1_i32_1 : BitVec 32 := 1#32
  let v7 : BitVec 32 := Scalar.andi v6 c1_i32_1
  let c1_i32_75 : BitVec 32 := 1#32
  let v99 : BitVec 32 := Scalar.andi v95 c1_i32_75
  let v100 : BitVec 32 := Scalar.xori v7 v99
  let v101 : BitVec 32 := Scalar.addi v98 v100
  let c1_i32_80 : BitVec 32 := 1#32
  let v104 : BitVec 32 := Scalar.muli v101 c1_i32_80
  let v105 : BitVec 32 := Scalar.addi c0_i32_81 v104
  v105.toNat
def k0_dev11 (d0 : Dev nD) : Nat :=
  let c0_i32_94 : BitVec 32 := 0#32
  let c8_i32_86 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v114 : BitVec 32 := Scalar.muli c8_i32_86 v3
  let c2_i32_87 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_84 : BitVec 32 := 3#32
  let v112 : BitVec 32 := Scalar.addi v5 c3_i32_84
  let c3_i32_85 : BitVec 32 := 3#32
  let v113 : BitVec 32 := Scalar.andi v112 c3_i32_85
  let v115 : BitVec 32 := Scalar.muli c2_i32_87 v113
  let v116 : BitVec 32 := Scalar.addi v114 v115
  let v6 : BitVec 32 := Scalar.xori v4 v5
  let c1_i32_1 : BitVec 32 := 1#32
  let v7 : BitVec 32 := Scalar.andi v6 c1_i32_1
  let c1_i32_88 : BitVec 32 := 1#32
  let v117 : BitVec 32 := Scalar.andi v113 c1_i32_88
  let v118 : BitVec 32 := Scalar.xori v7 v117
  let v119 : BitVec 32 := Scalar.addi v116 v118
  let c1_i32_93 : BitVec 32 := 1#32
  let v122 : BitVec 32 := Scalar.muli v119 c1_i32_93
  let v123 : BitVec 32 := Scalar.addi c0_i32_94 v122
  v123.toNat
def k0_off3 (d0 : Dev nD) (c1_i32_99 : BitVec 32) : Fin 2 → Nat :=
  let c512_i32_103 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v132 : BitVec 32 := Scalar.addi v3 c1_i32_99
  let c3_i32_100 : BitVec 32 := 3#32
  let v133 : BitVec 32 := Scalar.andi v132 c3_i32_100
  let c64_i32_102 : BitVec 32 := 64#32
  let v136 : BitVec 32 := Scalar.muli v133 c64_i32_102
  let v137 : BitVec 32 := Scalar.addi c512_i32_103 v136
  let c0_i32_108 : BitVec 32 := 0#32
  ![v137.toNat, 0]
def k0_dev12 (d0 : Dev nD) : Nat :=
  let c0_i32_106 : BitVec 32 := 0#32
  let c8_i32_101 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_99 : BitVec 32 := 1#32
  let v132 : BitVec 32 := Scalar.addi v3 c1_i32_99
  let c3_i32_100 : BitVec 32 := 3#32
  let v133 : BitVec 32 := Scalar.andi v132 c3_i32_100
  let v134 : BitVec 32 := Scalar.muli c8_i32_101 v133
  let c7_i32 : BitVec 32 := 7#32
  let v4 : BitVec 32 := Scalar.andi v2 c7_i32
  let v135 : BitVec 32 := Scalar.addi v134 v4
  let c1_i32_105 : BitVec 32 := 1#32
  let v138 : BitVec 32 := Scalar.muli v135 c1_i32_105
  let v139 : BitVec 32 := Scalar.addi c0_i32_106 v138
  v139.toNat
def k0_dev13 (d0 : Dev nD) : Nat :=
  let c0_i32_116 : BitVec 32 := 0#32
  let c8_i32_111 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_109 : BitVec 32 := 2#32
  let v146 : BitVec 32 := Scalar.addi v3 c2_i32_109
  let c3_i32_110 : BitVec 32 := 3#32
  let v147 : BitVec 32 := Scalar.andi v146 c3_i32_110
  let v148 : BitVec 32 := Scalar.muli c8_i32_111 v147
  let c7_i32 : BitVec 32 := 7#32
  let v4 : BitVec 32 := Scalar.andi v2 c7_i32
  let v149 : BitVec 32 := Scalar.addi v148 v4
  let c1_i32_115 : BitVec 32 := 1#32
  let v152 : BitVec 32 := Scalar.muli v149 c1_i32_115
  let v153 : BitVec 32 := Scalar.addi c0_i32_116 v152
  v153.toNat
def k0_dev14 (d0 : Dev nD) : Nat :=
  let c0_i32_126 : BitVec 32 := 0#32
  let c8_i32_121 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_119 : BitVec 32 := 3#32
  let v160 : BitVec 32 := Scalar.addi v3 c3_i32_119
  let c3_i32_120 : BitVec 32 := 3#32
  let v161 : BitVec 32 := Scalar.andi v160 c3_i32_120
  let v162 : BitVec 32 := Scalar.muli c8_i32_121 v161
  let c7_i32 : BitVec 32 := 7#32
  let v4 : BitVec 32 := Scalar.andi v2 c7_i32
  let v163 : BitVec 32 := Scalar.addi v162 v4
  let c1_i32_125 : BitVec 32 := 1#32
  let v166 : BitVec 32 := Scalar.muli v163 c1_i32_125
  let v167 : BitVec 32 := Scalar.addi c0_i32_126 v166
  v167.toNat
def k0_dev15 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_133 : BitVec 32 := 1#32
  let v179 : BitVec 32 := Scalar.xori v2 c1_i32_133
  let c1_i32_136 : BitVec 32 := 1#32
  let v180 : BitVec 32 := Scalar.muli v179 c1_i32_136
  let v181 : BitVec 32 := Scalar.addi c0_i32_137 v180
  v181.toNat
def k0_off4 (d0 : Dev nD) (c0_i32_142 : BitVec 32) : Fin 2 → Nat :=
  let c1_i32_140 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let v188 : BitVec 32 := Scalar.subi c1_i32_140 v7
  let c128_i32_141 : BitVec 32 := 128#32
  let v189 : BitVec 32 := Scalar.muli v188 c128_i32_141
  let v190 : BitVec 32 := Scalar.addi c0_i32_142 v189
  let c256_i32_152 : BitVec 32 := 256#32
  ![v190.toNat, 256]
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_145 : BitVec 32 := 1#32
  let v193 : BitVec 32 := Scalar.xori v2 c1_i32_145
  let c1_i32_148 : BitVec 32 := 1#32
  let v194 : BitVec 32 := Scalar.muli v193 c1_i32_148
  let v195 : BitVec 32 := Scalar.addi c0_i32_149 v194
  v195.toNat
def k0_off5 (d0 : Dev nD) (c1_i32_155 : BitVec 32) : Fin 2 → Nat :=
  let c256_i32_161 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v204 : BitVec 32 := Scalar.addi v5 c1_i32_155
  let c3_i32_156 : BitVec 32 := 3#32
  let v205 : BitVec 32 := Scalar.andi v204 c3_i32_156
  let c64_i32_160 : BitVec 32 := 64#32
  let v212 : BitVec 32 := Scalar.muli v205 c64_i32_160
  let v213 : BitVec 32 := Scalar.addi c256_i32_161 v212
  let c256_i32_167 : BitVec 32 := 256#32
  ![v213.toNat, 256]
def k0_dev17 (d0 : Dev nD) : Nat :=
  let c0_i32_164 : BitVec 32 := 0#32
  let c8_i32_157 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v206 : BitVec 32 := Scalar.muli c8_i32_157 v3
  let c2_i32_158 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_155 : BitVec 32 := 1#32
  let v204 : BitVec 32 := Scalar.addi v5 c1_i32_155
  let c3_i32_156 : BitVec 32 := 3#32
  let v205 : BitVec 32 := Scalar.andi v204 c3_i32_156
  let v207 : BitVec 32 := Scalar.muli c2_i32_158 v205
  let v208 : BitVec 32 := Scalar.addi v206 v207
  let v6 : BitVec 32 := Scalar.xori v4 v5
  let c1_i32_1 : BitVec 32 := 1#32
  let v7 : BitVec 32 := Scalar.andi v6 c1_i32_1
  let c1_i32_159 : BitVec 32 := 1#32
  let v209 : BitVec 32 := Scalar.andi v205 c1_i32_159
  let v210 : BitVec 32 := Scalar.xori v7 v209
  let v211 : BitVec 32 := Scalar.addi v208 v210
  let c1_i32_163 : BitVec 32 := 1#32
  let v214 : BitVec 32 := Scalar.muli v211 c1_i32_163
  let v215 : BitVec 32 := Scalar.addi c0_i32_164 v214
  v215.toNat
def k0_dev18 (d0 : Dev nD) : Nat :=
  let c0_i32_177 : BitVec 32 := 0#32
  let c8_i32_170 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v224 : BitVec 32 := Scalar.muli c8_i32_170 v3
  let c2_i32_171 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_168 : BitVec 32 := 2#32
  let v222 : BitVec 32 := Scalar.addi v5 c2_i32_168
  let c3_i32_169 : BitVec 32 := 3#32
  let v223 : BitVec 32 := Scalar.andi v222 c3_i32_169
  let v225 : BitVec 32 := Scalar.muli c2_i32_171 v223
  let v226 : BitVec 32 := Scalar.addi v224 v225
  let v6 : BitVec 32 := Scalar.xori v4 v5
  let c1_i32_1 : BitVec 32 := 1#32
  let v7 : BitVec 32 := Scalar.andi v6 c1_i32_1
  let c1_i32_172 : BitVec 32 := 1#32
  let v227 : BitVec 32 := Scalar.andi v223 c1_i32_172
  let v228 : BitVec 32 := Scalar.xori v7 v227
  let v229 : BitVec 32 := Scalar.addi v226 v228
  let c1_i32_176 : BitVec 32 := 1#32
  let v232 : BitVec 32 := Scalar.muli v229 c1_i32_176
  let v233 : BitVec 32 := Scalar.addi c0_i32_177 v232
  v233.toNat
def k0_dev19 (d0 : Dev nD) : Nat :=
  let c0_i32_190 : BitVec 32 := 0#32
  let c8_i32_183 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v242 : BitVec 32 := Scalar.muli c8_i32_183 v3
  let c2_i32_184 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_181 : BitVec 32 := 3#32
  let v240 : BitVec 32 := Scalar.addi v5 c3_i32_181
  let c3_i32_182 : BitVec 32 := 3#32
  let v241 : BitVec 32 := Scalar.andi v240 c3_i32_182
  let v243 : BitVec 32 := Scalar.muli c2_i32_184 v241
  let v244 : BitVec 32 := Scalar.addi v242 v243
  let v6 : BitVec 32 := Scalar.xori v4 v5
  let c1_i32_1 : BitVec 32 := 1#32
  let v7 : BitVec 32 := Scalar.andi v6 c1_i32_1
  let c1_i32_185 : BitVec 32 := 1#32
  let v245 : BitVec 32 := Scalar.andi v241 c1_i32_185
  let v246 : BitVec 32 := Scalar.xori v7 v245
  let v247 : BitVec 32 := Scalar.addi v244 v246
  let c1_i32_189 : BitVec 32 := 1#32
  let v250 : BitVec 32 := Scalar.muli v247 c1_i32_189
  let v251 : BitVec 32 := Scalar.addi c0_i32_190 v250
  v251.toNat
def k0_off6 (d0 : Dev nD) (c1_i32_196 : BitVec 32) : Fin 2 → Nat :=
  let c512_i32_200 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v260 : BitVec 32 := Scalar.addi v3 c1_i32_196
  let c3_i32_197 : BitVec 32 := 3#32
  let v261 : BitVec 32 := Scalar.andi v260 c3_i32_197
  let c64_i32_199 : BitVec 32 := 64#32
  let v264 : BitVec 32 := Scalar.muli v261 c64_i32_199
  let v265 : BitVec 32 := Scalar.addi c512_i32_200 v264
  let c256_i32_206 : BitVec 32 := 256#32
  ![v265.toNat, 256]
def k0_dev20 (d0 : Dev nD) : Nat :=
  let c0_i32_203 : BitVec 32 := 0#32
  let c8_i32_198 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_196 : BitVec 32 := 1#32
  let v260 : BitVec 32 := Scalar.addi v3 c1_i32_196
  let c3_i32_197 : BitVec 32 := 3#32
  let v261 : BitVec 32 := Scalar.andi v260 c3_i32_197
  let v262 : BitVec 32 := Scalar.muli c8_i32_198 v261
  let c7_i32 : BitVec 32 := 7#32
  let v4 : BitVec 32 := Scalar.andi v2 c7_i32
  let v263 : BitVec 32 := Scalar.addi v262 v4
  let c1_i32_202 : BitVec 32 := 1#32
  let v266 : BitVec 32 := Scalar.muli v263 c1_i32_202
  let v267 : BitVec 32 := Scalar.addi c0_i32_203 v266
  v267.toNat
def k0_dev21 (d0 : Dev nD) : Nat :=
  let c0_i32_214 : BitVec 32 := 0#32
  let c8_i32_209 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_207 : BitVec 32 := 2#32
  let v274 : BitVec 32 := Scalar.addi v3 c2_i32_207
  let c3_i32_208 : BitVec 32 := 3#32
  let v275 : BitVec 32 := Scalar.andi v274 c3_i32_208
  let v276 : BitVec 32 := Scalar.muli c8_i32_209 v275
  let c7_i32 : BitVec 32 := 7#32
  let v4 : BitVec 32 := Scalar.andi v2 c7_i32
  let v277 : BitVec 32 := Scalar.addi v276 v4
  let c1_i32_213 : BitVec 32 := 1#32
  let v280 : BitVec 32 := Scalar.muli v277 c1_i32_213
  let v281 : BitVec 32 := Scalar.addi c0_i32_214 v280
  v281.toNat
def k0_dev22 (d0 : Dev nD) : Nat :=
  let c0_i32_225 : BitVec 32 := 0#32
  let c8_i32_220 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_218 : BitVec 32 := 3#32
  let v288 : BitVec 32 := Scalar.addi v3 c3_i32_218
  let c3_i32_219 : BitVec 32 := 3#32
  let v289 : BitVec 32 := Scalar.andi v288 c3_i32_219
  let v290 : BitVec 32 := Scalar.muli c8_i32_220 v289
  let c7_i32 : BitVec 32 := 7#32
  let v4 : BitVec 32 := Scalar.andi v2 c7_i32
  let v291 : BitVec 32 := Scalar.addi v290 v4
  let c1_i32_224 : BitVec 32 := 1#32
  let v294 : BitVec 32 := Scalar.muli v291 c1_i32_224
  let v295 : BitVec 32 := Scalar.addi c0_i32_225 v294
  v295.toNat
def k0_dev23 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v307 : BitVec 32 := Scalar.xori v2 c1_i32_234
  let c1_i32_236 : BitVec 32 := 1#32
  let v308 : BitVec 32 := Scalar.muli v307 c1_i32_236
  let v309 : BitVec 32 := Scalar.addi c0_i32_237 v308
  v309.toNat
def k0_off7 (d0 : Dev nD) (c0_i32_49 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let v327 : Index := Scalar.indexCast v64
  let c0_255 : Index := 0#32
  ![v327.toNat, 0]
def k0_off8 (d0 : Dev nD) (c1_i32_258 : BitVec 32) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let v337 : BitVec 32 := Scalar.addi v5 c1_i32_258
  let c3_i32_259 : BitVec 32 := 3#32
  let v338 : BitVec 32 := Scalar.andi v337 c3_i32_259
  let c32_i32_263 : BitVec 32 := 32#32
  let v345 : BitVec 32 := Scalar.muli v338 c32_i32_263
  let v346 : BitVec 32 := Scalar.addi v64 v345
  let c0_i32_269 : BitVec 32 := 0#32
  ![v346.toNat, 0]
def k0_dev24 (d0 : Dev nD) : Nat :=
  let c0_i32_266 : BitVec 32 := 0#32
  let c8_i32_260 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v339 : BitVec 32 := Scalar.muli c8_i32_260 v3
  let c2_i32_261 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_258 : BitVec 32 := 1#32
  let v337 : BitVec 32 := Scalar.addi v5 c1_i32_258
  let c3_i32_259 : BitVec 32 := 3#32
  let v338 : BitVec 32 := Scalar.andi v337 c3_i32_259
  let v340 : BitVec 32 := Scalar.muli c2_i32_261 v338
  let v341 : BitVec 32 := Scalar.addi v339 v340
  let v6 : BitVec 32 := Scalar.xori v4 v5
  let c1_i32_1 : BitVec 32 := 1#32
  let v7 : BitVec 32 := Scalar.andi v6 c1_i32_1
  let c1_i32_262 : BitVec 32 := 1#32
  let v342 : BitVec 32 := Scalar.andi v338 c1_i32_262
  let v343 : BitVec 32 := Scalar.xori v7 v342
  let v344 : BitVec 32 := Scalar.addi v341 v343
  let c1_i32_265 : BitVec 32 := 1#32
  let v347 : BitVec 32 := Scalar.muli v344 c1_i32_265
  let v348 : BitVec 32 := Scalar.addi c0_i32_266 v347
  v348.toNat
def k0_dev25 (d0 : Dev nD) : Nat :=
  let c0_i32_278 : BitVec 32 := 0#32
  let c8_i32_272 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v357 : BitVec 32 := Scalar.muli c8_i32_272 v3
  let c2_i32_273 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_270 : BitVec 32 := 2#32
  let v355 : BitVec 32 := Scalar.addi v5 c2_i32_270
  let c3_i32_271 : BitVec 32 := 3#32
  let v356 : BitVec 32 := Scalar.andi v355 c3_i32_271
  let v358 : BitVec 32 := Scalar.muli c2_i32_273 v356
  let v359 : BitVec 32 := Scalar.addi v357 v358
  let v6 : BitVec 32 := Scalar.xori v4 v5
  let c1_i32_1 : BitVec 32 := 1#32
  let v7 : BitVec 32 := Scalar.andi v6 c1_i32_1
  let c1_i32_274 : BitVec 32 := 1#32
  let v360 : BitVec 32 := Scalar.andi v356 c1_i32_274
  let v361 : BitVec 32 := Scalar.xori v7 v360
  let v362 : BitVec 32 := Scalar.addi v359 v361
  let c1_i32_277 : BitVec 32 := 1#32
  let v365 : BitVec 32 := Scalar.muli v362 c1_i32_277
  let v366 : BitVec 32 := Scalar.addi c0_i32_278 v365
  v366.toNat
def k0_dev26 (d0 : Dev nD) : Nat :=
  let c0_i32_289 : BitVec 32 := 0#32
  let c8_i32_283 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v375 : BitVec 32 := Scalar.muli c8_i32_283 v3
  let c2_i32_284 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_281 : BitVec 32 := 3#32
  let v373 : BitVec 32 := Scalar.addi v5 c3_i32_281
  let c3_i32_282 : BitVec 32 := 3#32
  let v374 : BitVec 32 := Scalar.andi v373 c3_i32_282
  let v376 : BitVec 32 := Scalar.muli c2_i32_284 v374
  let v377 : BitVec 32 := Scalar.addi v375 v376
  let v6 : BitVec 32 := Scalar.xori v4 v5
  let c1_i32_1 : BitVec 32 := 1#32
  let v7 : BitVec 32 := Scalar.andi v6 c1_i32_1
  let c1_i32_285 : BitVec 32 := 1#32
  let v378 : BitVec 32 := Scalar.andi v374 c1_i32_285
  let v379 : BitVec 32 := Scalar.xori v7 v378
  let v380 : BitVec 32 := Scalar.addi v377 v379
  let c1_i32_288 : BitVec 32 := 1#32
  let v383 : BitVec 32 := Scalar.muli v380 c1_i32_288
  let v384 : BitVec 32 := Scalar.addi c0_i32_289 v383
  v384.toNat
def k0_off9 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let v426 : Index := Scalar.indexCast v75
  let c0_334 : Index := 0#32
  ![v426.toNat, 0]
def k0_off10 (d0 : Dev nD) (c1_i32_337 : BitVec 32) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let v436 : BitVec 32 := Scalar.addi v3 c1_i32_337
  let c3_i32_338 : BitVec 32 := 3#32
  let v437 : BitVec 32 := Scalar.andi v436 c3_i32_338
  let c16_i32_340 : BitVec 32 := 16#32
  let v440 : BitVec 32 := Scalar.muli v437 c16_i32_340
  let v441 : BitVec 32 := Scalar.addi v75 v440
  let c0_i32_345 : BitVec 32 := 0#32
  ![v441.toNat, 0]
def k0_dev27 (d0 : Dev nD) : Nat :=
  let c0_i32_343 : BitVec 32 := 0#32
  let c8_i32_339 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_337 : BitVec 32 := 1#32
  let v436 : BitVec 32 := Scalar.addi v3 c1_i32_337
  let c3_i32_338 : BitVec 32 := 3#32
  let v437 : BitVec 32 := Scalar.andi v436 c3_i32_338
  let v438 : BitVec 32 := Scalar.muli c8_i32_339 v437
  let c7_i32 : BitVec 32 := 7#32
  let v4 : BitVec 32 := Scalar.andi v2 c7_i32
  let v439 : BitVec 32 := Scalar.addi v438 v4
  let c1_i32_342 : BitVec 32 := 1#32
  let v442 : BitVec 32 := Scalar.muli v439 c1_i32_342
  let v443 : BitVec 32 := Scalar.addi c0_i32_343 v442
  v443.toNat
def k0_dev28 (d0 : Dev nD) : Nat :=
  let c0_i32_352 : BitVec 32 := 0#32
  let c8_i32_348 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_346 : BitVec 32 := 2#32
  let v450 : BitVec 32 := Scalar.addi v3 c2_i32_346
  let c3_i32_347 : BitVec 32 := 3#32
  let v451 : BitVec 32 := Scalar.andi v450 c3_i32_347
  let v452 : BitVec 32 := Scalar.muli c8_i32_348 v451
  let c7_i32 : BitVec 32 := 7#32
  let v4 : BitVec 32 := Scalar.andi v2 c7_i32
  let v453 : BitVec 32 := Scalar.addi v452 v4
  let c1_i32_351 : BitVec 32 := 1#32
  let v456 : BitVec 32 := Scalar.muli v453 c1_i32_351
  let v457 : BitVec 32 := Scalar.addi c0_i32_352 v456
  v457.toNat
def k0_dev29 (d0 : Dev nD) : Nat :=
  let c0_i32_361 : BitVec 32 := 0#32
  let c8_i32_357 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_355 : BitVec 32 := 3#32
  let v464 : BitVec 32 := Scalar.addi v3 c3_i32_355
  let c3_i32_356 : BitVec 32 := 3#32
  let v465 : BitVec 32 := Scalar.andi v464 c3_i32_356
  let v466 : BitVec 32 := Scalar.muli c8_i32_357 v465
  let c7_i32 : BitVec 32 := 7#32
  let v4 : BitVec 32 := Scalar.andi v2 c7_i32
  let v467 : BitVec 32 := Scalar.addi v466 v4
  let c1_i32_360 : BitVec 32 := 1#32
  let v470 : BitVec 32 := Scalar.muli v467 c1_i32_360
  let v471 : BitVec 32 := Scalar.addi c0_i32_361 v470
  v471.toNat
def k0_off11 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let v513 : Index := Scalar.indexCast v131
  let c0_406 : Index := 0#32
  ![v513.toNat, 0]
def k0_off12 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c1_i32_408 : BitVec 32 := 1#32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let v521 : BitVec 32 := Scalar.subi c1_i32_408 v7
  let c32_i32_409 : BitVec 32 := 32#32
  let v522 : BitVec 32 := Scalar.muli v521 c32_i32_409
  let v523 : BitVec 32 := Scalar.addi v131 v522
  let c0_i32_416 : BitVec 32 := 0#32
  ![v523.toNat, 0]
def k0_dev30 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_411 : BitVec 32 := 1#32
  let v526 : BitVec 32 := Scalar.xori v2 c1_i32_411
  let c1_i32_413 : BitVec 32 := 1#32
  let v527 : BitVec 32 := Scalar.muli v526 c1_i32_413
  let v528 : BitVec 32 := Scalar.addi c0_i32_414 v527
  v528.toNat
def k0_off13 (d0 : Dev nD) (c1_i32_434 : BitVec 32) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let v556 : BitVec 32 := Scalar.addi v3 c1_i32_434
  let c3_i32_435 : BitVec 32 := 3#32
  let v557 : BitVec 32 := Scalar.andi v556 c3_i32_435
  let c32_i32_437 : BitVec 32 := 32#32
  let v560 : BitVec 32 := Scalar.muli v557 c32_i32_437
  let v561 : BitVec 32 := Scalar.addi v178 v560
  let c0_i32_442 : BitVec 32 := 0#32
  ![v561.toNat, 0]
def k0_dev31 (d0 : Dev nD) : Nat :=
  let c0_i32_440 : BitVec 32 := 0#32
  let c8_i32_436 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_434 : BitVec 32 := 1#32
  let v556 : BitVec 32 := Scalar.addi v3 c1_i32_434
  let c3_i32_435 : BitVec 32 := 3#32
  let v557 : BitVec 32 := Scalar.andi v556 c3_i32_435
  let v558 : BitVec 32 := Scalar.muli c8_i32_436 v557
  let c7_i32 : BitVec 32 := 7#32
  let v4 : BitVec 32 := Scalar.andi v2 c7_i32
  let v559 : BitVec 32 := Scalar.addi v558 v4
  let c1_i32_439 : BitVec 32 := 1#32
  let v562 : BitVec 32 := Scalar.muli v559 c1_i32_439
  let v563 : BitVec 32 := Scalar.addi c0_i32_440 v562
  v563.toNat
def k0_dev32 (d0 : Dev nD) : Nat :=
  let c0_i32_449 : BitVec 32 := 0#32
  let c8_i32_445 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_443 : BitVec 32 := 2#32
  let v570 : BitVec 32 := Scalar.addi v3 c2_i32_443
  let c3_i32_444 : BitVec 32 := 3#32
  let v571 : BitVec 32 := Scalar.andi v570 c3_i32_444
  let v572 : BitVec 32 := Scalar.muli c8_i32_445 v571
  let c7_i32 : BitVec 32 := 7#32
  let v4 : BitVec 32 := Scalar.andi v2 c7_i32
  let v573 : BitVec 32 := Scalar.addi v572 v4
  let c1_i32_448 : BitVec 32 := 1#32
  let v576 : BitVec 32 := Scalar.muli v573 c1_i32_448
  let v577 : BitVec 32 := Scalar.addi c0_i32_449 v576
  v577.toNat
def k0_dev33 (d0 : Dev nD) : Nat :=
  let c0_i32_458 : BitVec 32 := 0#32
  let c8_i32_454 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_452 : BitVec 32 := 3#32
  let v584 : BitVec 32 := Scalar.addi v3 c3_i32_452
  let c3_i32_453 : BitVec 32 := 3#32
  let v585 : BitVec 32 := Scalar.andi v584 c3_i32_453
  let v586 : BitVec 32 := Scalar.muli c8_i32_454 v585
  let c7_i32 : BitVec 32 := 7#32
  let v4 : BitVec 32 := Scalar.andi v2 c7_i32
  let v587 : BitVec 32 := Scalar.addi v586 v4
  let c1_i32_457 : BitVec 32 := 1#32
  let v590 : BitVec 32 := Scalar.muli v587 c1_i32_457
  let v591 : BitVec 32 := Scalar.addi c0_i32_458 v590
  v591.toNat
def k0_off14 (d0 : Dev nD) (c0_i32_144 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let v609 : Index := Scalar.indexCast v192
  let c256_475 : Index := 256#32
  ![v609.toNat, 256]
def k0_off15 (d0 : Dev nD) (c1_i32_478 : BitVec 32) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let v619 : BitVec 32 := Scalar.addi v5 c1_i32_478
  let c3_i32_479 : BitVec 32 := 3#32
  let v620 : BitVec 32 := Scalar.andi v619 c3_i32_479
  let c32_i32_483 : BitVec 32 := 32#32
  let v627 : BitVec 32 := Scalar.muli v620 c32_i32_483
  let v628 : BitVec 32 := Scalar.addi v192 v627
  let c256_i32_489 : BitVec 32 := 256#32
  ![v628.toNat, 256]
def k0_dev34 (d0 : Dev nD) : Nat :=
  let c0_i32_486 : BitVec 32 := 0#32
  let c8_i32_480 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v621 : BitVec 32 := Scalar.muli c8_i32_480 v3
  let c2_i32_481 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_478 : BitVec 32 := 1#32
  let v619 : BitVec 32 := Scalar.addi v5 c1_i32_478
  let c3_i32_479 : BitVec 32 := 3#32
  let v620 : BitVec 32 := Scalar.andi v619 c3_i32_479
  let v622 : BitVec 32 := Scalar.muli c2_i32_481 v620
  let v623 : BitVec 32 := Scalar.addi v621 v622
  let v6 : BitVec 32 := Scalar.xori v4 v5
  let c1_i32_1 : BitVec 32 := 1#32
  let v7 : BitVec 32 := Scalar.andi v6 c1_i32_1
  let c1_i32_482 : BitVec 32 := 1#32
  let v624 : BitVec 32 := Scalar.andi v620 c1_i32_482
  let v625 : BitVec 32 := Scalar.xori v7 v624
  let v626 : BitVec 32 := Scalar.addi v623 v625
  let c1_i32_485 : BitVec 32 := 1#32
  let v629 : BitVec 32 := Scalar.muli v626 c1_i32_485
  let v630 : BitVec 32 := Scalar.addi c0_i32_486 v629
  v630.toNat
def k0_dev35 (d0 : Dev nD) : Nat :=
  let c0_i32_498 : BitVec 32 := 0#32
  let c8_i32_492 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v639 : BitVec 32 := Scalar.muli c8_i32_492 v3
  let c2_i32_493 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_490 : BitVec 32 := 2#32
  let v637 : BitVec 32 := Scalar.addi v5 c2_i32_490
  let c3_i32_491 : BitVec 32 := 3#32
  let v638 : BitVec 32 := Scalar.andi v637 c3_i32_491
  let v640 : BitVec 32 := Scalar.muli c2_i32_493 v638
  let v641 : BitVec 32 := Scalar.addi v639 v640
  let v6 : BitVec 32 := Scalar.xori v4 v5
  let c1_i32_1 : BitVec 32 := 1#32
  let v7 : BitVec 32 := Scalar.andi v6 c1_i32_1
  let c1_i32_494 : BitVec 32 := 1#32
  let v642 : BitVec 32 := Scalar.andi v638 c1_i32_494
  let v643 : BitVec 32 := Scalar.xori v7 v642
  let v644 : BitVec 32 := Scalar.addi v641 v643
  let c1_i32_497 : BitVec 32 := 1#32
  let v647 : BitVec 32 := Scalar.muli v644 c1_i32_497
  let v648 : BitVec 32 := Scalar.addi c0_i32_498 v647
  v648.toNat
def k0_dev36 (d0 : Dev nD) : Nat :=
  let c0_i32_510 : BitVec 32 := 0#32
  let c8_i32_504 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v657 : BitVec 32 := Scalar.muli c8_i32_504 v3
  let c2_i32_505 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_502 : BitVec 32 := 3#32
  let v655 : BitVec 32 := Scalar.addi v5 c3_i32_502
  let c3_i32_503 : BitVec 32 := 3#32
  let v656 : BitVec 32 := Scalar.andi v655 c3_i32_503
  let v658 : BitVec 32 := Scalar.muli c2_i32_505 v656
  let v659 : BitVec 32 := Scalar.addi v657 v658
  let v6 : BitVec 32 := Scalar.xori v4 v5
  let c1_i32_1 : BitVec 32 := 1#32
  let v7 : BitVec 32 := Scalar.andi v6 c1_i32_1
  let c1_i32_506 : BitVec 32 := 1#32
  let v660 : BitVec 32 := Scalar.andi v656 c1_i32_506
  let v661 : BitVec 32 := Scalar.xori v7 v660
  let v662 : BitVec 32 := Scalar.addi v659 v661
  let c1_i32_509 : BitVec 32 := 1#32
  let v665 : BitVec 32 := Scalar.muli v662 c1_i32_509
  let v666 : BitVec 32 := Scalar.addi c0_i32_510 v665
  v666.toNat
def k0_off16 (d0 : Dev nD) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let v708 : Index := Scalar.indexCast v203
  let c256_559 : Index := 256#32
  ![v708.toNat, 256]
def k0_off17 (d0 : Dev nD) (c1_i32_562 : BitVec 32) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let c3_i32 : BitVec 32 := 3#32
  let v3 : BitVec 32 := Scalar.shrsi v2 c3_i32
  let v718 : BitVec 32 := Scalar.addi v3 c1_i32_562
  let c3_i32_563 : BitVec 32 := 3#32
  let v719 : BitVec 32 := Scalar.andi v718 c3_i32_563
  let c16_i32_565 : BitVec 32 := 16#32
  let v722 : BitVec 32 := Scalar.muli v719 c16_i32_565
  let v723 : BitVec 32 := Scalar.addi v203 v722
  let c256_i32_571 : BitVec 32 := 256#32
  ![v723.toNat, 256]
def k0_dev37 (d0 : Dev nD) : Nat :=
  let c0_i32_568 : BitVec 32 := 0#32
  let c8_i32_564 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_562 : BitVec 32 := 1#32
  let v718 : BitVec 32 := Scalar.addi v3 c1_i32_562
  let c3_i32_563 : BitVec 32 := 3#32
  let v719 : BitVec 32 := Scalar.andi v718 c3_i32_563
  let v720 : BitVec 32 := Scalar.muli c8_i32_564 v719
  let c7_i32 : BitVec 32 := 7#32
  let v4 : BitVec 32 := Scalar.andi v2 c7_i32
  let v721 : BitVec 32 := Scalar.addi v720 v4
  let c1_i32_567 : BitVec 32 := 1#32
  let v724 : BitVec 32 := Scalar.muli v721 c1_i32_567
  let v725 : BitVec 32 := Scalar.addi c0_i32_568 v724
  v725.toNat
def k0_dev38 (d0 : Dev nD) : Nat :=
  let c0_i32_578 : BitVec 32 := 0#32
  let c8_i32_574 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_572 : BitVec 32 := 2#32
  let v732 : BitVec 32 := Scalar.addi v3 c2_i32_572
  let c3_i32_573 : BitVec 32 := 3#32
  let v733 : BitVec 32 := Scalar.andi v732 c3_i32_573
  let v734 : BitVec 32 := Scalar.muli c8_i32_574 v733
  let c7_i32 : BitVec 32 := 7#32
  let v4 : BitVec 32 := Scalar.andi v2 c7_i32
  let v735 : BitVec 32 := Scalar.addi v734 v4
  let c1_i32_577 : BitVec 32 := 1#32
  let v738 : BitVec 32 := Scalar.muli v735 c1_i32_577
  let v739 : BitVec 32 := Scalar.addi c0_i32_578 v738
  v739.toNat
def k0_dev39 (d0 : Dev nD) : Nat :=
  let c0_i32_588 : BitVec 32 := 0#32
  let c8_i32_584 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_582 : BitVec 32 := 3#32
  let v746 : BitVec 32 := Scalar.addi v3 c3_i32_582
  let c3_i32_583 : BitVec 32 := 3#32
  let v747 : BitVec 32 := Scalar.andi v746 c3_i32_583
  let v748 : BitVec 32 := Scalar.muli c8_i32_584 v747
  let c7_i32 : BitVec 32 := 7#32
  let v4 : BitVec 32 := Scalar.andi v2 c7_i32
  let v749 : BitVec 32 := Scalar.addi v748 v4
  let c1_i32_587 : BitVec 32 := 1#32
  let v752 : BitVec 32 := Scalar.muli v749 c1_i32_587
  let v753 : BitVec 32 := Scalar.addi c0_i32_588 v752
  v753.toNat
def k0_off18 (d0 : Dev nD) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let v795 : Index := Scalar.indexCast v259
  let c256_637 : Index := 256#32
  ![v795.toNat, 256]
def k0_off19 (d0 : Dev nD) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let c1_i32_639 : BitVec 32 := 1#32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let v803 : BitVec 32 := Scalar.subi c1_i32_639 v7
  let c32_i32_640 : BitVec 32 := 32#32
  let v804 : BitVec 32 := Scalar.muli v803 c32_i32_640
  let v805 : BitVec 32 := Scalar.addi v259 v804
  let c256_i32_649 : BitVec 32 := 256#32
  ![v805.toNat, 256]
def k0_dev40 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_642 : BitVec 32 := 1#32
  let v808 : BitVec 32 := Scalar.xori v2 c1_i32_642
  let c1_i32_645 : BitVec 32 := 1#32
  let v809 : BitVec 32 := Scalar.muli v808 c1_i32_645
  let v810 : BitVec 32 := Scalar.addi c0_i32_646 v809
  v810.toNat
def k0_off20 (d0 : Dev nD) (c1_i32_668 : BitVec 32) : Fin 2 → Nat :=
  let c768_i32_233 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_232 : BitVec 32 := 128#32
  let v305 : BitVec 32 := Scalar.muli v7 c128_i32_232
  let v306 : BitVec 32 := Scalar.addi c768_i32_233 v305
  let c3_i32 : BitVec 32 := 3#32
  let v3 : BitVec 32 := Scalar.shrsi v2 c3_i32
  let v838 : BitVec 32 := Scalar.addi v3 c1_i32_668
  let c3_i32_669 : BitVec 32 := 3#32
  let v839 : BitVec 32 := Scalar.andi v838 c3_i32_669
  let c32_i32_671 : BitVec 32 := 32#32
  let v842 : BitVec 32 := Scalar.muli v839 c32_i32_671
  let v843 : BitVec 32 := Scalar.addi v306 v842
  let c256_i32_677 : BitVec 32 := 256#32
  ![v843.toNat, 256]
def k0_dev41 (d0 : Dev nD) : Nat :=
  let c0_i32_674 : BitVec 32 := 0#32
  let c8_i32_670 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_668 : BitVec 32 := 1#32
  let v838 : BitVec 32 := Scalar.addi v3 c1_i32_668
  let c3_i32_669 : BitVec 32 := 3#32
  let v839 : BitVec 32 := Scalar.andi v838 c3_i32_669
  let v840 : BitVec 32 := Scalar.muli c8_i32_670 v839
  let c7_i32 : BitVec 32 := 7#32
  let v4 : BitVec 32 := Scalar.andi v2 c7_i32
  let v841 : BitVec 32 := Scalar.addi v840 v4
  let c1_i32_673 : BitVec 32 := 1#32
  let v844 : BitVec 32 := Scalar.muli v841 c1_i32_673
  let v845 : BitVec 32 := Scalar.addi c0_i32_674 v844
  v845.toNat
def k0_dev42 (d0 : Dev nD) : Nat :=
  let c0_i32_684 : BitVec 32 := 0#32
  let c8_i32_680 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_678 : BitVec 32 := 2#32
  let v852 : BitVec 32 := Scalar.addi v3 c2_i32_678
  let c3_i32_679 : BitVec 32 := 3#32
  let v853 : BitVec 32 := Scalar.andi v852 c3_i32_679
  let v854 : BitVec 32 := Scalar.muli c8_i32_680 v853
  let c7_i32 : BitVec 32 := 7#32
  let v4 : BitVec 32 := Scalar.andi v2 c7_i32
  let v855 : BitVec 32 := Scalar.addi v854 v4
  let c1_i32_683 : BitVec 32 := 1#32
  let v858 : BitVec 32 := Scalar.muli v855 c1_i32_683
  let v859 : BitVec 32 := Scalar.addi c0_i32_684 v858
  v859.toNat
def k0_dev43 (d0 : Dev nD) : Nat :=
  let c0_i32_694 : BitVec 32 := 0#32
  let c8_i32_690 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_688 : BitVec 32 := 3#32
  let v866 : BitVec 32 := Scalar.addi v3 c3_i32_688
  let c3_i32_689 : BitVec 32 := 3#32
  let v867 : BitVec 32 := Scalar.andi v866 c3_i32_689
  let v868 : BitVec 32 := Scalar.muli c8_i32_690 v867
  let c7_i32 : BitVec 32 := 7#32
  let v4 : BitVec 32 := Scalar.andi v2 c7_i32
  let v869 : BitVec 32 := Scalar.addi v868 v4
  let c1_i32_693 : BitVec 32 := 1#32
  let v872 : BitVec 32 := Scalar.muli v869 c1_i32_693
  let v873 : BitVec 32 := Scalar.addi c0_i32_694 v872
  v873.toNat
def k0_off21 (d0 : Dev nD) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let c32_i32_257 : BitVec 32 := 32#32
  let v335 : BitVec 32 := Scalar.muli v5 c32_i32_257
  let v336 : BitVec 32 := Scalar.addi v64 v335
  let v915 : Index := Scalar.indexCast v336
  let c0_740 : Index := 0#32
  ![v915.toNat, 0]
def k0_off22 (d0 : Dev nD) (c1_i32_743 : BitVec 32) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let c32_i32_257 : BitVec 32 := 32#32
  let v335 : BitVec 32 := Scalar.muli v5 c32_i32_257
  let v336 : BitVec 32 := Scalar.addi v64 v335
  let c3_i32 : BitVec 32 := 3#32
  let v3 : BitVec 32 := Scalar.shrsi v2 c3_i32
  let v924 : BitVec 32 := Scalar.addi v3 c1_i32_743
  let c3_i32_744 : BitVec 32 := 3#32
  let v925 : BitVec 32 := Scalar.andi v924 c3_i32_744
  let c8_i32_746 : BitVec 32 := 8#32
  let v928 : BitVec 32 := Scalar.muli v925 c8_i32_746
  let v929 : BitVec 32 := Scalar.addi v336 v928
  let c0_i32_751 : BitVec 32 := 0#32
  ![v929.toNat, 0]
def k0_dev44 (d0 : Dev nD) : Nat :=
  let c0_i32_749 : BitVec 32 := 0#32
  let c8_i32_745 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_743 : BitVec 32 := 1#32
  let v924 : BitVec 32 := Scalar.addi v3 c1_i32_743
  let c3_i32_744 : BitVec 32 := 3#32
  let v925 : BitVec 32 := Scalar.andi v924 c3_i32_744
  let v926 : BitVec 32 := Scalar.muli c8_i32_745 v925
  let c7_i32 : BitVec 32 := 7#32
  let v4 : BitVec 32 := Scalar.andi v2 c7_i32
  let v927 : BitVec 32 := Scalar.addi v926 v4
  let c1_i32_748 : BitVec 32 := 1#32
  let v930 : BitVec 32 := Scalar.muli v927 c1_i32_748
  let v931 : BitVec 32 := Scalar.addi c0_i32_749 v930
  v931.toNat
def k0_dev45 (d0 : Dev nD) : Nat :=
  let c0_i32_758 : BitVec 32 := 0#32
  let c8_i32_754 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_752 : BitVec 32 := 2#32
  let v938 : BitVec 32 := Scalar.addi v3 c2_i32_752
  let c3_i32_753 : BitVec 32 := 3#32
  let v939 : BitVec 32 := Scalar.andi v938 c3_i32_753
  let v940 : BitVec 32 := Scalar.muli c8_i32_754 v939
  let c7_i32 : BitVec 32 := 7#32
  let v4 : BitVec 32 := Scalar.andi v2 c7_i32
  let v941 : BitVec 32 := Scalar.addi v940 v4
  let c1_i32_757 : BitVec 32 := 1#32
  let v944 : BitVec 32 := Scalar.muli v941 c1_i32_757
  let v945 : BitVec 32 := Scalar.addi c0_i32_758 v944
  v945.toNat
def k0_dev46 (d0 : Dev nD) : Nat :=
  let c0_i32_767 : BitVec 32 := 0#32
  let c8_i32_763 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_761 : BitVec 32 := 3#32
  let v952 : BitVec 32 := Scalar.addi v3 c3_i32_761
  let c3_i32_762 : BitVec 32 := 3#32
  let v953 : BitVec 32 := Scalar.andi v952 c3_i32_762
  let v954 : BitVec 32 := Scalar.muli c8_i32_763 v953
  let c7_i32 : BitVec 32 := 7#32
  let v4 : BitVec 32 := Scalar.andi v2 c7_i32
  let v955 : BitVec 32 := Scalar.addi v954 v4
  let c1_i32_766 : BitVec 32 := 1#32
  let v958 : BitVec 32 := Scalar.muli v955 c1_i32_766
  let v959 : BitVec 32 := Scalar.addi c0_i32_767 v958
  v959.toNat
def k0_off23 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let c16_i32_336 : BitVec 32 := 16#32
  let v434 : BitVec 32 := Scalar.muli v3 c16_i32_336
  let v435 : BitVec 32 := Scalar.addi v75 v434
  let v1001 : Index := Scalar.indexCast v435
  let c0_812 : Index := 0#32
  ![v1001.toNat, 0]
def k0_off24 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let c16_i32_336 : BitVec 32 := 16#32
  let v434 : BitVec 32 := Scalar.muli v3 c16_i32_336
  let v435 : BitVec 32 := Scalar.addi v75 v434
  let c1_i32_814 : BitVec 32 := 1#32
  let v6 : BitVec 32 := Scalar.xori v4 v5
  let c1_i32_1 : BitVec 32 := 1#32
  let v7 : BitVec 32 := Scalar.andi v6 c1_i32_1
  let v1008 : BitVec 32 := Scalar.subi c1_i32_814 v7
  let c8_i32_815 : BitVec 32 := 8#32
  let v1009 : BitVec 32 := Scalar.muli v1008 c8_i32_815
  let v1010 : BitVec 32 := Scalar.addi v435 v1009
  let c0_i32_822 : BitVec 32 := 0#32
  ![v1010.toNat, 0]
def k0_dev47 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_817 : BitVec 32 := 1#32
  let v1013 : BitVec 32 := Scalar.xori v2 c1_i32_817
  let c1_i32_819 : BitVec 32 := 1#32
  let v1014 : BitVec 32 := Scalar.muli v1013 c1_i32_819
  let v1015 : BitVec 32 := Scalar.addi c0_i32_820 v1014
  v1015.toNat
def k0_off25 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_410 : BitVec 32 := 32#32
  let v524 : BitVec 32 := Scalar.muli v7 c32_i32_410
  let v525 : BitVec 32 := Scalar.addi v131 v524
  let v1033 : Index := Scalar.indexCast v525
  let c0_837 : Index := 0#32
  ![v1033.toNat, 0]
def k0_off26 (d0 : Dev nD) (c1_i32_840 : BitVec 32) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_410 : BitVec 32 := 32#32
  let v524 : BitVec 32 := Scalar.muli v7 c32_i32_410
  let v525 : BitVec 32 := Scalar.addi v131 v524
  let v1042 : BitVec 32 := Scalar.addi v5 c1_i32_840
  let c3_i32_841 : BitVec 32 := 3#32
  let v1043 : BitVec 32 := Scalar.andi v1042 c3_i32_841
  let c8_i32_845 : BitVec 32 := 8#32
  let v1050 : BitVec 32 := Scalar.muli v1043 c8_i32_845
  let v1051 : BitVec 32 := Scalar.addi v525 v1050
  let c0_i32_850 : BitVec 32 := 0#32
  ![v1051.toNat, 0]
def k0_dev48 (d0 : Dev nD) : Nat :=
  let c0_i32_848 : BitVec 32 := 0#32
  let c8_i32_842 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1044 : BitVec 32 := Scalar.muli c8_i32_842 v3
  let c2_i32_843 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_840 : BitVec 32 := 1#32
  let v1042 : BitVec 32 := Scalar.addi v5 c1_i32_840
  let c3_i32_841 : BitVec 32 := 3#32
  let v1043 : BitVec 32 := Scalar.andi v1042 c3_i32_841
  let v1045 : BitVec 32 := Scalar.muli c2_i32_843 v1043
  let v1046 : BitVec 32 := Scalar.addi v1044 v1045
  let v6 : BitVec 32 := Scalar.xori v4 v5
  let c1_i32_1 : BitVec 32 := 1#32
  let v7 : BitVec 32 := Scalar.andi v6 c1_i32_1
  let c1_i32_844 : BitVec 32 := 1#32
  let v1047 : BitVec 32 := Scalar.andi v1043 c1_i32_844
  let v1048 : BitVec 32 := Scalar.xori v7 v1047
  let v1049 : BitVec 32 := Scalar.addi v1046 v1048
  let c1_i32_847 : BitVec 32 := 1#32
  let v1052 : BitVec 32 := Scalar.muli v1049 c1_i32_847
  let v1053 : BitVec 32 := Scalar.addi c0_i32_848 v1052
  v1053.toNat
def k0_dev49 (d0 : Dev nD) : Nat :=
  let c0_i32_859 : BitVec 32 := 0#32
  let c8_i32_853 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1062 : BitVec 32 := Scalar.muli c8_i32_853 v3
  let c2_i32_854 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_851 : BitVec 32 := 2#32
  let v1060 : BitVec 32 := Scalar.addi v5 c2_i32_851
  let c3_i32_852 : BitVec 32 := 3#32
  let v1061 : BitVec 32 := Scalar.andi v1060 c3_i32_852
  let v1063 : BitVec 32 := Scalar.muli c2_i32_854 v1061
  let v1064 : BitVec 32 := Scalar.addi v1062 v1063
  let v6 : BitVec 32 := Scalar.xori v4 v5
  let c1_i32_1 : BitVec 32 := 1#32
  let v7 : BitVec 32 := Scalar.andi v6 c1_i32_1
  let c1_i32_855 : BitVec 32 := 1#32
  let v1065 : BitVec 32 := Scalar.andi v1061 c1_i32_855
  let v1066 : BitVec 32 := Scalar.xori v7 v1065
  let v1067 : BitVec 32 := Scalar.addi v1064 v1066
  let c1_i32_858 : BitVec 32 := 1#32
  let v1070 : BitVec 32 := Scalar.muli v1067 c1_i32_858
  let v1071 : BitVec 32 := Scalar.addi c0_i32_859 v1070
  v1071.toNat
def k0_dev50 (d0 : Dev nD) : Nat :=
  let c0_i32_870 : BitVec 32 := 0#32
  let c8_i32_864 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1080 : BitVec 32 := Scalar.muli c8_i32_864 v3
  let c2_i32_865 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_862 : BitVec 32 := 3#32
  let v1078 : BitVec 32 := Scalar.addi v5 c3_i32_862
  let c3_i32_863 : BitVec 32 := 3#32
  let v1079 : BitVec 32 := Scalar.andi v1078 c3_i32_863
  let v1081 : BitVec 32 := Scalar.muli c2_i32_865 v1079
  let v1082 : BitVec 32 := Scalar.addi v1080 v1081
  let v6 : BitVec 32 := Scalar.xori v4 v5
  let c1_i32_1 : BitVec 32 := 1#32
  let v7 : BitVec 32 := Scalar.andi v6 c1_i32_1
  let c1_i32_866 : BitVec 32 := 1#32
  let v1083 : BitVec 32 := Scalar.andi v1079 c1_i32_866
  let v1084 : BitVec 32 := Scalar.xori v7 v1083
  let v1085 : BitVec 32 := Scalar.addi v1082 v1084
  let c1_i32_869 : BitVec 32 := 1#32
  let v1088 : BitVec 32 := Scalar.muli v1085 c1_i32_869
  let v1089 : BitVec 32 := Scalar.addi c0_i32_870 v1088
  v1089.toNat
def k0_off27 (d0 : Dev nD) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let c32_i32_433 : BitVec 32 := 32#32
  let v554 : BitVec 32 := Scalar.muli v3 c32_i32_433
  let v555 : BitVec 32 := Scalar.addi v178 v554
  let v1131 : Index := Scalar.indexCast v555
  let c0_915 : Index := 0#32
  ![v1131.toNat, 0]
def k0_off28 (d0 : Dev nD) (c1_i32_918 : BitVec 32) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let c32_i32_433 : BitVec 32 := 32#32
  let v554 : BitVec 32 := Scalar.muli v3 c32_i32_433
  let v555 : BitVec 32 := Scalar.addi v178 v554
  let v1140 : BitVec 32 := Scalar.addi v5 c1_i32_918
  let c3_i32_919 : BitVec 32 := 3#32
  let v1141 : BitVec 32 := Scalar.andi v1140 c3_i32_919
  let c8_i32_923 : BitVec 32 := 8#32
  let v1148 : BitVec 32 := Scalar.muli v1141 c8_i32_923
  let v1149 : BitVec 32 := Scalar.addi v555 v1148
  let c0_i32_928 : BitVec 32 := 0#32
  ![v1149.toNat, 0]
def k0_dev51 (d0 : Dev nD) : Nat :=
  let c0_i32_926 : BitVec 32 := 0#32
  let c8_i32_920 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1142 : BitVec 32 := Scalar.muli c8_i32_920 v3
  let c2_i32_921 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_918 : BitVec 32 := 1#32
  let v1140 : BitVec 32 := Scalar.addi v5 c1_i32_918
  let c3_i32_919 : BitVec 32 := 3#32
  let v1141 : BitVec 32 := Scalar.andi v1140 c3_i32_919
  let v1143 : BitVec 32 := Scalar.muli c2_i32_921 v1141
  let v1144 : BitVec 32 := Scalar.addi v1142 v1143
  let v6 : BitVec 32 := Scalar.xori v4 v5
  let c1_i32_1 : BitVec 32 := 1#32
  let v7 : BitVec 32 := Scalar.andi v6 c1_i32_1
  let c1_i32_922 : BitVec 32 := 1#32
  let v1145 : BitVec 32 := Scalar.andi v1141 c1_i32_922
  let v1146 : BitVec 32 := Scalar.xori v7 v1145
  let v1147 : BitVec 32 := Scalar.addi v1144 v1146
  let c1_i32_925 : BitVec 32 := 1#32
  let v1150 : BitVec 32 := Scalar.muli v1147 c1_i32_925
  let v1151 : BitVec 32 := Scalar.addi c0_i32_926 v1150
  v1151.toNat
def k0_dev52 (d0 : Dev nD) : Nat :=
  let c0_i32_937 : BitVec 32 := 0#32
  let c8_i32_931 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1160 : BitVec 32 := Scalar.muli c8_i32_931 v3
  let c2_i32_932 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_929 : BitVec 32 := 2#32
  let v1158 : BitVec 32 := Scalar.addi v5 c2_i32_929
  let c3_i32_930 : BitVec 32 := 3#32
  let v1159 : BitVec 32 := Scalar.andi v1158 c3_i32_930
  let v1161 : BitVec 32 := Scalar.muli c2_i32_932 v1159
  let v1162 : BitVec 32 := Scalar.addi v1160 v1161
  let v6 : BitVec 32 := Scalar.xori v4 v5
  let c1_i32_1 : BitVec 32 := 1#32
  let v7 : BitVec 32 := Scalar.andi v6 c1_i32_1
  let c1_i32_933 : BitVec 32 := 1#32
  let v1163 : BitVec 32 := Scalar.andi v1159 c1_i32_933
  let v1164 : BitVec 32 := Scalar.xori v7 v1163
  let v1165 : BitVec 32 := Scalar.addi v1162 v1164
  let c1_i32_936 : BitVec 32 := 1#32
  let v1168 : BitVec 32 := Scalar.muli v1165 c1_i32_936
  let v1169 : BitVec 32 := Scalar.addi c0_i32_937 v1168
  v1169.toNat
def k0_dev53 (d0 : Dev nD) : Nat :=
  let c0_i32_948 : BitVec 32 := 0#32
  let c8_i32_942 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1178 : BitVec 32 := Scalar.muli c8_i32_942 v3
  let c2_i32_943 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_940 : BitVec 32 := 3#32
  let v1176 : BitVec 32 := Scalar.addi v5 c3_i32_940
  let c3_i32_941 : BitVec 32 := 3#32
  let v1177 : BitVec 32 := Scalar.andi v1176 c3_i32_941
  let v1179 : BitVec 32 := Scalar.muli c2_i32_943 v1177
  let v1180 : BitVec 32 := Scalar.addi v1178 v1179
  let v6 : BitVec 32 := Scalar.xori v4 v5
  let c1_i32_1 : BitVec 32 := 1#32
  let v7 : BitVec 32 := Scalar.andi v6 c1_i32_1
  let c1_i32_944 : BitVec 32 := 1#32
  let v1181 : BitVec 32 := Scalar.andi v1177 c1_i32_944
  let v1182 : BitVec 32 := Scalar.xori v7 v1181
  let v1183 : BitVec 32 := Scalar.addi v1180 v1182
  let c1_i32_947 : BitVec 32 := 1#32
  let v1186 : BitVec 32 := Scalar.muli v1183 c1_i32_947
  let v1187 : BitVec 32 := Scalar.addi c0_i32_948 v1186
  v1187.toNat
def k0_off29 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let c32_i32_477 : BitVec 32 := 32#32
  let v617 : BitVec 32 := Scalar.muli v5 c32_i32_477
  let v618 : BitVec 32 := Scalar.addi v192 v617
  let v1229 : Index := Scalar.indexCast v618
  let c256_996 : Index := 256#32
  ![v1229.toNat, 256]
def k0_off30 (d0 : Dev nD) (c1_i32_999 : BitVec 32) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let c32_i32_477 : BitVec 32 := 32#32
  let v617 : BitVec 32 := Scalar.muli v5 c32_i32_477
  let v618 : BitVec 32 := Scalar.addi v192 v617
  let c3_i32 : BitVec 32 := 3#32
  let v3 : BitVec 32 := Scalar.shrsi v2 c3_i32
  let v1238 : BitVec 32 := Scalar.addi v3 c1_i32_999
  let c3_i32_1000 : BitVec 32 := 3#32
  let v1239 : BitVec 32 := Scalar.andi v1238 c3_i32_1000
  let c8_i32_1002 : BitVec 32 := 8#32
  let v1242 : BitVec 32 := Scalar.muli v1239 c8_i32_1002
  let v1243 : BitVec 32 := Scalar.addi v618 v1242
  let c256_i32_1008 : BitVec 32 := 256#32
  ![v1243.toNat, 256]
def k0_dev54 (d0 : Dev nD) : Nat :=
  let c0_i32_1005 : BitVec 32 := 0#32
  let c8_i32_1001 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_999 : BitVec 32 := 1#32
  let v1238 : BitVec 32 := Scalar.addi v3 c1_i32_999
  let c3_i32_1000 : BitVec 32 := 3#32
  let v1239 : BitVec 32 := Scalar.andi v1238 c3_i32_1000
  let v1240 : BitVec 32 := Scalar.muli c8_i32_1001 v1239
  let c7_i32 : BitVec 32 := 7#32
  let v4 : BitVec 32 := Scalar.andi v2 c7_i32
  let v1241 : BitVec 32 := Scalar.addi v1240 v4
  let c1_i32_1004 : BitVec 32 := 1#32
  let v1244 : BitVec 32 := Scalar.muli v1241 c1_i32_1004
  let v1245 : BitVec 32 := Scalar.addi c0_i32_1005 v1244
  v1245.toNat
def k0_dev55 (d0 : Dev nD) : Nat :=
  let c0_i32_1015 : BitVec 32 := 0#32
  let c8_i32_1011 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_1009 : BitVec 32 := 2#32
  let v1252 : BitVec 32 := Scalar.addi v3 c2_i32_1009
  let c3_i32_1010 : BitVec 32 := 3#32
  let v1253 : BitVec 32 := Scalar.andi v1252 c3_i32_1010
  let v1254 : BitVec 32 := Scalar.muli c8_i32_1011 v1253
  let c7_i32 : BitVec 32 := 7#32
  let v4 : BitVec 32 := Scalar.andi v2 c7_i32
  let v1255 : BitVec 32 := Scalar.addi v1254 v4
  let c1_i32_1014 : BitVec 32 := 1#32
  let v1258 : BitVec 32 := Scalar.muli v1255 c1_i32_1014
  let v1259 : BitVec 32 := Scalar.addi c0_i32_1015 v1258
  v1259.toNat
def k0_dev56 (d0 : Dev nD) : Nat :=
  let c0_i32_1025 : BitVec 32 := 0#32
  let c8_i32_1021 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_1019 : BitVec 32 := 3#32
  let v1266 : BitVec 32 := Scalar.addi v3 c3_i32_1019
  let c3_i32_1020 : BitVec 32 := 3#32
  let v1267 : BitVec 32 := Scalar.andi v1266 c3_i32_1020
  let v1268 : BitVec 32 := Scalar.muli c8_i32_1021 v1267
  let c7_i32 : BitVec 32 := 7#32
  let v4 : BitVec 32 := Scalar.andi v2 c7_i32
  let v1269 : BitVec 32 := Scalar.addi v1268 v4
  let c1_i32_1024 : BitVec 32 := 1#32
  let v1272 : BitVec 32 := Scalar.muli v1269 c1_i32_1024
  let v1273 : BitVec 32 := Scalar.addi c0_i32_1025 v1272
  v1273.toNat
def k0_off31 (d0 : Dev nD) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let c3_i32 : BitVec 32 := 3#32
  let v3 : BitVec 32 := Scalar.shrsi v2 c3_i32
  let c16_i32_561 : BitVec 32 := 16#32
  let v716 : BitVec 32 := Scalar.muli v3 c16_i32_561
  let v717 : BitVec 32 := Scalar.addi v203 v716
  let v1315 : Index := Scalar.indexCast v717
  let c256_1074 : Index := 256#32
  ![v1315.toNat, 256]
def k0_off32 (d0 : Dev nD) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let c3_i32 : BitVec 32 := 3#32
  let v3 : BitVec 32 := Scalar.shrsi v2 c3_i32
  let c16_i32_561 : BitVec 32 := 16#32
  let v716 : BitVec 32 := Scalar.muli v3 c16_i32_561
  let v717 : BitVec 32 := Scalar.addi v203 v716
  let c1_i32_1076 : BitVec 32 := 1#32
  let v6 : BitVec 32 := Scalar.xori v4 v5
  let c1_i32_1 : BitVec 32 := 1#32
  let v7 : BitVec 32 := Scalar.andi v6 c1_i32_1
  let v1322 : BitVec 32 := Scalar.subi c1_i32_1076 v7
  let c8_i32_1077 : BitVec 32 := 8#32
  let v1323 : BitVec 32 := Scalar.muli v1322 c8_i32_1077
  let v1324 : BitVec 32 := Scalar.addi v717 v1323
  let c256_i32_1085 : BitVec 32 := 256#32
  ![v1324.toNat, 256]
def k0_dev57 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1079 : BitVec 32 := 1#32
  let v1327 : BitVec 32 := Scalar.xori v2 c1_i32_1079
  let c1_i32_1081 : BitVec 32 := 1#32
  let v1328 : BitVec 32 := Scalar.muli v1327 c1_i32_1081
  let v1329 : BitVec 32 := Scalar.addi c0_i32_1082 v1328
  v1329.toNat
def k0_off33 (d0 : Dev nD) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_641 : BitVec 32 := 32#32
  let v806 : BitVec 32 := Scalar.muli v7 c32_i32_641
  let v807 : BitVec 32 := Scalar.addi v259 v806
  let v1347 : Index := Scalar.indexCast v807
  let c256_1101 : Index := 256#32
  ![v1347.toNat, 256]
def k0_off34 (d0 : Dev nD) (c1_i32_1104 : BitVec 32) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_641 : BitVec 32 := 32#32
  let v806 : BitVec 32 := Scalar.muli v7 c32_i32_641
  let v807 : BitVec 32 := Scalar.addi v259 v806
  let v1356 : BitVec 32 := Scalar.addi v5 c1_i32_1104
  let c3_i32_1105 : BitVec 32 := 3#32
  let v1357 : BitVec 32 := Scalar.andi v1356 c3_i32_1105
  let c8_i32_1109 : BitVec 32 := 8#32
  let v1364 : BitVec 32 := Scalar.muli v1357 c8_i32_1109
  let v1365 : BitVec 32 := Scalar.addi v807 v1364
  let c256_i32_1115 : BitVec 32 := 256#32
  ![v1365.toNat, 256]
def k0_dev58 (d0 : Dev nD) : Nat :=
  let c0_i32_1112 : BitVec 32 := 0#32
  let c8_i32_1106 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1358 : BitVec 32 := Scalar.muli c8_i32_1106 v3
  let c2_i32_1107 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1104 : BitVec 32 := 1#32
  let v1356 : BitVec 32 := Scalar.addi v5 c1_i32_1104
  let c3_i32_1105 : BitVec 32 := 3#32
  let v1357 : BitVec 32 := Scalar.andi v1356 c3_i32_1105
  let v1359 : BitVec 32 := Scalar.muli c2_i32_1107 v1357
  let v1360 : BitVec 32 := Scalar.addi v1358 v1359
  let v6 : BitVec 32 := Scalar.xori v4 v5
  let c1_i32_1 : BitVec 32 := 1#32
  let v7 : BitVec 32 := Scalar.andi v6 c1_i32_1
  let c1_i32_1108 : BitVec 32 := 1#32
  let v1361 : BitVec 32 := Scalar.andi v1357 c1_i32_1108
  let v1362 : BitVec 32 := Scalar.xori v7 v1361
  let v1363 : BitVec 32 := Scalar.addi v1360 v1362
  let c1_i32_1111 : BitVec 32 := 1#32
  let v1366 : BitVec 32 := Scalar.muli v1363 c1_i32_1111
  let v1367 : BitVec 32 := Scalar.addi c0_i32_1112 v1366
  v1367.toNat
def k0_dev59 (d0 : Dev nD) : Nat :=
  let c0_i32_1124 : BitVec 32 := 0#32
  let c8_i32_1118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1376 : BitVec 32 := Scalar.muli c8_i32_1118 v3
  let c2_i32_1119 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1116 : BitVec 32 := 2#32
  let v1374 : BitVec 32 := Scalar.addi v5 c2_i32_1116
  let c3_i32_1117 : BitVec 32 := 3#32
  let v1375 : BitVec 32 := Scalar.andi v1374 c3_i32_1117
  let v1377 : BitVec 32 := Scalar.muli c2_i32_1119 v1375
  let v1378 : BitVec 32 := Scalar.addi v1376 v1377
  let v6 : BitVec 32 := Scalar.xori v4 v5
  let c1_i32_1 : BitVec 32 := 1#32
  let v7 : BitVec 32 := Scalar.andi v6 c1_i32_1
  let c1_i32_1120 : BitVec 32 := 1#32
  let v1379 : BitVec 32 := Scalar.andi v1375 c1_i32_1120
  let v1380 : BitVec 32 := Scalar.xori v7 v1379
  let v1381 : BitVec 32 := Scalar.addi v1378 v1380
  let c1_i32_1123 : BitVec 32 := 1#32
  let v1384 : BitVec 32 := Scalar.muli v1381 c1_i32_1123
  let v1385 : BitVec 32 := Scalar.addi c0_i32_1124 v1384
  v1385.toNat
def k0_dev60 (d0 : Dev nD) : Nat :=
  let c0_i32_1136 : BitVec 32 := 0#32
  let c8_i32_1130 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1394 : BitVec 32 := Scalar.muli c8_i32_1130 v3
  let c2_i32_1131 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1128 : BitVec 32 := 3#32
  let v1392 : BitVec 32 := Scalar.addi v5 c3_i32_1128
  let c3_i32_1129 : BitVec 32 := 3#32
  let v1393 : BitVec 32 := Scalar.andi v1392 c3_i32_1129
  let v1395 : BitVec 32 := Scalar.muli c2_i32_1131 v1393
  let v1396 : BitVec 32 := Scalar.addi v1394 v1395
  let v6 : BitVec 32 := Scalar.xori v4 v5
  let c1_i32_1 : BitVec 32 := 1#32
  let v7 : BitVec 32 := Scalar.andi v6 c1_i32_1
  let c1_i32_1132 : BitVec 32 := 1#32
  let v1397 : BitVec 32 := Scalar.andi v1393 c1_i32_1132
  let v1398 : BitVec 32 := Scalar.xori v7 v1397
  let v1399 : BitVec 32 := Scalar.addi v1396 v1398
  let c1_i32_1135 : BitVec 32 := 1#32
  let v1402 : BitVec 32 := Scalar.muli v1399 c1_i32_1135
  let v1403 : BitVec 32 := Scalar.addi c0_i32_1136 v1402
  v1403.toNat
def k0_off35 (d0 : Dev nD) : Fin 2 → Nat :=
  let c768_i32_233 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_232 : BitVec 32 := 128#32
  let v305 : BitVec 32 := Scalar.muli v7 c128_i32_232
  let v306 : BitVec 32 := Scalar.addi c768_i32_233 v305
  let c3_i32 : BitVec 32 := 3#32
  let v3 : BitVec 32 := Scalar.shrsi v2 c3_i32
  let c32_i32_667 : BitVec 32 := 32#32
  let v836 : BitVec 32 := Scalar.muli v3 c32_i32_667
  let v837 : BitVec 32 := Scalar.addi v306 v836
  let v1445 : Index := Scalar.indexCast v837
  let c256_1185 : Index := 256#32
  ![v1445.toNat, 256]
def k0_off36 (d0 : Dev nD) (c1_i32_1188 : BitVec 32) : Fin 2 → Nat :=
  let c768_i32_233 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_232 : BitVec 32 := 128#32
  let v305 : BitVec 32 := Scalar.muli v7 c128_i32_232
  let v306 : BitVec 32 := Scalar.addi c768_i32_233 v305
  let c3_i32 : BitVec 32 := 3#32
  let v3 : BitVec 32 := Scalar.shrsi v2 c3_i32
  let c32_i32_667 : BitVec 32 := 32#32
  let v836 : BitVec 32 := Scalar.muli v3 c32_i32_667
  let v837 : BitVec 32 := Scalar.addi v306 v836
  let v1454 : BitVec 32 := Scalar.addi v5 c1_i32_1188
  let c3_i32_1189 : BitVec 32 := 3#32
  let v1455 : BitVec 32 := Scalar.andi v1454 c3_i32_1189
  let c8_i32_1193 : BitVec 32 := 8#32
  let v1462 : BitVec 32 := Scalar.muli v1455 c8_i32_1193
  let v1463 : BitVec 32 := Scalar.addi v837 v1462
  let c256_i32_1199 : BitVec 32 := 256#32
  ![v1463.toNat, 256]
def k0_dev61 (d0 : Dev nD) : Nat :=
  let c0_i32_1196 : BitVec 32 := 0#32
  let c8_i32_1190 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1456 : BitVec 32 := Scalar.muli c8_i32_1190 v3
  let c2_i32_1191 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1188 : BitVec 32 := 1#32
  let v1454 : BitVec 32 := Scalar.addi v5 c1_i32_1188
  let c3_i32_1189 : BitVec 32 := 3#32
  let v1455 : BitVec 32 := Scalar.andi v1454 c3_i32_1189
  let v1457 : BitVec 32 := Scalar.muli c2_i32_1191 v1455
  let v1458 : BitVec 32 := Scalar.addi v1456 v1457
  let v6 : BitVec 32 := Scalar.xori v4 v5
  let c1_i32_1 : BitVec 32 := 1#32
  let v7 : BitVec 32 := Scalar.andi v6 c1_i32_1
  let c1_i32_1192 : BitVec 32 := 1#32
  let v1459 : BitVec 32 := Scalar.andi v1455 c1_i32_1192
  let v1460 : BitVec 32 := Scalar.xori v7 v1459
  let v1461 : BitVec 32 := Scalar.addi v1458 v1460
  let c1_i32_1195 : BitVec 32 := 1#32
  let v1464 : BitVec 32 := Scalar.muli v1461 c1_i32_1195
  let v1465 : BitVec 32 := Scalar.addi c0_i32_1196 v1464
  v1465.toNat
def k0_dev62 (d0 : Dev nD) : Nat :=
  let c0_i32_1208 : BitVec 32 := 0#32
  let c8_i32_1202 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1474 : BitVec 32 := Scalar.muli c8_i32_1202 v3
  let c2_i32_1203 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1200 : BitVec 32 := 2#32
  let v1472 : BitVec 32 := Scalar.addi v5 c2_i32_1200
  let c3_i32_1201 : BitVec 32 := 3#32
  let v1473 : BitVec 32 := Scalar.andi v1472 c3_i32_1201
  let v1475 : BitVec 32 := Scalar.muli c2_i32_1203 v1473
  let v1476 : BitVec 32 := Scalar.addi v1474 v1475
  let v6 : BitVec 32 := Scalar.xori v4 v5
  let c1_i32_1 : BitVec 32 := 1#32
  let v7 : BitVec 32 := Scalar.andi v6 c1_i32_1
  let c1_i32_1204 : BitVec 32 := 1#32
  let v1477 : BitVec 32 := Scalar.andi v1473 c1_i32_1204
  let v1478 : BitVec 32 := Scalar.xori v7 v1477
  let v1479 : BitVec 32 := Scalar.addi v1476 v1478
  let c1_i32_1207 : BitVec 32 := 1#32
  let v1482 : BitVec 32 := Scalar.muli v1479 c1_i32_1207
  let v1483 : BitVec 32 := Scalar.addi c0_i32_1208 v1482
  v1483.toNat
def k0_dev63 (d0 : Dev nD) : Nat :=
  let c0_i32_1220 : BitVec 32 := 0#32
  let c8_i32_1214 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1492 : BitVec 32 := Scalar.muli c8_i32_1214 v3
  let c2_i32_1215 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1212 : BitVec 32 := 3#32
  let v1490 : BitVec 32 := Scalar.addi v5 c3_i32_1212
  let c3_i32_1213 : BitVec 32 := 3#32
  let v1491 : BitVec 32 := Scalar.andi v1490 c3_i32_1213
  let v1493 : BitVec 32 := Scalar.muli c2_i32_1215 v1491
  let v1494 : BitVec 32 := Scalar.addi v1492 v1493
  let v6 : BitVec 32 := Scalar.xori v4 v5
  let c1_i32_1 : BitVec 32 := 1#32
  let v7 : BitVec 32 := Scalar.andi v6 c1_i32_1
  let c1_i32_1216 : BitVec 32 := 1#32
  let v1495 : BitVec 32 := Scalar.andi v1491 c1_i32_1216
  let v1496 : BitVec 32 := Scalar.xori v7 v1495
  let v1497 : BitVec 32 := Scalar.addi v1494 v1496
  let c1_i32_1219 : BitVec 32 := 1#32
  let v1500 : BitVec 32 := Scalar.muli v1497 c1_i32_1219
  let v1501 : BitVec 32 := Scalar.addi c0_i32_1220 v1500
  v1501.toNat
def k0_off37 (d0 : Dev nD) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let c32_i32_257 : BitVec 32 := 32#32
  let v335 : BitVec 32 := Scalar.muli v5 c32_i32_257
  let v336 : BitVec 32 := Scalar.addi v64 v335
  let c3_i32 : BitVec 32 := 3#32
  let v3 : BitVec 32 := Scalar.shrsi v2 c3_i32
  let c8_i32_742 : BitVec 32 := 8#32
  let v922 : BitVec 32 := Scalar.muli v3 c8_i32_742
  let v923 : BitVec 32 := Scalar.addi v336 v922
  let v1543 : Index := Scalar.indexCast v923
  let c0_1266 : Index := 0#32
  ![v1543.toNat, 0]
def k0_off38 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let c16_i32_336 : BitVec 32 := 16#32
  let v434 : BitVec 32 := Scalar.muli v3 c16_i32_336
  let v435 : BitVec 32 := Scalar.addi v75 v434
  let v6 : BitVec 32 := Scalar.xori v4 v5
  let c1_i32_1 : BitVec 32 := 1#32
  let v7 : BitVec 32 := Scalar.andi v6 c1_i32_1
  let c8_i32_816 : BitVec 32 := 8#32
  let v1011 : BitVec 32 := Scalar.muli v7 c8_i32_816
  let v1012 : BitVec 32 := Scalar.addi v435 v1011
  let v1561 : Index := Scalar.indexCast v1012
  let c0_1282 : Index := 0#32
  ![v1561.toNat, 0]
def k0_off39 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_410 : BitVec 32 := 32#32
  let v524 : BitVec 32 := Scalar.muli v7 c32_i32_410
  let v525 : BitVec 32 := Scalar.addi v131 v524
  let c8_i32_839 : BitVec 32 := 8#32
  let v1040 : BitVec 32 := Scalar.muli v5 c8_i32_839
  let v1041 : BitVec 32 := Scalar.addi v525 v1040
  let v1603 : Index := Scalar.indexCast v1041
  let c0_1326 : Index := 0#32
  ![v1603.toNat, 0]
def k0_off40 (d0 : Dev nD) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let c32_i32_433 : BitVec 32 := 32#32
  let v554 : BitVec 32 := Scalar.muli v3 c32_i32_433
  let v555 : BitVec 32 := Scalar.addi v178 v554
  let c8_i32_917 : BitVec 32 := 8#32
  let v1138 : BitVec 32 := Scalar.muli v5 c8_i32_917
  let v1139 : BitVec 32 := Scalar.addi v555 v1138
  let v1645 : Index := Scalar.indexCast v1139
  let c0_1370 : Index := 0#32
  ![v1645.toNat, 0]
def k0_off41 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let c32_i32_477 : BitVec 32 := 32#32
  let v617 : BitVec 32 := Scalar.muli v5 c32_i32_477
  let v618 : BitVec 32 := Scalar.addi v192 v617
  let c3_i32 : BitVec 32 := 3#32
  let v3 : BitVec 32 := Scalar.shrsi v2 c3_i32
  let c8_i32_998 : BitVec 32 := 8#32
  let v1236 : BitVec 32 := Scalar.muli v3 c8_i32_998
  let v1237 : BitVec 32 := Scalar.addi v618 v1236
  let v1711 : Index := Scalar.indexCast v1237
  let c256_1429 : Index := 256#32
  ![v1711.toNat, 256]
def k0_off42 (d0 : Dev nD) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let c3_i32 : BitVec 32 := 3#32
  let v3 : BitVec 32 := Scalar.shrsi v2 c3_i32
  let c16_i32_561 : BitVec 32 := 16#32
  let v716 : BitVec 32 := Scalar.muli v3 c16_i32_561
  let v717 : BitVec 32 := Scalar.addi v203 v716
  let v6 : BitVec 32 := Scalar.xori v4 v5
  let c1_i32_1 : BitVec 32 := 1#32
  let v7 : BitVec 32 := Scalar.andi v6 c1_i32_1
  let c8_i32_1078 : BitVec 32 := 8#32
  let v1325 : BitVec 32 := Scalar.muli v7 c8_i32_1078
  let v1326 : BitVec 32 := Scalar.addi v717 v1325
  let v1729 : Index := Scalar.indexCast v1326
  let c256_1446 : Index := 256#32
  ![v1729.toNat, 256]
def k0_off43 (d0 : Dev nD) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_641 : BitVec 32 := 32#32
  let v806 : BitVec 32 := Scalar.muli v7 c32_i32_641
  let v807 : BitVec 32 := Scalar.addi v259 v806
  let c8_i32_1103 : BitVec 32 := 8#32
  let v1354 : BitVec 32 := Scalar.muli v5 c8_i32_1103
  let v1355 : BitVec 32 := Scalar.addi v807 v1354
  let v1771 : Index := Scalar.indexCast v1355
  let c256_1493 : Index := 256#32
  ![v1771.toNat, 256]
def k0_off44 (d0 : Dev nD) : Fin 2 → Nat :=
  let c768_i32_233 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_232 : BitVec 32 := 128#32
  let v305 : BitVec 32 := Scalar.muli v7 c128_i32_232
  let v306 : BitVec 32 := Scalar.addi c768_i32_233 v305
  let c3_i32 : BitVec 32 := 3#32
  let v3 : BitVec 32 := Scalar.shrsi v2 c3_i32
  let c32_i32_667 : BitVec 32 := 32#32
  let v836 : BitVec 32 := Scalar.muli v3 c32_i32_667
  let v837 : BitVec 32 := Scalar.addi v306 v836
  let c8_i32_1187 : BitVec 32 := 8#32
  let v1452 : BitVec 32 := Scalar.muli v5 c8_i32_1187
  let v1453 : BitVec 32 := Scalar.addi v837 v1452
  let v1813 : Index := Scalar.indexCast v1453
  let c256_1540 : Index := 256#32
  ![v1813.toNat, 256]
def k0_off45 (d0 : Dev nD) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let c32_i32_257 : BitVec 32 := 32#32
  let v335 : BitVec 32 := Scalar.muli v5 c32_i32_257
  let v336 : BitVec 32 := Scalar.addi v64 v335
  let c3_i32 : BitVec 32 := 3#32
  let v3 : BitVec 32 := Scalar.shrsi v2 c3_i32
  let c8_i32_742 : BitVec 32 := 8#32
  let v922 : BitVec 32 := Scalar.muli v3 c8_i32_742
  let v923 : BitVec 32 := Scalar.addi v336 v922
  let v1846 : Index := Scalar.indexCast v923
  let c0_1559 : Index := 0#32
  ![v1846.toNat, 0]
def k0_off46 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let c16_i32_336 : BitVec 32 := 16#32
  let v434 : BitVec 32 := Scalar.muli v3 c16_i32_336
  let v435 : BitVec 32 := Scalar.addi v75 v434
  let v6 : BitVec 32 := Scalar.xori v4 v5
  let c1_i32_1 : BitVec 32 := 1#32
  let v7 : BitVec 32 := Scalar.andi v6 c1_i32_1
  let c8_i32_816 : BitVec 32 := 8#32
  let v1011 : BitVec 32 := Scalar.muli v7 c8_i32_816
  let v1012 : BitVec 32 := Scalar.addi v435 v1011
  let v1849 : Index := Scalar.indexCast v1012
  let c0_1560 : Index := 0#32
  ![v1849.toNat, 0]
def k0_off47 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_410 : BitVec 32 := 32#32
  let v524 : BitVec 32 := Scalar.muli v7 c32_i32_410
  let v525 : BitVec 32 := Scalar.addi v131 v524
  let c8_i32_839 : BitVec 32 := 8#32
  let v1040 : BitVec 32 := Scalar.muli v5 c8_i32_839
  let v1041 : BitVec 32 := Scalar.addi v525 v1040
  let v1852 : Index := Scalar.indexCast v1041
  let c0_1561 : Index := 0#32
  ![v1852.toNat, 0]
def k0_off48 (d0 : Dev nD) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let c32_i32_433 : BitVec 32 := 32#32
  let v554 : BitVec 32 := Scalar.muli v3 c32_i32_433
  let v555 : BitVec 32 := Scalar.addi v178 v554
  let c8_i32_917 : BitVec 32 := 8#32
  let v1138 : BitVec 32 := Scalar.muli v5 c8_i32_917
  let v1139 : BitVec 32 := Scalar.addi v555 v1138
  let v1855 : Index := Scalar.indexCast v1139
  let c0_1562 : Index := 0#32
  ![v1855.toNat, 0]
def k0_off49 (d0 : Dev nD) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let c32_i32_257 : BitVec 32 := 32#32
  let v335 : BitVec 32 := Scalar.muli v5 c32_i32_257
  let v336 : BitVec 32 := Scalar.addi v64 v335
  let c3_i32 : BitVec 32 := 3#32
  let v3 : BitVec 32 := Scalar.shrsi v2 c3_i32
  let c8_i32_742 : BitVec 32 := 8#32
  let v922 : BitVec 32 := Scalar.muli v3 c8_i32_742
  let v923 : BitVec 32 := Scalar.addi v336 v922
  let c0_i32_1569 : BitVec 32 := 0#32
  ![v923.toNat, 0]
def k0_dev64 (d0 : Dev nD) : Nat :=
  let c0_i32_1568 : BitVec 32 := 0#32
  let c8_i32_1565 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_1563 : BitVec 32 := 1#32
  let v1857 : BitVec 32 := Scalar.addi v3 c1_i32_1563
  let c3_i32_1564 : BitVec 32 := 3#32
  let v1858 : BitVec 32 := Scalar.andi v1857 c3_i32_1564
  let v1859 : BitVec 32 := Scalar.muli c8_i32_1565 v1858
  let c7_i32 : BitVec 32 := 7#32
  let v4 : BitVec 32 := Scalar.andi v2 c7_i32
  let v1860 : BitVec 32 := Scalar.addi v1859 v4
  let c1_i32_1567 : BitVec 32 := 1#32
  let v1861 : BitVec 32 := Scalar.muli v1860 c1_i32_1567
  let v1862 : BitVec 32 := Scalar.addi c0_i32_1568 v1861
  v1862.toNat
def k0_dev65 (d0 : Dev nD) : Nat :=
  let c0_i32_1576 : BitVec 32 := 0#32
  let c8_i32_1573 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_1571 : BitVec 32 := 2#32
  let v1869 : BitVec 32 := Scalar.addi v3 c2_i32_1571
  let c3_i32_1572 : BitVec 32 := 3#32
  let v1870 : BitVec 32 := Scalar.andi v1869 c3_i32_1572
  let v1871 : BitVec 32 := Scalar.muli c8_i32_1573 v1870
  let c7_i32 : BitVec 32 := 7#32
  let v4 : BitVec 32 := Scalar.andi v2 c7_i32
  let v1872 : BitVec 32 := Scalar.addi v1871 v4
  let c1_i32_1575 : BitVec 32 := 1#32
  let v1873 : BitVec 32 := Scalar.muli v1872 c1_i32_1575
  let v1874 : BitVec 32 := Scalar.addi c0_i32_1576 v1873
  v1874.toNat
def k0_dev66 (d0 : Dev nD) : Nat :=
  let c0_i32_1584 : BitVec 32 := 0#32
  let c8_i32_1581 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_1579 : BitVec 32 := 3#32
  let v1881 : BitVec 32 := Scalar.addi v3 c3_i32_1579
  let c3_i32_1580 : BitVec 32 := 3#32
  let v1882 : BitVec 32 := Scalar.andi v1881 c3_i32_1580
  let v1883 : BitVec 32 := Scalar.muli c8_i32_1581 v1882
  let c7_i32 : BitVec 32 := 7#32
  let v4 : BitVec 32 := Scalar.andi v2 c7_i32
  let v1884 : BitVec 32 := Scalar.addi v1883 v4
  let c1_i32_1583 : BitVec 32 := 1#32
  let v1885 : BitVec 32 := Scalar.muli v1884 c1_i32_1583
  let v1886 : BitVec 32 := Scalar.addi c0_i32_1584 v1885
  v1886.toNat
def k0_off50 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let c16_i32_336 : BitVec 32 := 16#32
  let v434 : BitVec 32 := Scalar.muli v3 c16_i32_336
  let v435 : BitVec 32 := Scalar.addi v75 v434
  let v6 : BitVec 32 := Scalar.xori v4 v5
  let c1_i32_1 : BitVec 32 := 1#32
  let v7 : BitVec 32 := Scalar.andi v6 c1_i32_1
  let c8_i32_816 : BitVec 32 := 8#32
  let v1011 : BitVec 32 := Scalar.muli v7 c8_i32_816
  let v1012 : BitVec 32 := Scalar.addi v435 v1011
  let c0_i32_1591 : BitVec 32 := 0#32
  ![v1012.toNat, 0]
def k0_dev67 (d0 : Dev nD) : Nat :=
  let c0_i32_1590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1587 : BitVec 32 := 1#32
  let v1893 : BitVec 32 := Scalar.xori v2 c1_i32_1587
  let c1_i32_1589 : BitVec 32 := 1#32
  let v1894 : BitVec 32 := Scalar.muli v1893 c1_i32_1589
  let v1895 : BitVec 32 := Scalar.addi c0_i32_1590 v1894
  v1895.toNat
def k0_off51 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_410 : BitVec 32 := 32#32
  let v524 : BitVec 32 := Scalar.muli v7 c32_i32_410
  let v525 : BitVec 32 := Scalar.addi v131 v524
  let c8_i32_839 : BitVec 32 := 8#32
  let v1040 : BitVec 32 := Scalar.muli v5 c8_i32_839
  let v1041 : BitVec 32 := Scalar.addi v525 v1040
  let c0_i32_1601 : BitVec 32 := 0#32
  ![v1041.toNat, 0]
def k0_dev68 (d0 : Dev nD) : Nat :=
  let c0_i32_1600 : BitVec 32 := 0#32
  let c8_i32_1595 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1904 : BitVec 32 := Scalar.muli c8_i32_1595 v3
  let c2_i32_1596 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1593 : BitVec 32 := 1#32
  let v1902 : BitVec 32 := Scalar.addi v5 c1_i32_1593
  let c3_i32_1594 : BitVec 32 := 3#32
  let v1903 : BitVec 32 := Scalar.andi v1902 c3_i32_1594
  let v1905 : BitVec 32 := Scalar.muli c2_i32_1596 v1903
  let v1906 : BitVec 32 := Scalar.addi v1904 v1905
  let v6 : BitVec 32 := Scalar.xori v4 v5
  let c1_i32_1 : BitVec 32 := 1#32
  let v7 : BitVec 32 := Scalar.andi v6 c1_i32_1
  let c1_i32_1597 : BitVec 32 := 1#32
  let v1907 : BitVec 32 := Scalar.andi v1903 c1_i32_1597
  let v1908 : BitVec 32 := Scalar.xori v7 v1907
  let v1909 : BitVec 32 := Scalar.addi v1906 v1908
  let c1_i32_1599 : BitVec 32 := 1#32
  let v1910 : BitVec 32 := Scalar.muli v1909 c1_i32_1599
  let v1911 : BitVec 32 := Scalar.addi c0_i32_1600 v1910
  v1911.toNat
def k0_dev69 (d0 : Dev nD) : Nat :=
  let c0_i32_1610 : BitVec 32 := 0#32
  let c8_i32_1605 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1920 : BitVec 32 := Scalar.muli c8_i32_1605 v3
  let c2_i32_1606 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1603 : BitVec 32 := 2#32
  let v1918 : BitVec 32 := Scalar.addi v5 c2_i32_1603
  let c3_i32_1604 : BitVec 32 := 3#32
  let v1919 : BitVec 32 := Scalar.andi v1918 c3_i32_1604
  let v1921 : BitVec 32 := Scalar.muli c2_i32_1606 v1919
  let v1922 : BitVec 32 := Scalar.addi v1920 v1921
  let v6 : BitVec 32 := Scalar.xori v4 v5
  let c1_i32_1 : BitVec 32 := 1#32
  let v7 : BitVec 32 := Scalar.andi v6 c1_i32_1
  let c1_i32_1607 : BitVec 32 := 1#32
  let v1923 : BitVec 32 := Scalar.andi v1919 c1_i32_1607
  let v1924 : BitVec 32 := Scalar.xori v7 v1923
  let v1925 : BitVec 32 := Scalar.addi v1922 v1924
  let c1_i32_1609 : BitVec 32 := 1#32
  let v1926 : BitVec 32 := Scalar.muli v1925 c1_i32_1609
  let v1927 : BitVec 32 := Scalar.addi c0_i32_1610 v1926
  v1927.toNat
def k0_dev70 (d0 : Dev nD) : Nat :=
  let c0_i32_1620 : BitVec 32 := 0#32
  let c8_i32_1615 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1936 : BitVec 32 := Scalar.muli c8_i32_1615 v3
  let c2_i32_1616 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1613 : BitVec 32 := 3#32
  let v1934 : BitVec 32 := Scalar.addi v5 c3_i32_1613
  let c3_i32_1614 : BitVec 32 := 3#32
  let v1935 : BitVec 32 := Scalar.andi v1934 c3_i32_1614
  let v1937 : BitVec 32 := Scalar.muli c2_i32_1616 v1935
  let v1938 : BitVec 32 := Scalar.addi v1936 v1937
  let v6 : BitVec 32 := Scalar.xori v4 v5
  let c1_i32_1 : BitVec 32 := 1#32
  let v7 : BitVec 32 := Scalar.andi v6 c1_i32_1
  let c1_i32_1617 : BitVec 32 := 1#32
  let v1939 : BitVec 32 := Scalar.andi v1935 c1_i32_1617
  let v1940 : BitVec 32 := Scalar.xori v7 v1939
  let v1941 : BitVec 32 := Scalar.addi v1938 v1940
  let c1_i32_1619 : BitVec 32 := 1#32
  let v1942 : BitVec 32 := Scalar.muli v1941 c1_i32_1619
  let v1943 : BitVec 32 := Scalar.addi c0_i32_1620 v1942
  v1943.toNat
def k0_off52 (d0 : Dev nD) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let c32_i32_433 : BitVec 32 := 32#32
  let v554 : BitVec 32 := Scalar.muli v3 c32_i32_433
  let v555 : BitVec 32 := Scalar.addi v178 v554
  let c8_i32_917 : BitVec 32 := 8#32
  let v1138 : BitVec 32 := Scalar.muli v5 c8_i32_917
  let v1139 : BitVec 32 := Scalar.addi v555 v1138
  let c0_i32_1631 : BitVec 32 := 0#32
  ![v1139.toNat, 0]
def k0_dev71 (d0 : Dev nD) : Nat :=
  let c0_i32_1630 : BitVec 32 := 0#32
  let c8_i32_1625 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1952 : BitVec 32 := Scalar.muli c8_i32_1625 v3
  let c2_i32_1626 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1623 : BitVec 32 := 1#32
  let v1950 : BitVec 32 := Scalar.addi v5 c1_i32_1623
  let c3_i32_1624 : BitVec 32 := 3#32
  let v1951 : BitVec 32 := Scalar.andi v1950 c3_i32_1624
  let v1953 : BitVec 32 := Scalar.muli c2_i32_1626 v1951
  let v1954 : BitVec 32 := Scalar.addi v1952 v1953
  let v6 : BitVec 32 := Scalar.xori v4 v5
  let c1_i32_1 : BitVec 32 := 1#32
  let v7 : BitVec 32 := Scalar.andi v6 c1_i32_1
  let c1_i32_1627 : BitVec 32 := 1#32
  let v1955 : BitVec 32 := Scalar.andi v1951 c1_i32_1627
  let v1956 : BitVec 32 := Scalar.xori v7 v1955
  let v1957 : BitVec 32 := Scalar.addi v1954 v1956
  let c1_i32_1629 : BitVec 32 := 1#32
  let v1958 : BitVec 32 := Scalar.muli v1957 c1_i32_1629
  let v1959 : BitVec 32 := Scalar.addi c0_i32_1630 v1958
  v1959.toNat
def k0_dev72 (d0 : Dev nD) : Nat :=
  let c0_i32_1641 : BitVec 32 := 0#32
  let c8_i32_1635 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1968 : BitVec 32 := Scalar.muli c8_i32_1635 v3
  let c2_i32_1636 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1633 : BitVec 32 := 2#32
  let v1966 : BitVec 32 := Scalar.addi v5 c2_i32_1633
  let c3_i32_1634 : BitVec 32 := 3#32
  let v1967 : BitVec 32 := Scalar.andi v1966 c3_i32_1634
  let v1969 : BitVec 32 := Scalar.muli c2_i32_1636 v1967
  let v1970 : BitVec 32 := Scalar.addi v1968 v1969
  let v6 : BitVec 32 := Scalar.xori v4 v5
  let c1_i32_1 : BitVec 32 := 1#32
  let v7 : BitVec 32 := Scalar.andi v6 c1_i32_1
  let c1_i32_1637 : BitVec 32 := 1#32
  let v1971 : BitVec 32 := Scalar.andi v1967 c1_i32_1637
  let v1972 : BitVec 32 := Scalar.xori v7 v1971
  let v1973 : BitVec 32 := Scalar.addi v1970 v1972
  let c1_i32_1640 : BitVec 32 := 1#32
  let v1974 : BitVec 32 := Scalar.muli v1973 c1_i32_1640
  let v1975 : BitVec 32 := Scalar.addi c0_i32_1641 v1974
  v1975.toNat
def k0_dev73 (d0 : Dev nD) : Nat :=
  let c0_i32_1651 : BitVec 32 := 0#32
  let c8_i32_1646 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v1984 : BitVec 32 := Scalar.muli c8_i32_1646 v3
  let c2_i32_1647 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1644 : BitVec 32 := 3#32
  let v1982 : BitVec 32 := Scalar.addi v5 c3_i32_1644
  let c3_i32_1645 : BitVec 32 := 3#32
  let v1983 : BitVec 32 := Scalar.andi v1982 c3_i32_1645
  let v1985 : BitVec 32 := Scalar.muli c2_i32_1647 v1983
  let v1986 : BitVec 32 := Scalar.addi v1984 v1985
  let v6 : BitVec 32 := Scalar.xori v4 v5
  let c1_i32_1 : BitVec 32 := 1#32
  let v7 : BitVec 32 := Scalar.andi v6 c1_i32_1
  let c1_i32_1648 : BitVec 32 := 1#32
  let v1987 : BitVec 32 := Scalar.andi v1983 c1_i32_1648
  let v1988 : BitVec 32 := Scalar.xori v7 v1987
  let v1989 : BitVec 32 := Scalar.addi v1986 v1988
  let c1_i32_1650 : BitVec 32 := 1#32
  let v1990 : BitVec 32 := Scalar.muli v1989 c1_i32_1650
  let v1991 : BitVec 32 := Scalar.addi c0_i32_1651 v1990
  v1991.toNat
def k0_off53 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let c32_i32_477 : BitVec 32 := 32#32
  let v617 : BitVec 32 := Scalar.muli v5 c32_i32_477
  let v618 : BitVec 32 := Scalar.addi v192 v617
  let c3_i32 : BitVec 32 := 3#32
  let v3 : BitVec 32 := Scalar.shrsi v2 c3_i32
  let c8_i32_998 : BitVec 32 := 8#32
  let v1236 : BitVec 32 := Scalar.muli v3 c8_i32_998
  let v1237 : BitVec 32 := Scalar.addi v618 v1236
  let c256_i32_1660 : BitVec 32 := 256#32
  ![v1237.toNat, 256]
def k0_dev74 (d0 : Dev nD) : Nat :=
  let c0_i32_1659 : BitVec 32 := 0#32
  let c8_i32_1656 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_1654 : BitVec 32 := 1#32
  let v1998 : BitVec 32 := Scalar.addi v3 c1_i32_1654
  let c3_i32_1655 : BitVec 32 := 3#32
  let v1999 : BitVec 32 := Scalar.andi v1998 c3_i32_1655
  let v2000 : BitVec 32 := Scalar.muli c8_i32_1656 v1999
  let c7_i32 : BitVec 32 := 7#32
  let v4 : BitVec 32 := Scalar.andi v2 c7_i32
  let v2001 : BitVec 32 := Scalar.addi v2000 v4
  let c1_i32_1658 : BitVec 32 := 1#32
  let v2002 : BitVec 32 := Scalar.muli v2001 c1_i32_1658
  let v2003 : BitVec 32 := Scalar.addi c0_i32_1659 v2002
  v2003.toNat
def k0_dev75 (d0 : Dev nD) : Nat :=
  let c0_i32_1667 : BitVec 32 := 0#32
  let c8_i32_1664 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_1662 : BitVec 32 := 2#32
  let v2010 : BitVec 32 := Scalar.addi v3 c2_i32_1662
  let c3_i32_1663 : BitVec 32 := 3#32
  let v2011 : BitVec 32 := Scalar.andi v2010 c3_i32_1663
  let v2012 : BitVec 32 := Scalar.muli c8_i32_1664 v2011
  let c7_i32 : BitVec 32 := 7#32
  let v4 : BitVec 32 := Scalar.andi v2 c7_i32
  let v2013 : BitVec 32 := Scalar.addi v2012 v4
  let c1_i32_1666 : BitVec 32 := 1#32
  let v2014 : BitVec 32 := Scalar.muli v2013 c1_i32_1666
  let v2015 : BitVec 32 := Scalar.addi c0_i32_1667 v2014
  v2015.toNat
def k0_dev76 (d0 : Dev nD) : Nat :=
  let c0_i32_1675 : BitVec 32 := 0#32
  let c8_i32_1672 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_1670 : BitVec 32 := 3#32
  let v2022 : BitVec 32 := Scalar.addi v3 c3_i32_1670
  let c3_i32_1671 : BitVec 32 := 3#32
  let v2023 : BitVec 32 := Scalar.andi v2022 c3_i32_1671
  let v2024 : BitVec 32 := Scalar.muli c8_i32_1672 v2023
  let c7_i32 : BitVec 32 := 7#32
  let v4 : BitVec 32 := Scalar.andi v2 c7_i32
  let v2025 : BitVec 32 := Scalar.addi v2024 v4
  let c1_i32_1674 : BitVec 32 := 1#32
  let v2026 : BitVec 32 := Scalar.muli v2025 c1_i32_1674
  let v2027 : BitVec 32 := Scalar.addi c0_i32_1675 v2026
  v2027.toNat
def k0_off54 (d0 : Dev nD) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let c3_i32 : BitVec 32 := 3#32
  let v3 : BitVec 32 := Scalar.shrsi v2 c3_i32
  let c16_i32_561 : BitVec 32 := 16#32
  let v716 : BitVec 32 := Scalar.muli v3 c16_i32_561
  let v717 : BitVec 32 := Scalar.addi v203 v716
  let v6 : BitVec 32 := Scalar.xori v4 v5
  let c1_i32_1 : BitVec 32 := 1#32
  let v7 : BitVec 32 := Scalar.andi v6 c1_i32_1
  let c8_i32_1078 : BitVec 32 := 8#32
  let v1325 : BitVec 32 := Scalar.muli v7 c8_i32_1078
  let v1326 : BitVec 32 := Scalar.addi v717 v1325
  let c256_i32_1682 : BitVec 32 := 256#32
  ![v1326.toNat, 256]
def k0_dev77 (d0 : Dev nD) : Nat :=
  let c0_i32_1681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1678 : BitVec 32 := 1#32
  let v2034 : BitVec 32 := Scalar.xori v2 c1_i32_1678
  let c1_i32_1680 : BitVec 32 := 1#32
  let v2035 : BitVec 32 := Scalar.muli v2034 c1_i32_1680
  let v2036 : BitVec 32 := Scalar.addi c0_i32_1681 v2035
  v2036.toNat
def k0_off55 (d0 : Dev nD) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_641 : BitVec 32 := 32#32
  let v806 : BitVec 32 := Scalar.muli v7 c32_i32_641
  let v807 : BitVec 32 := Scalar.addi v259 v806
  let c8_i32_1103 : BitVec 32 := 8#32
  let v1354 : BitVec 32 := Scalar.muli v5 c8_i32_1103
  let v1355 : BitVec 32 := Scalar.addi v807 v1354
  let c256_i32_1692 : BitVec 32 := 256#32
  ![v1355.toNat, 256]
def k0_dev78 (d0 : Dev nD) : Nat :=
  let c0_i32_1691 : BitVec 32 := 0#32
  let c8_i32_1686 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2045 : BitVec 32 := Scalar.muli c8_i32_1686 v3
  let c2_i32_1687 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1684 : BitVec 32 := 1#32
  let v2043 : BitVec 32 := Scalar.addi v5 c1_i32_1684
  let c3_i32_1685 : BitVec 32 := 3#32
  let v2044 : BitVec 32 := Scalar.andi v2043 c3_i32_1685
  let v2046 : BitVec 32 := Scalar.muli c2_i32_1687 v2044
  let v2047 : BitVec 32 := Scalar.addi v2045 v2046
  let v6 : BitVec 32 := Scalar.xori v4 v5
  let c1_i32_1 : BitVec 32 := 1#32
  let v7 : BitVec 32 := Scalar.andi v6 c1_i32_1
  let c1_i32_1688 : BitVec 32 := 1#32
  let v2048 : BitVec 32 := Scalar.andi v2044 c1_i32_1688
  let v2049 : BitVec 32 := Scalar.xori v7 v2048
  let v2050 : BitVec 32 := Scalar.addi v2047 v2049
  let c1_i32_1690 : BitVec 32 := 1#32
  let v2051 : BitVec 32 := Scalar.muli v2050 c1_i32_1690
  let v2052 : BitVec 32 := Scalar.addi c0_i32_1691 v2051
  v2052.toNat
def k0_dev79 (d0 : Dev nD) : Nat :=
  let c0_i32_1701 : BitVec 32 := 0#32
  let c8_i32_1696 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2061 : BitVec 32 := Scalar.muli c8_i32_1696 v3
  let c2_i32_1697 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1694 : BitVec 32 := 2#32
  let v2059 : BitVec 32 := Scalar.addi v5 c2_i32_1694
  let c3_i32_1695 : BitVec 32 := 3#32
  let v2060 : BitVec 32 := Scalar.andi v2059 c3_i32_1695
  let v2062 : BitVec 32 := Scalar.muli c2_i32_1697 v2060
  let v2063 : BitVec 32 := Scalar.addi v2061 v2062
  let v6 : BitVec 32 := Scalar.xori v4 v5
  let c1_i32_1 : BitVec 32 := 1#32
  let v7 : BitVec 32 := Scalar.andi v6 c1_i32_1
  let c1_i32_1698 : BitVec 32 := 1#32
  let v2064 : BitVec 32 := Scalar.andi v2060 c1_i32_1698
  let v2065 : BitVec 32 := Scalar.xori v7 v2064
  let v2066 : BitVec 32 := Scalar.addi v2063 v2065
  let c1_i32_1700 : BitVec 32 := 1#32
  let v2067 : BitVec 32 := Scalar.muli v2066 c1_i32_1700
  let v2068 : BitVec 32 := Scalar.addi c0_i32_1701 v2067
  v2068.toNat
def k0_dev80 (d0 : Dev nD) : Nat :=
  let c0_i32_1711 : BitVec 32 := 0#32
  let c8_i32_1706 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2077 : BitVec 32 := Scalar.muli c8_i32_1706 v3
  let c2_i32_1707 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1704 : BitVec 32 := 3#32
  let v2075 : BitVec 32 := Scalar.addi v5 c3_i32_1704
  let c3_i32_1705 : BitVec 32 := 3#32
  let v2076 : BitVec 32 := Scalar.andi v2075 c3_i32_1705
  let v2078 : BitVec 32 := Scalar.muli c2_i32_1707 v2076
  let v2079 : BitVec 32 := Scalar.addi v2077 v2078
  let v6 : BitVec 32 := Scalar.xori v4 v5
  let c1_i32_1 : BitVec 32 := 1#32
  let v7 : BitVec 32 := Scalar.andi v6 c1_i32_1
  let c1_i32_1708 : BitVec 32 := 1#32
  let v2080 : BitVec 32 := Scalar.andi v2076 c1_i32_1708
  let v2081 : BitVec 32 := Scalar.xori v7 v2080
  let v2082 : BitVec 32 := Scalar.addi v2079 v2081
  let c1_i32_1710 : BitVec 32 := 1#32
  let v2083 : BitVec 32 := Scalar.muli v2082 c1_i32_1710
  let v2084 : BitVec 32 := Scalar.addi c0_i32_1711 v2083
  v2084.toNat
def k0_off56 (d0 : Dev nD) : Fin 2 → Nat :=
  let c768_i32_233 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_232 : BitVec 32 := 128#32
  let v305 : BitVec 32 := Scalar.muli v7 c128_i32_232
  let v306 : BitVec 32 := Scalar.addi c768_i32_233 v305
  let c3_i32 : BitVec 32 := 3#32
  let v3 : BitVec 32 := Scalar.shrsi v2 c3_i32
  let c32_i32_667 : BitVec 32 := 32#32
  let v836 : BitVec 32 := Scalar.muli v3 c32_i32_667
  let v837 : BitVec 32 := Scalar.addi v306 v836
  let c8_i32_1187 : BitVec 32 := 8#32
  let v1452 : BitVec 32 := Scalar.muli v5 c8_i32_1187
  let v1453 : BitVec 32 := Scalar.addi v837 v1452
  let c256_i32_1722 : BitVec 32 := 256#32
  ![v1453.toNat, 256]
def k0_dev81 (d0 : Dev nD) : Nat :=
  let c0_i32_1721 : BitVec 32 := 0#32
  let c8_i32_1716 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2093 : BitVec 32 := Scalar.muli c8_i32_1716 v3
  let c2_i32_1717 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1714 : BitVec 32 := 1#32
  let v2091 : BitVec 32 := Scalar.addi v5 c1_i32_1714
  let c3_i32_1715 : BitVec 32 := 3#32
  let v2092 : BitVec 32 := Scalar.andi v2091 c3_i32_1715
  let v2094 : BitVec 32 := Scalar.muli c2_i32_1717 v2092
  let v2095 : BitVec 32 := Scalar.addi v2093 v2094
  let v6 : BitVec 32 := Scalar.xori v4 v5
  let c1_i32_1 : BitVec 32 := 1#32
  let v7 : BitVec 32 := Scalar.andi v6 c1_i32_1
  let c1_i32_1718 : BitVec 32 := 1#32
  let v2096 : BitVec 32 := Scalar.andi v2092 c1_i32_1718
  let v2097 : BitVec 32 := Scalar.xori v7 v2096
  let v2098 : BitVec 32 := Scalar.addi v2095 v2097
  let c1_i32_1720 : BitVec 32 := 1#32
  let v2099 : BitVec 32 := Scalar.muli v2098 c1_i32_1720
  let v2100 : BitVec 32 := Scalar.addi c0_i32_1721 v2099
  v2100.toNat
def k0_dev82 (d0 : Dev nD) : Nat :=
  let c0_i32_1731 : BitVec 32 := 0#32
  let c8_i32_1726 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2109 : BitVec 32 := Scalar.muli c8_i32_1726 v3
  let c2_i32_1727 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1724 : BitVec 32 := 2#32
  let v2107 : BitVec 32 := Scalar.addi v5 c2_i32_1724
  let c3_i32_1725 : BitVec 32 := 3#32
  let v2108 : BitVec 32 := Scalar.andi v2107 c3_i32_1725
  let v2110 : BitVec 32 := Scalar.muli c2_i32_1727 v2108
  let v2111 : BitVec 32 := Scalar.addi v2109 v2110
  let v6 : BitVec 32 := Scalar.xori v4 v5
  let c1_i32_1 : BitVec 32 := 1#32
  let v7 : BitVec 32 := Scalar.andi v6 c1_i32_1
  let c1_i32_1728 : BitVec 32 := 1#32
  let v2112 : BitVec 32 := Scalar.andi v2108 c1_i32_1728
  let v2113 : BitVec 32 := Scalar.xori v7 v2112
  let v2114 : BitVec 32 := Scalar.addi v2111 v2113
  let c1_i32_1730 : BitVec 32 := 1#32
  let v2115 : BitVec 32 := Scalar.muli v2114 c1_i32_1730
  let v2116 : BitVec 32 := Scalar.addi c0_i32_1731 v2115
  v2116.toNat
def k0_dev83 (d0 : Dev nD) : Nat :=
  let c0_i32_1741 : BitVec 32 := 0#32
  let c8_i32_1736 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2125 : BitVec 32 := Scalar.muli c8_i32_1736 v3
  let c2_i32_1737 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1734 : BitVec 32 := 3#32
  let v2123 : BitVec 32 := Scalar.addi v5 c3_i32_1734
  let c3_i32_1735 : BitVec 32 := 3#32
  let v2124 : BitVec 32 := Scalar.andi v2123 c3_i32_1735
  let v2126 : BitVec 32 := Scalar.muli c2_i32_1737 v2124
  let v2127 : BitVec 32 := Scalar.addi v2125 v2126
  let v6 : BitVec 32 := Scalar.xori v4 v5
  let c1_i32_1 : BitVec 32 := 1#32
  let v7 : BitVec 32 := Scalar.andi v6 c1_i32_1
  let c1_i32_1738 : BitVec 32 := 1#32
  let v2128 : BitVec 32 := Scalar.andi v2124 c1_i32_1738
  let v2129 : BitVec 32 := Scalar.xori v7 v2128
  let v2130 : BitVec 32 := Scalar.addi v2127 v2129
  let c1_i32_1740 : BitVec 32 := 1#32
  let v2131 : BitVec 32 := Scalar.muli v2130 c1_i32_1740
  let v2132 : BitVec 32 := Scalar.addi c0_i32_1741 v2131
  v2132.toNat
def k0_off57 (d0 : Dev nD) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let c32_i32_257 : BitVec 32 := 32#32
  let v335 : BitVec 32 := Scalar.muli v5 c32_i32_257
  let v336 : BitVec 32 := Scalar.addi v64 v335
  let c3_i32 : BitVec 32 := 3#32
  let v3 : BitVec 32 := Scalar.shrsi v2 c3_i32
  let c8_i32_742 : BitVec 32 := 8#32
  let v922 : BitVec 32 := Scalar.muli v3 c8_i32_742
  let v923 : BitVec 32 := Scalar.addi v336 v922
  let c8_i32_1777 : BitVec 32 := 8#32
  let v2169 : BitVec 32 := Scalar.muli v3 c8_i32_1777
  let v2170 : BitVec 32 := Scalar.subi v923 v2169
  let c0_i32_1786 : BitVec 32 := 0#32
  ![v2170.toNat, 0]
def k0_dev84 (d0 : Dev nD) : Nat :=
  let c0_i32_1785 : BitVec 32 := 0#32
  let c8_i32_1780 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2173 : BitVec 32 := Scalar.muli c8_i32_1780 v3
  let c2_i32_1781 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1778 : BitVec 32 := 1#32
  let v2171 : BitVec 32 := Scalar.addi v5 c1_i32_1778
  let c3_i32_1779 : BitVec 32 := 3#32
  let v2172 : BitVec 32 := Scalar.andi v2171 c3_i32_1779
  let v2174 : BitVec 32 := Scalar.muli c2_i32_1781 v2172
  let v2175 : BitVec 32 := Scalar.addi v2173 v2174
  let v6 : BitVec 32 := Scalar.xori v4 v5
  let c1_i32_1 : BitVec 32 := 1#32
  let v7 : BitVec 32 := Scalar.andi v6 c1_i32_1
  let c1_i32_1782 : BitVec 32 := 1#32
  let v2176 : BitVec 32 := Scalar.andi v2172 c1_i32_1782
  let v2177 : BitVec 32 := Scalar.xori v7 v2176
  let v2178 : BitVec 32 := Scalar.addi v2175 v2177
  let c1_i32_1784 : BitVec 32 := 1#32
  let v2179 : BitVec 32 := Scalar.muli v2178 c1_i32_1784
  let v2180 : BitVec 32 := Scalar.addi c0_i32_1785 v2179
  v2180.toNat
def k0_dev85 (d0 : Dev nD) : Nat :=
  let c0_i32_1795 : BitVec 32 := 0#32
  let c8_i32_1790 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2189 : BitVec 32 := Scalar.muli c8_i32_1790 v3
  let c2_i32_1791 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1788 : BitVec 32 := 2#32
  let v2187 : BitVec 32 := Scalar.addi v5 c2_i32_1788
  let c3_i32_1789 : BitVec 32 := 3#32
  let v2188 : BitVec 32 := Scalar.andi v2187 c3_i32_1789
  let v2190 : BitVec 32 := Scalar.muli c2_i32_1791 v2188
  let v2191 : BitVec 32 := Scalar.addi v2189 v2190
  let v6 : BitVec 32 := Scalar.xori v4 v5
  let c1_i32_1 : BitVec 32 := 1#32
  let v7 : BitVec 32 := Scalar.andi v6 c1_i32_1
  let c1_i32_1792 : BitVec 32 := 1#32
  let v2192 : BitVec 32 := Scalar.andi v2188 c1_i32_1792
  let v2193 : BitVec 32 := Scalar.xori v7 v2192
  let v2194 : BitVec 32 := Scalar.addi v2191 v2193
  let c1_i32_1794 : BitVec 32 := 1#32
  let v2195 : BitVec 32 := Scalar.muli v2194 c1_i32_1794
  let v2196 : BitVec 32 := Scalar.addi c0_i32_1795 v2195
  v2196.toNat
def k0_dev86 (d0 : Dev nD) : Nat :=
  let c0_i32_1805 : BitVec 32 := 0#32
  let c8_i32_1800 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2205 : BitVec 32 := Scalar.muli c8_i32_1800 v3
  let c2_i32_1801 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1798 : BitVec 32 := 3#32
  let v2203 : BitVec 32 := Scalar.addi v5 c3_i32_1798
  let c3_i32_1799 : BitVec 32 := 3#32
  let v2204 : BitVec 32 := Scalar.andi v2203 c3_i32_1799
  let v2206 : BitVec 32 := Scalar.muli c2_i32_1801 v2204
  let v2207 : BitVec 32 := Scalar.addi v2205 v2206
  let v6 : BitVec 32 := Scalar.xori v4 v5
  let c1_i32_1 : BitVec 32 := 1#32
  let v7 : BitVec 32 := Scalar.andi v6 c1_i32_1
  let c1_i32_1802 : BitVec 32 := 1#32
  let v2208 : BitVec 32 := Scalar.andi v2204 c1_i32_1802
  let v2209 : BitVec 32 := Scalar.xori v7 v2208
  let v2210 : BitVec 32 := Scalar.addi v2207 v2209
  let c1_i32_1804 : BitVec 32 := 1#32
  let v2211 : BitVec 32 := Scalar.muli v2210 c1_i32_1804
  let v2212 : BitVec 32 := Scalar.addi c0_i32_1805 v2211
  v2212.toNat
def k0_off58 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let c16_i32_336 : BitVec 32 := 16#32
  let v434 : BitVec 32 := Scalar.muli v3 c16_i32_336
  let v435 : BitVec 32 := Scalar.addi v75 v434
  let v6 : BitVec 32 := Scalar.xori v4 v5
  let c1_i32_1 : BitVec 32 := 1#32
  let v7 : BitVec 32 := Scalar.andi v6 c1_i32_1
  let c8_i32_816 : BitVec 32 := 8#32
  let v1011 : BitVec 32 := Scalar.muli v7 c8_i32_816
  let v1012 : BitVec 32 := Scalar.addi v435 v1011
  let c8_i32_1819 : BitVec 32 := 8#32
  let v2229 : BitVec 32 := Scalar.muli v7 c8_i32_1819
  let v2230 : BitVec 32 := Scalar.subi v1012 v2229
  let c0_i32_1826 : BitVec 32 := 0#32
  ![v2230.toNat, 0]
def k0_dev87 (d0 : Dev nD) : Nat :=
  let c0_i32_1825 : BitVec 32 := 0#32
  let c8_i32_1822 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_1820 : BitVec 32 := 1#32
  let v2231 : BitVec 32 := Scalar.addi v3 c1_i32_1820
  let c3_i32_1821 : BitVec 32 := 3#32
  let v2232 : BitVec 32 := Scalar.andi v2231 c3_i32_1821
  let v2233 : BitVec 32 := Scalar.muli c8_i32_1822 v2232
  let c7_i32 : BitVec 32 := 7#32
  let v4 : BitVec 32 := Scalar.andi v2 c7_i32
  let v2234 : BitVec 32 := Scalar.addi v2233 v4
  let c1_i32_1824 : BitVec 32 := 1#32
  let v2235 : BitVec 32 := Scalar.muli v2234 c1_i32_1824
  let v2236 : BitVec 32 := Scalar.addi c0_i32_1825 v2235
  v2236.toNat
def k0_dev88 (d0 : Dev nD) : Nat :=
  let c0_i32_1833 : BitVec 32 := 0#32
  let c8_i32_1830 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_1828 : BitVec 32 := 2#32
  let v2243 : BitVec 32 := Scalar.addi v3 c2_i32_1828
  let c3_i32_1829 : BitVec 32 := 3#32
  let v2244 : BitVec 32 := Scalar.andi v2243 c3_i32_1829
  let v2245 : BitVec 32 := Scalar.muli c8_i32_1830 v2244
  let c7_i32 : BitVec 32 := 7#32
  let v4 : BitVec 32 := Scalar.andi v2 c7_i32
  let v2246 : BitVec 32 := Scalar.addi v2245 v4
  let c1_i32_1832 : BitVec 32 := 1#32
  let v2247 : BitVec 32 := Scalar.muli v2246 c1_i32_1832
  let v2248 : BitVec 32 := Scalar.addi c0_i32_1833 v2247
  v2248.toNat
def k0_dev89 (d0 : Dev nD) : Nat :=
  let c0_i32_1841 : BitVec 32 := 0#32
  let c8_i32_1838 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_1836 : BitVec 32 := 3#32
  let v2255 : BitVec 32 := Scalar.addi v3 c3_i32_1836
  let c3_i32_1837 : BitVec 32 := 3#32
  let v2256 : BitVec 32 := Scalar.andi v2255 c3_i32_1837
  let v2257 : BitVec 32 := Scalar.muli c8_i32_1838 v2256
  let c7_i32 : BitVec 32 := 7#32
  let v4 : BitVec 32 := Scalar.andi v2 c7_i32
  let v2258 : BitVec 32 := Scalar.addi v2257 v4
  let c1_i32_1840 : BitVec 32 := 1#32
  let v2259 : BitVec 32 := Scalar.muli v2258 c1_i32_1840
  let v2260 : BitVec 32 := Scalar.addi c0_i32_1841 v2259
  v2260.toNat
def k0_off59 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_410 : BitVec 32 := 32#32
  let v524 : BitVec 32 := Scalar.muli v7 c32_i32_410
  let v525 : BitVec 32 := Scalar.addi v131 v524
  let c8_i32_839 : BitVec 32 := 8#32
  let v1040 : BitVec 32 := Scalar.muli v5 c8_i32_839
  let v1041 : BitVec 32 := Scalar.addi v525 v1040
  let c8_i32_1877 : BitVec 32 := 8#32
  let v2297 : BitVec 32 := Scalar.muli v5 c8_i32_1877
  let v2298 : BitVec 32 := Scalar.subi v1041 v2297
  let c0_i32_1882 : BitVec 32 := 0#32
  ![v2298.toNat, 0]
def k0_dev90 (d0 : Dev nD) : Nat :=
  let c0_i32_1881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1878 : BitVec 32 := 1#32
  let v2299 : BitVec 32 := Scalar.xori v2 c1_i32_1878
  let c1_i32_1880 : BitVec 32 := 1#32
  let v2300 : BitVec 32 := Scalar.muli v2299 c1_i32_1880
  let v2301 : BitVec 32 := Scalar.addi c0_i32_1881 v2300
  v2301.toNat
def k0_off60 (d0 : Dev nD) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let c32_i32_433 : BitVec 32 := 32#32
  let v554 : BitVec 32 := Scalar.muli v3 c32_i32_433
  let v555 : BitVec 32 := Scalar.addi v178 v554
  let c8_i32_917 : BitVec 32 := 8#32
  let v1138 : BitVec 32 := Scalar.muli v5 c8_i32_917
  let v1139 : BitVec 32 := Scalar.addi v555 v1138
  let c8_i32_1917 : BitVec 32 := 8#32
  let v2338 : BitVec 32 := Scalar.muli v5 c8_i32_1917
  let v2339 : BitVec 32 := Scalar.subi v1139 v2338
  let c0_i32_1924 : BitVec 32 := 0#32
  ![v2339.toNat, 0]
def k0_dev91 (d0 : Dev nD) : Nat :=
  let c0_i32_1923 : BitVec 32 := 0#32
  let c8_i32_1920 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_1918 : BitVec 32 := 1#32
  let v2340 : BitVec 32 := Scalar.addi v3 c1_i32_1918
  let c3_i32_1919 : BitVec 32 := 3#32
  let v2341 : BitVec 32 := Scalar.andi v2340 c3_i32_1919
  let v2342 : BitVec 32 := Scalar.muli c8_i32_1920 v2341
  let c7_i32 : BitVec 32 := 7#32
  let v4 : BitVec 32 := Scalar.andi v2 c7_i32
  let v2343 : BitVec 32 := Scalar.addi v2342 v4
  let c1_i32_1922 : BitVec 32 := 1#32
  let v2344 : BitVec 32 := Scalar.muli v2343 c1_i32_1922
  let v2345 : BitVec 32 := Scalar.addi c0_i32_1923 v2344
  v2345.toNat
def k0_dev92 (d0 : Dev nD) : Nat :=
  let c0_i32_1931 : BitVec 32 := 0#32
  let c8_i32_1928 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_1926 : BitVec 32 := 2#32
  let v2352 : BitVec 32 := Scalar.addi v3 c2_i32_1926
  let c3_i32_1927 : BitVec 32 := 3#32
  let v2353 : BitVec 32 := Scalar.andi v2352 c3_i32_1927
  let v2354 : BitVec 32 := Scalar.muli c8_i32_1928 v2353
  let c7_i32 : BitVec 32 := 7#32
  let v4 : BitVec 32 := Scalar.andi v2 c7_i32
  let v2355 : BitVec 32 := Scalar.addi v2354 v4
  let c1_i32_1930 : BitVec 32 := 1#32
  let v2356 : BitVec 32 := Scalar.muli v2355 c1_i32_1930
  let v2357 : BitVec 32 := Scalar.addi c0_i32_1931 v2356
  v2357.toNat
def k0_dev93 (d0 : Dev nD) : Nat :=
  let c0_i32_1939 : BitVec 32 := 0#32
  let c8_i32_1936 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_1934 : BitVec 32 := 3#32
  let v2364 : BitVec 32 := Scalar.addi v3 c3_i32_1934
  let c3_i32_1935 : BitVec 32 := 3#32
  let v2365 : BitVec 32 := Scalar.andi v2364 c3_i32_1935
  let v2366 : BitVec 32 := Scalar.muli c8_i32_1936 v2365
  let c7_i32 : BitVec 32 := 7#32
  let v4 : BitVec 32 := Scalar.andi v2 c7_i32
  let v2367 : BitVec 32 := Scalar.addi v2366 v4
  let c1_i32_1938 : BitVec 32 := 1#32
  let v2368 : BitVec 32 := Scalar.muli v2367 c1_i32_1938
  let v2369 : BitVec 32 := Scalar.addi c0_i32_1939 v2368
  v2369.toNat
def k0_off61 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let c32_i32_477 : BitVec 32 := 32#32
  let v617 : BitVec 32 := Scalar.muli v5 c32_i32_477
  let v618 : BitVec 32 := Scalar.addi v192 v617
  let c3_i32 : BitVec 32 := 3#32
  let v3 : BitVec 32 := Scalar.shrsi v2 c3_i32
  let c8_i32_998 : BitVec 32 := 8#32
  let v1236 : BitVec 32 := Scalar.muli v3 c8_i32_998
  let v1237 : BitVec 32 := Scalar.addi v618 v1236
  let c8_i32_1975 : BitVec 32 := 8#32
  let v2406 : BitVec 32 := Scalar.muli v3 c8_i32_1975
  let v2407 : BitVec 32 := Scalar.subi v1237 v2406
  let c256_i32_1984 : BitVec 32 := 256#32
  ![v2407.toNat, 256]
def k0_dev94 (d0 : Dev nD) : Nat :=
  let c0_i32_1983 : BitVec 32 := 0#32
  let c8_i32_1978 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2410 : BitVec 32 := Scalar.muli c8_i32_1978 v3
  let c2_i32_1979 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_1976 : BitVec 32 := 1#32
  let v2408 : BitVec 32 := Scalar.addi v5 c1_i32_1976
  let c3_i32_1977 : BitVec 32 := 3#32
  let v2409 : BitVec 32 := Scalar.andi v2408 c3_i32_1977
  let v2411 : BitVec 32 := Scalar.muli c2_i32_1979 v2409
  let v2412 : BitVec 32 := Scalar.addi v2410 v2411
  let v6 : BitVec 32 := Scalar.xori v4 v5
  let c1_i32_1 : BitVec 32 := 1#32
  let v7 : BitVec 32 := Scalar.andi v6 c1_i32_1
  let c1_i32_1980 : BitVec 32 := 1#32
  let v2413 : BitVec 32 := Scalar.andi v2409 c1_i32_1980
  let v2414 : BitVec 32 := Scalar.xori v7 v2413
  let v2415 : BitVec 32 := Scalar.addi v2412 v2414
  let c1_i32_1982 : BitVec 32 := 1#32
  let v2416 : BitVec 32 := Scalar.muli v2415 c1_i32_1982
  let v2417 : BitVec 32 := Scalar.addi c0_i32_1983 v2416
  v2417.toNat
def k0_dev95 (d0 : Dev nD) : Nat :=
  let c0_i32_1993 : BitVec 32 := 0#32
  let c8_i32_1988 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2426 : BitVec 32 := Scalar.muli c8_i32_1988 v3
  let c2_i32_1989 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_1986 : BitVec 32 := 2#32
  let v2424 : BitVec 32 := Scalar.addi v5 c2_i32_1986
  let c3_i32_1987 : BitVec 32 := 3#32
  let v2425 : BitVec 32 := Scalar.andi v2424 c3_i32_1987
  let v2427 : BitVec 32 := Scalar.muli c2_i32_1989 v2425
  let v2428 : BitVec 32 := Scalar.addi v2426 v2427
  let v6 : BitVec 32 := Scalar.xori v4 v5
  let c1_i32_1 : BitVec 32 := 1#32
  let v7 : BitVec 32 := Scalar.andi v6 c1_i32_1
  let c1_i32_1990 : BitVec 32 := 1#32
  let v2429 : BitVec 32 := Scalar.andi v2425 c1_i32_1990
  let v2430 : BitVec 32 := Scalar.xori v7 v2429
  let v2431 : BitVec 32 := Scalar.addi v2428 v2430
  let c1_i32_1992 : BitVec 32 := 1#32
  let v2432 : BitVec 32 := Scalar.muli v2431 c1_i32_1992
  let v2433 : BitVec 32 := Scalar.addi c0_i32_1993 v2432
  v2433.toNat
def k0_dev96 (d0 : Dev nD) : Nat :=
  let c0_i32_2003 : BitVec 32 := 0#32
  let c8_i32_1998 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2442 : BitVec 32 := Scalar.muli c8_i32_1998 v3
  let c2_i32_1999 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_1996 : BitVec 32 := 3#32
  let v2440 : BitVec 32 := Scalar.addi v5 c3_i32_1996
  let c3_i32_1997 : BitVec 32 := 3#32
  let v2441 : BitVec 32 := Scalar.andi v2440 c3_i32_1997
  let v2443 : BitVec 32 := Scalar.muli c2_i32_1999 v2441
  let v2444 : BitVec 32 := Scalar.addi v2442 v2443
  let v6 : BitVec 32 := Scalar.xori v4 v5
  let c1_i32_1 : BitVec 32 := 1#32
  let v7 : BitVec 32 := Scalar.andi v6 c1_i32_1
  let c1_i32_2000 : BitVec 32 := 1#32
  let v2445 : BitVec 32 := Scalar.andi v2441 c1_i32_2000
  let v2446 : BitVec 32 := Scalar.xori v7 v2445
  let v2447 : BitVec 32 := Scalar.addi v2444 v2446
  let c1_i32_2002 : BitVec 32 := 1#32
  let v2448 : BitVec 32 := Scalar.muli v2447 c1_i32_2002
  let v2449 : BitVec 32 := Scalar.addi c0_i32_2003 v2448
  v2449.toNat
def k0_off62 (d0 : Dev nD) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let c3_i32 : BitVec 32 := 3#32
  let v3 : BitVec 32 := Scalar.shrsi v2 c3_i32
  let c16_i32_561 : BitVec 32 := 16#32
  let v716 : BitVec 32 := Scalar.muli v3 c16_i32_561
  let v717 : BitVec 32 := Scalar.addi v203 v716
  let v6 : BitVec 32 := Scalar.xori v4 v5
  let c1_i32_1 : BitVec 32 := 1#32
  let v7 : BitVec 32 := Scalar.andi v6 c1_i32_1
  let c8_i32_1078 : BitVec 32 := 8#32
  let v1325 : BitVec 32 := Scalar.muli v7 c8_i32_1078
  let v1326 : BitVec 32 := Scalar.addi v717 v1325
  let c8_i32_2017 : BitVec 32 := 8#32
  let v2466 : BitVec 32 := Scalar.muli v7 c8_i32_2017
  let v2467 : BitVec 32 := Scalar.subi v1326 v2466
  let c256_i32_2024 : BitVec 32 := 256#32
  ![v2467.toNat, 256]
def k0_dev97 (d0 : Dev nD) : Nat :=
  let c0_i32_2023 : BitVec 32 := 0#32
  let c8_i32_2020 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_2018 : BitVec 32 := 1#32
  let v2468 : BitVec 32 := Scalar.addi v3 c1_i32_2018
  let c3_i32_2019 : BitVec 32 := 3#32
  let v2469 : BitVec 32 := Scalar.andi v2468 c3_i32_2019
  let v2470 : BitVec 32 := Scalar.muli c8_i32_2020 v2469
  let c7_i32 : BitVec 32 := 7#32
  let v4 : BitVec 32 := Scalar.andi v2 c7_i32
  let v2471 : BitVec 32 := Scalar.addi v2470 v4
  let c1_i32_2022 : BitVec 32 := 1#32
  let v2472 : BitVec 32 := Scalar.muli v2471 c1_i32_2022
  let v2473 : BitVec 32 := Scalar.addi c0_i32_2023 v2472
  v2473.toNat
def k0_dev98 (d0 : Dev nD) : Nat :=
  let c0_i32_2031 : BitVec 32 := 0#32
  let c8_i32_2028 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_2026 : BitVec 32 := 2#32
  let v2480 : BitVec 32 := Scalar.addi v3 c2_i32_2026
  let c3_i32_2027 : BitVec 32 := 3#32
  let v2481 : BitVec 32 := Scalar.andi v2480 c3_i32_2027
  let v2482 : BitVec 32 := Scalar.muli c8_i32_2028 v2481
  let c7_i32 : BitVec 32 := 7#32
  let v4 : BitVec 32 := Scalar.andi v2 c7_i32
  let v2483 : BitVec 32 := Scalar.addi v2482 v4
  let c1_i32_2030 : BitVec 32 := 1#32
  let v2484 : BitVec 32 := Scalar.muli v2483 c1_i32_2030
  let v2485 : BitVec 32 := Scalar.addi c0_i32_2031 v2484
  v2485.toNat
def k0_dev99 (d0 : Dev nD) : Nat :=
  let c0_i32_2039 : BitVec 32 := 0#32
  let c8_i32_2036 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_2034 : BitVec 32 := 3#32
  let v2492 : BitVec 32 := Scalar.addi v3 c3_i32_2034
  let c3_i32_2035 : BitVec 32 := 3#32
  let v2493 : BitVec 32 := Scalar.andi v2492 c3_i32_2035
  let v2494 : BitVec 32 := Scalar.muli c8_i32_2036 v2493
  let c7_i32 : BitVec 32 := 7#32
  let v4 : BitVec 32 := Scalar.andi v2 c7_i32
  let v2495 : BitVec 32 := Scalar.addi v2494 v4
  let c1_i32_2038 : BitVec 32 := 1#32
  let v2496 : BitVec 32 := Scalar.muli v2495 c1_i32_2038
  let v2497 : BitVec 32 := Scalar.addi c0_i32_2039 v2496
  v2497.toNat
def k0_off63 (d0 : Dev nD) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_641 : BitVec 32 := 32#32
  let v806 : BitVec 32 := Scalar.muli v7 c32_i32_641
  let v807 : BitVec 32 := Scalar.addi v259 v806
  let c8_i32_1103 : BitVec 32 := 8#32
  let v1354 : BitVec 32 := Scalar.muli v5 c8_i32_1103
  let v1355 : BitVec 32 := Scalar.addi v807 v1354
  let c8_i32_2075 : BitVec 32 := 8#32
  let v2534 : BitVec 32 := Scalar.muli v5 c8_i32_2075
  let v2535 : BitVec 32 := Scalar.subi v1355 v2534
  let c256_i32_2080 : BitVec 32 := 256#32
  ![v2535.toNat, 256]
def k0_dev100 (d0 : Dev nD) : Nat :=
  let c0_i32_2079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2076 : BitVec 32 := 1#32
  let v2536 : BitVec 32 := Scalar.xori v2 c1_i32_2076
  let c1_i32_2078 : BitVec 32 := 1#32
  let v2537 : BitVec 32 := Scalar.muli v2536 c1_i32_2078
  let v2538 : BitVec 32 := Scalar.addi c0_i32_2079 v2537
  v2538.toNat
def k0_off64 (d0 : Dev nD) : Fin 2 → Nat :=
  let c768_i32_233 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_232 : BitVec 32 := 128#32
  let v305 : BitVec 32 := Scalar.muli v7 c128_i32_232
  let v306 : BitVec 32 := Scalar.addi c768_i32_233 v305
  let c3_i32 : BitVec 32 := 3#32
  let v3 : BitVec 32 := Scalar.shrsi v2 c3_i32
  let c32_i32_667 : BitVec 32 := 32#32
  let v836 : BitVec 32 := Scalar.muli v3 c32_i32_667
  let v837 : BitVec 32 := Scalar.addi v306 v836
  let c8_i32_1187 : BitVec 32 := 8#32
  let v1452 : BitVec 32 := Scalar.muli v5 c8_i32_1187
  let v1453 : BitVec 32 := Scalar.addi v837 v1452
  let c8_i32_2115 : BitVec 32 := 8#32
  let v2575 : BitVec 32 := Scalar.muli v5 c8_i32_2115
  let v2576 : BitVec 32 := Scalar.subi v1453 v2575
  let c256_i32_2122 : BitVec 32 := 256#32
  ![v2576.toNat, 256]
def k0_dev101 (d0 : Dev nD) : Nat :=
  let c0_i32_2121 : BitVec 32 := 0#32
  let c8_i32_2118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_2116 : BitVec 32 := 1#32
  let v2577 : BitVec 32 := Scalar.addi v3 c1_i32_2116
  let c3_i32_2117 : BitVec 32 := 3#32
  let v2578 : BitVec 32 := Scalar.andi v2577 c3_i32_2117
  let v2579 : BitVec 32 := Scalar.muli c8_i32_2118 v2578
  let c7_i32 : BitVec 32 := 7#32
  let v4 : BitVec 32 := Scalar.andi v2 c7_i32
  let v2580 : BitVec 32 := Scalar.addi v2579 v4
  let c1_i32_2120 : BitVec 32 := 1#32
  let v2581 : BitVec 32 := Scalar.muli v2580 c1_i32_2120
  let v2582 : BitVec 32 := Scalar.addi c0_i32_2121 v2581
  v2582.toNat
def k0_dev102 (d0 : Dev nD) : Nat :=
  let c0_i32_2129 : BitVec 32 := 0#32
  let c8_i32_2126 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_2124 : BitVec 32 := 2#32
  let v2589 : BitVec 32 := Scalar.addi v3 c2_i32_2124
  let c3_i32_2125 : BitVec 32 := 3#32
  let v2590 : BitVec 32 := Scalar.andi v2589 c3_i32_2125
  let v2591 : BitVec 32 := Scalar.muli c8_i32_2126 v2590
  let c7_i32 : BitVec 32 := 7#32
  let v4 : BitVec 32 := Scalar.andi v2 c7_i32
  let v2592 : BitVec 32 := Scalar.addi v2591 v4
  let c1_i32_2128 : BitVec 32 := 1#32
  let v2593 : BitVec 32 := Scalar.muli v2592 c1_i32_2128
  let v2594 : BitVec 32 := Scalar.addi c0_i32_2129 v2593
  v2594.toNat
def k0_dev103 (d0 : Dev nD) : Nat :=
  let c0_i32_2137 : BitVec 32 := 0#32
  let c8_i32_2134 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_2132 : BitVec 32 := 3#32
  let v2601 : BitVec 32 := Scalar.addi v3 c3_i32_2132
  let c3_i32_2133 : BitVec 32 := 3#32
  let v2602 : BitVec 32 := Scalar.andi v2601 c3_i32_2133
  let v2603 : BitVec 32 := Scalar.muli c8_i32_2134 v2602
  let c7_i32 : BitVec 32 := 7#32
  let v4 : BitVec 32 := Scalar.andi v2 c7_i32
  let v2604 : BitVec 32 := Scalar.addi v2603 v4
  let c1_i32_2136 : BitVec 32 := 1#32
  let v2605 : BitVec 32 := Scalar.muli v2604 c1_i32_2136
  let v2606 : BitVec 32 := Scalar.addi c0_i32_2137 v2605
  v2606.toNat
def k0_off65 (d0 : Dev nD) : Fin 2 → Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_48 : BitVec 32 := 128#32
  let v63 : BitVec 32 := Scalar.muli v7 c128_i32_48
  let v64 : BitVec 32 := Scalar.addi c0_i32_49 v63
  let c32_i32_257 : BitVec 32 := 32#32
  let v335 : BitVec 32 := Scalar.muli v5 c32_i32_257
  let v336 : BitVec 32 := Scalar.addi v64 v335
  let c3_i32 : BitVec 32 := 3#32
  let v3 : BitVec 32 := Scalar.shrsi v2 c3_i32
  let c8_i32_742 : BitVec 32 := 8#32
  let v922 : BitVec 32 := Scalar.muli v3 c8_i32_742
  let v923 : BitVec 32 := Scalar.addi v336 v922
  let c8_i32_1777 : BitVec 32 := 8#32
  let v2169 : BitVec 32 := Scalar.muli v3 c8_i32_1777
  let v2170 : BitVec 32 := Scalar.subi v923 v2169
  let c32_i32_2173 : BitVec 32 := 32#32
  let v2643 : BitVec 32 := Scalar.muli v5 c32_i32_2173
  let v2644 : BitVec 32 := Scalar.subi v2170 v2643
  let c0_i32_2178 : BitVec 32 := 0#32
  ![v2644.toNat, 0]
def k0_dev104 (d0 : Dev nD) : Nat :=
  let c0_i32_2177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2174 : BitVec 32 := 1#32
  let v2645 : BitVec 32 := Scalar.xori v2 c1_i32_2174
  let c1_i32_2176 : BitVec 32 := 1#32
  let v2646 : BitVec 32 := Scalar.muli v2645 c1_i32_2176
  let v2647 : BitVec 32 := Scalar.addi c0_i32_2177 v2646
  v2647.toNat
def k0_off66 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32 : BitVec 32 := 64#32
  let v74 : BitVec 32 := Scalar.muli v5 c64_i32
  let v75 : BitVec 32 := Scalar.addi c256_i32 v74
  let c3_i32 : BitVec 32 := 3#32
  let v3 : BitVec 32 := Scalar.shrsi v2 c3_i32
  let c16_i32_336 : BitVec 32 := 16#32
  let v434 : BitVec 32 := Scalar.muli v3 c16_i32_336
  let v435 : BitVec 32 := Scalar.addi v75 v434
  let v6 : BitVec 32 := Scalar.xori v4 v5
  let c1_i32_1 : BitVec 32 := 1#32
  let v7 : BitVec 32 := Scalar.andi v6 c1_i32_1
  let c8_i32_816 : BitVec 32 := 8#32
  let v1011 : BitVec 32 := Scalar.muli v7 c8_i32_816
  let v1012 : BitVec 32 := Scalar.addi v435 v1011
  let c8_i32_1819 : BitVec 32 := 8#32
  let v2229 : BitVec 32 := Scalar.muli v7 c8_i32_1819
  let v2230 : BitVec 32 := Scalar.subi v1012 v2229
  let c16_i32_2213 : BitVec 32 := 16#32
  let v2684 : BitVec 32 := Scalar.muli v3 c16_i32_2213
  let v2685 : BitVec 32 := Scalar.subi v2230 v2684
  let c0_i32_2222 : BitVec 32 := 0#32
  ![v2685.toNat, 0]
def k0_dev105 (d0 : Dev nD) : Nat :=
  let c0_i32_2221 : BitVec 32 := 0#32
  let c8_i32_2216 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2688 : BitVec 32 := Scalar.muli c8_i32_2216 v3
  let c2_i32_2217 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_2214 : BitVec 32 := 1#32
  let v2686 : BitVec 32 := Scalar.addi v5 c1_i32_2214
  let c3_i32_2215 : BitVec 32 := 3#32
  let v2687 : BitVec 32 := Scalar.andi v2686 c3_i32_2215
  let v2689 : BitVec 32 := Scalar.muli c2_i32_2217 v2687
  let v2690 : BitVec 32 := Scalar.addi v2688 v2689
  let v6 : BitVec 32 := Scalar.xori v4 v5
  let c1_i32_1 : BitVec 32 := 1#32
  let v7 : BitVec 32 := Scalar.andi v6 c1_i32_1
  let c1_i32_2218 : BitVec 32 := 1#32
  let v2691 : BitVec 32 := Scalar.andi v2687 c1_i32_2218
  let v2692 : BitVec 32 := Scalar.xori v7 v2691
  let v2693 : BitVec 32 := Scalar.addi v2690 v2692
  let c1_i32_2220 : BitVec 32 := 1#32
  let v2694 : BitVec 32 := Scalar.muli v2693 c1_i32_2220
  let v2695 : BitVec 32 := Scalar.addi c0_i32_2221 v2694
  v2695.toNat
def k0_dev106 (d0 : Dev nD) : Nat :=
  let c0_i32_2231 : BitVec 32 := 0#32
  let c8_i32_2226 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2704 : BitVec 32 := Scalar.muli c8_i32_2226 v3
  let c2_i32_2227 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_2224 : BitVec 32 := 2#32
  let v2702 : BitVec 32 := Scalar.addi v5 c2_i32_2224
  let c3_i32_2225 : BitVec 32 := 3#32
  let v2703 : BitVec 32 := Scalar.andi v2702 c3_i32_2225
  let v2705 : BitVec 32 := Scalar.muli c2_i32_2227 v2703
  let v2706 : BitVec 32 := Scalar.addi v2704 v2705
  let v6 : BitVec 32 := Scalar.xori v4 v5
  let c1_i32_1 : BitVec 32 := 1#32
  let v7 : BitVec 32 := Scalar.andi v6 c1_i32_1
  let c1_i32_2228 : BitVec 32 := 1#32
  let v2707 : BitVec 32 := Scalar.andi v2703 c1_i32_2228
  let v2708 : BitVec 32 := Scalar.xori v7 v2707
  let v2709 : BitVec 32 := Scalar.addi v2706 v2708
  let c1_i32_2230 : BitVec 32 := 1#32
  let v2710 : BitVec 32 := Scalar.muli v2709 c1_i32_2230
  let v2711 : BitVec 32 := Scalar.addi c0_i32_2231 v2710
  v2711.toNat
def k0_dev107 (d0 : Dev nD) : Nat :=
  let c0_i32_2241 : BitVec 32 := 0#32
  let c8_i32_2236 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2720 : BitVec 32 := Scalar.muli c8_i32_2236 v3
  let c2_i32_2237 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_2234 : BitVec 32 := 3#32
  let v2718 : BitVec 32 := Scalar.addi v5 c3_i32_2234
  let c3_i32_2235 : BitVec 32 := 3#32
  let v2719 : BitVec 32 := Scalar.andi v2718 c3_i32_2235
  let v2721 : BitVec 32 := Scalar.muli c2_i32_2237 v2719
  let v2722 : BitVec 32 := Scalar.addi v2720 v2721
  let v6 : BitVec 32 := Scalar.xori v4 v5
  let c1_i32_1 : BitVec 32 := 1#32
  let v7 : BitVec 32 := Scalar.andi v6 c1_i32_1
  let c1_i32_2238 : BitVec 32 := 1#32
  let v2723 : BitVec 32 := Scalar.andi v2719 c1_i32_2238
  let v2724 : BitVec 32 := Scalar.xori v7 v2723
  let v2725 : BitVec 32 := Scalar.addi v2722 v2724
  let c1_i32_2240 : BitVec 32 := 1#32
  let v2726 : BitVec 32 := Scalar.muli v2725 c1_i32_2240
  let v2727 : BitVec 32 := Scalar.addi c0_i32_2241 v2726
  v2727.toNat
def k0_off67 (d0 : Dev nD) : Fin 2 → Nat :=
  let c512_i32_98 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_97 : BitVec 32 := 64#32
  let v130 : BitVec 32 := Scalar.muli v3 c64_i32_97
  let v131 : BitVec 32 := Scalar.addi c512_i32_98 v130
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_410 : BitVec 32 := 32#32
  let v524 : BitVec 32 := Scalar.muli v7 c32_i32_410
  let v525 : BitVec 32 := Scalar.addi v131 v524
  let c8_i32_839 : BitVec 32 := 8#32
  let v1040 : BitVec 32 := Scalar.muli v5 c8_i32_839
  let v1041 : BitVec 32 := Scalar.addi v525 v1040
  let c8_i32_1877 : BitVec 32 := 8#32
  let v2297 : BitVec 32 := Scalar.muli v5 c8_i32_1877
  let v2298 : BitVec 32 := Scalar.subi v1041 v2297
  let c32_i32_2255 : BitVec 32 := 32#32
  let v2744 : BitVec 32 := Scalar.muli v7 c32_i32_2255
  let v2745 : BitVec 32 := Scalar.subi v2298 v2744
  let c0_i32_2262 : BitVec 32 := 0#32
  ![v2745.toNat, 0]
def k0_dev108 (d0 : Dev nD) : Nat :=
  let c0_i32_2261 : BitVec 32 := 0#32
  let c8_i32_2258 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_2256 : BitVec 32 := 1#32
  let v2746 : BitVec 32 := Scalar.addi v3 c1_i32_2256
  let c3_i32_2257 : BitVec 32 := 3#32
  let v2747 : BitVec 32 := Scalar.andi v2746 c3_i32_2257
  let v2748 : BitVec 32 := Scalar.muli c8_i32_2258 v2747
  let c7_i32 : BitVec 32 := 7#32
  let v4 : BitVec 32 := Scalar.andi v2 c7_i32
  let v2749 : BitVec 32 := Scalar.addi v2748 v4
  let c1_i32_2260 : BitVec 32 := 1#32
  let v2750 : BitVec 32 := Scalar.muli v2749 c1_i32_2260
  let v2751 : BitVec 32 := Scalar.addi c0_i32_2261 v2750
  v2751.toNat
def k0_dev109 (d0 : Dev nD) : Nat :=
  let c0_i32_2269 : BitVec 32 := 0#32
  let c8_i32_2266 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_2264 : BitVec 32 := 2#32
  let v2758 : BitVec 32 := Scalar.addi v3 c2_i32_2264
  let c3_i32_2265 : BitVec 32 := 3#32
  let v2759 : BitVec 32 := Scalar.andi v2758 c3_i32_2265
  let v2760 : BitVec 32 := Scalar.muli c8_i32_2266 v2759
  let c7_i32 : BitVec 32 := 7#32
  let v4 : BitVec 32 := Scalar.andi v2 c7_i32
  let v2761 : BitVec 32 := Scalar.addi v2760 v4
  let c1_i32_2268 : BitVec 32 := 1#32
  let v2762 : BitVec 32 := Scalar.muli v2761 c1_i32_2268
  let v2763 : BitVec 32 := Scalar.addi c0_i32_2269 v2762
  v2763.toNat
def k0_dev110 (d0 : Dev nD) : Nat :=
  let c0_i32_2277 : BitVec 32 := 0#32
  let c8_i32_2274 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_2272 : BitVec 32 := 3#32
  let v2770 : BitVec 32 := Scalar.addi v3 c3_i32_2272
  let c3_i32_2273 : BitVec 32 := 3#32
  let v2771 : BitVec 32 := Scalar.andi v2770 c3_i32_2273
  let v2772 : BitVec 32 := Scalar.muli c8_i32_2274 v2771
  let c7_i32 : BitVec 32 := 7#32
  let v4 : BitVec 32 := Scalar.andi v2 c7_i32
  let v2773 : BitVec 32 := Scalar.addi v2772 v4
  let c1_i32_2276 : BitVec 32 := 1#32
  let v2774 : BitVec 32 := Scalar.muli v2773 c1_i32_2276
  let v2775 : BitVec 32 := Scalar.addi c0_i32_2277 v2774
  v2775.toNat
def k0_off68 (d0 : Dev nD) : Fin 2 → Nat :=
  let c768_i32_132 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_131 : BitVec 32 := 128#32
  let v177 : BitVec 32 := Scalar.muli v7 c128_i32_131
  let v178 : BitVec 32 := Scalar.addi c768_i32_132 v177
  let c3_i32 : BitVec 32 := 3#32
  let v3 : BitVec 32 := Scalar.shrsi v2 c3_i32
  let c32_i32_433 : BitVec 32 := 32#32
  let v554 : BitVec 32 := Scalar.muli v3 c32_i32_433
  let v555 : BitVec 32 := Scalar.addi v178 v554
  let c8_i32_917 : BitVec 32 := 8#32
  let v1138 : BitVec 32 := Scalar.muli v5 c8_i32_917
  let v1139 : BitVec 32 := Scalar.addi v555 v1138
  let c8_i32_1917 : BitVec 32 := 8#32
  let v2338 : BitVec 32 := Scalar.muli v5 c8_i32_1917
  let v2339 : BitVec 32 := Scalar.subi v1139 v2338
  let c32_i32_2313 : BitVec 32 := 32#32
  let v2812 : BitVec 32 := Scalar.muli v3 c32_i32_2313
  let v2813 : BitVec 32 := Scalar.subi v2339 v2812
  let c0_i32_2318 : BitVec 32 := 0#32
  ![v2813.toNat, 0]
def k0_dev111 (d0 : Dev nD) : Nat :=
  let c0_i32_2317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2314 : BitVec 32 := 1#32
  let v2814 : BitVec 32 := Scalar.xori v2 c1_i32_2314
  let c1_i32_2316 : BitVec 32 := 1#32
  let v2815 : BitVec 32 := Scalar.muli v2814 c1_i32_2316
  let v2816 : BitVec 32 := Scalar.addi c0_i32_2317 v2815
  v2816.toNat
def k0_off69 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_143 : BitVec 32 := 128#32
  let v191 : BitVec 32 := Scalar.muli v7 c128_i32_143
  let v192 : BitVec 32 := Scalar.addi c0_i32_144 v191
  let c32_i32_477 : BitVec 32 := 32#32
  let v617 : BitVec 32 := Scalar.muli v5 c32_i32_477
  let v618 : BitVec 32 := Scalar.addi v192 v617
  let c3_i32 : BitVec 32 := 3#32
  let v3 : BitVec 32 := Scalar.shrsi v2 c3_i32
  let c8_i32_998 : BitVec 32 := 8#32
  let v1236 : BitVec 32 := Scalar.muli v3 c8_i32_998
  let v1237 : BitVec 32 := Scalar.addi v618 v1236
  let c8_i32_1975 : BitVec 32 := 8#32
  let v2406 : BitVec 32 := Scalar.muli v3 c8_i32_1975
  let v2407 : BitVec 32 := Scalar.subi v1237 v2406
  let c32_i32_2353 : BitVec 32 := 32#32
  let v2853 : BitVec 32 := Scalar.muli v5 c32_i32_2353
  let v2854 : BitVec 32 := Scalar.subi v2407 v2853
  let c256_i32_2358 : BitVec 32 := 256#32
  ![v2854.toNat, 256]
def k0_dev112 (d0 : Dev nD) : Nat :=
  let c0_i32_2357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2354 : BitVec 32 := 1#32
  let v2855 : BitVec 32 := Scalar.xori v2 c1_i32_2354
  let c1_i32_2356 : BitVec 32 := 1#32
  let v2856 : BitVec 32 := Scalar.muli v2855 c1_i32_2356
  let v2857 : BitVec 32 := Scalar.addi c0_i32_2357 v2856
  v2857.toNat
def k0_off70 (d0 : Dev nD) : Fin 2 → Nat :=
  let c256_i32_154 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let c64_i32_153 : BitVec 32 := 64#32
  let v202 : BitVec 32 := Scalar.muli v5 c64_i32_153
  let v203 : BitVec 32 := Scalar.addi c256_i32_154 v202
  let c3_i32 : BitVec 32 := 3#32
  let v3 : BitVec 32 := Scalar.shrsi v2 c3_i32
  let c16_i32_561 : BitVec 32 := 16#32
  let v716 : BitVec 32 := Scalar.muli v3 c16_i32_561
  let v717 : BitVec 32 := Scalar.addi v203 v716
  let v6 : BitVec 32 := Scalar.xori v4 v5
  let c1_i32_1 : BitVec 32 := 1#32
  let v7 : BitVec 32 := Scalar.andi v6 c1_i32_1
  let c8_i32_1078 : BitVec 32 := 8#32
  let v1325 : BitVec 32 := Scalar.muli v7 c8_i32_1078
  let v1326 : BitVec 32 := Scalar.addi v717 v1325
  let c8_i32_2017 : BitVec 32 := 8#32
  let v2466 : BitVec 32 := Scalar.muli v7 c8_i32_2017
  let v2467 : BitVec 32 := Scalar.subi v1326 v2466
  let c16_i32_2393 : BitVec 32 := 16#32
  let v2894 : BitVec 32 := Scalar.muli v3 c16_i32_2393
  let v2895 : BitVec 32 := Scalar.subi v2467 v2894
  let c256_i32_2402 : BitVec 32 := 256#32
  ![v2895.toNat, 256]
def k0_dev113 (d0 : Dev nD) : Nat :=
  let c0_i32_2401 : BitVec 32 := 0#32
  let c8_i32_2396 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2898 : BitVec 32 := Scalar.muli c8_i32_2396 v3
  let c2_i32_2397 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_2394 : BitVec 32 := 1#32
  let v2896 : BitVec 32 := Scalar.addi v5 c1_i32_2394
  let c3_i32_2395 : BitVec 32 := 3#32
  let v2897 : BitVec 32 := Scalar.andi v2896 c3_i32_2395
  let v2899 : BitVec 32 := Scalar.muli c2_i32_2397 v2897
  let v2900 : BitVec 32 := Scalar.addi v2898 v2899
  let v6 : BitVec 32 := Scalar.xori v4 v5
  let c1_i32_1 : BitVec 32 := 1#32
  let v7 : BitVec 32 := Scalar.andi v6 c1_i32_1
  let c1_i32_2398 : BitVec 32 := 1#32
  let v2901 : BitVec 32 := Scalar.andi v2897 c1_i32_2398
  let v2902 : BitVec 32 := Scalar.xori v7 v2901
  let v2903 : BitVec 32 := Scalar.addi v2900 v2902
  let c1_i32_2400 : BitVec 32 := 1#32
  let v2904 : BitVec 32 := Scalar.muli v2903 c1_i32_2400
  let v2905 : BitVec 32 := Scalar.addi c0_i32_2401 v2904
  v2905.toNat
def k0_dev114 (d0 : Dev nD) : Nat :=
  let c0_i32_2411 : BitVec 32 := 0#32
  let c8_i32_2406 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2914 : BitVec 32 := Scalar.muli c8_i32_2406 v3
  let c2_i32_2407 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c2_i32_2404 : BitVec 32 := 2#32
  let v2912 : BitVec 32 := Scalar.addi v5 c2_i32_2404
  let c3_i32_2405 : BitVec 32 := 3#32
  let v2913 : BitVec 32 := Scalar.andi v2912 c3_i32_2405
  let v2915 : BitVec 32 := Scalar.muli c2_i32_2407 v2913
  let v2916 : BitVec 32 := Scalar.addi v2914 v2915
  let v6 : BitVec 32 := Scalar.xori v4 v5
  let c1_i32_1 : BitVec 32 := 1#32
  let v7 : BitVec 32 := Scalar.andi v6 c1_i32_1
  let c1_i32_2408 : BitVec 32 := 1#32
  let v2917 : BitVec 32 := Scalar.andi v2913 c1_i32_2408
  let v2918 : BitVec 32 := Scalar.xori v7 v2917
  let v2919 : BitVec 32 := Scalar.addi v2916 v2918
  let c1_i32_2410 : BitVec 32 := 1#32
  let v2920 : BitVec 32 := Scalar.muli v2919 c1_i32_2410
  let v2921 : BitVec 32 := Scalar.addi c0_i32_2411 v2920
  v2921.toNat
def k0_dev115 (d0 : Dev nD) : Nat :=
  let c0_i32_2421 : BitVec 32 := 0#32
  let c8_i32_2416 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v2930 : BitVec 32 := Scalar.muli c8_i32_2416 v3
  let c2_i32_2417 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c3_i32_2414 : BitVec 32 := 3#32
  let v2928 : BitVec 32 := Scalar.addi v5 c3_i32_2414
  let c3_i32_2415 : BitVec 32 := 3#32
  let v2929 : BitVec 32 := Scalar.andi v2928 c3_i32_2415
  let v2931 : BitVec 32 := Scalar.muli c2_i32_2417 v2929
  let v2932 : BitVec 32 := Scalar.addi v2930 v2931
  let v6 : BitVec 32 := Scalar.xori v4 v5
  let c1_i32_1 : BitVec 32 := 1#32
  let v7 : BitVec 32 := Scalar.andi v6 c1_i32_1
  let c1_i32_2418 : BitVec 32 := 1#32
  let v2933 : BitVec 32 := Scalar.andi v2929 c1_i32_2418
  let v2934 : BitVec 32 := Scalar.xori v7 v2933
  let v2935 : BitVec 32 := Scalar.addi v2932 v2934
  let c1_i32_2420 : BitVec 32 := 1#32
  let v2936 : BitVec 32 := Scalar.muli v2935 c1_i32_2420
  let v2937 : BitVec 32 := Scalar.addi c0_i32_2421 v2936
  v2937.toNat
def k0_off71 (d0 : Dev nD) : Fin 2 → Nat :=
  let c512_i32_195 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c64_i32_194 : BitVec 32 := 64#32
  let v258 : BitVec 32 := Scalar.muli v3 c64_i32_194
  let v259 : BitVec 32 := Scalar.addi c512_i32_195 v258
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c32_i32_641 : BitVec 32 := 32#32
  let v806 : BitVec 32 := Scalar.muli v7 c32_i32_641
  let v807 : BitVec 32 := Scalar.addi v259 v806
  let c8_i32_1103 : BitVec 32 := 8#32
  let v1354 : BitVec 32 := Scalar.muli v5 c8_i32_1103
  let v1355 : BitVec 32 := Scalar.addi v807 v1354
  let c8_i32_2075 : BitVec 32 := 8#32
  let v2534 : BitVec 32 := Scalar.muli v5 c8_i32_2075
  let v2535 : BitVec 32 := Scalar.subi v1355 v2534
  let c32_i32_2435 : BitVec 32 := 32#32
  let v2954 : BitVec 32 := Scalar.muli v7 c32_i32_2435
  let v2955 : BitVec 32 := Scalar.subi v2535 v2954
  let c256_i32_2442 : BitVec 32 := 256#32
  ![v2955.toNat, 256]
def k0_dev116 (d0 : Dev nD) : Nat :=
  let c0_i32_2441 : BitVec 32 := 0#32
  let c8_i32_2438 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_2436 : BitVec 32 := 1#32
  let v2956 : BitVec 32 := Scalar.addi v3 c1_i32_2436
  let c3_i32_2437 : BitVec 32 := 3#32
  let v2957 : BitVec 32 := Scalar.andi v2956 c3_i32_2437
  let v2958 : BitVec 32 := Scalar.muli c8_i32_2438 v2957
  let c7_i32 : BitVec 32 := 7#32
  let v4 : BitVec 32 := Scalar.andi v2 c7_i32
  let v2959 : BitVec 32 := Scalar.addi v2958 v4
  let c1_i32_2440 : BitVec 32 := 1#32
  let v2960 : BitVec 32 := Scalar.muli v2959 c1_i32_2440
  let v2961 : BitVec 32 := Scalar.addi c0_i32_2441 v2960
  v2961.toNat
def k0_dev117 (d0 : Dev nD) : Nat :=
  let c0_i32_2449 : BitVec 32 := 0#32
  let c8_i32_2446 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_2444 : BitVec 32 := 2#32
  let v2968 : BitVec 32 := Scalar.addi v3 c2_i32_2444
  let c3_i32_2445 : BitVec 32 := 3#32
  let v2969 : BitVec 32 := Scalar.andi v2968 c3_i32_2445
  let v2970 : BitVec 32 := Scalar.muli c8_i32_2446 v2969
  let c7_i32 : BitVec 32 := 7#32
  let v4 : BitVec 32 := Scalar.andi v2 c7_i32
  let v2971 : BitVec 32 := Scalar.addi v2970 v4
  let c1_i32_2448 : BitVec 32 := 1#32
  let v2972 : BitVec 32 := Scalar.muli v2971 c1_i32_2448
  let v2973 : BitVec 32 := Scalar.addi c0_i32_2449 v2972
  v2973.toNat
def k0_dev118 (d0 : Dev nD) : Nat :=
  let c0_i32_2457 : BitVec 32 := 0#32
  let c8_i32_2454 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_2452 : BitVec 32 := 3#32
  let v2980 : BitVec 32 := Scalar.addi v3 c3_i32_2452
  let c3_i32_2453 : BitVec 32 := 3#32
  let v2981 : BitVec 32 := Scalar.andi v2980 c3_i32_2453
  let v2982 : BitVec 32 := Scalar.muli c8_i32_2454 v2981
  let c7_i32 : BitVec 32 := 7#32
  let v4 : BitVec 32 := Scalar.andi v2 c7_i32
  let v2983 : BitVec 32 := Scalar.addi v2982 v4
  let c1_i32_2456 : BitVec 32 := 1#32
  let v2984 : BitVec 32 := Scalar.muli v2983 c1_i32_2456
  let v2985 : BitVec 32 := Scalar.addi c0_i32_2457 v2984
  v2985.toNat
def k0_off72 (d0 : Dev nD) : Fin 2 → Nat :=
  let c768_i32_233 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_0 : BitVec 32 := 1#32
  let v5 : BitVec 32 := Scalar.shrsi v4 c1_i32_0
  let v6 : BitVec 32 := Scalar.xori v4 v5
  let c1_i32_1 : BitVec 32 := 1#32
  let v7 : BitVec 32 := Scalar.andi v6 c1_i32_1
  let c128_i32_232 : BitVec 32 := 128#32
  let v305 : BitVec 32 := Scalar.muli v7 c128_i32_232
  let v306 : BitVec 32 := Scalar.addi c768_i32_233 v305
  let c3_i32 : BitVec 32 := 3#32
  let v3 : BitVec 32 := Scalar.shrsi v2 c3_i32
  let c32_i32_667 : BitVec 32 := 32#32
  let v836 : BitVec 32 := Scalar.muli v3 c32_i32_667
  let v837 : BitVec 32 := Scalar.addi v306 v836
  let c8_i32_1187 : BitVec 32 := 8#32
  let v1452 : BitVec 32 := Scalar.muli v5 c8_i32_1187
  let v1453 : BitVec 32 := Scalar.addi v837 v1452
  let c8_i32_2115 : BitVec 32 := 8#32
  let v2575 : BitVec 32 := Scalar.muli v5 c8_i32_2115
  let v2576 : BitVec 32 := Scalar.subi v1453 v2575
  let c32_i32_2493 : BitVec 32 := 32#32
  let v3022 : BitVec 32 := Scalar.muli v3 c32_i32_2493
  let v3023 : BitVec 32 := Scalar.subi v2576 v3022
  let c256_i32_2498 : BitVec 32 := 256#32
  ![v3023.toNat, 256]
def k0_dev119 (d0 : Dev nD) : Nat :=
  let c0_i32_2497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2494 : BitVec 32 := 1#32
  let v3024 : BitVec 32 := Scalar.xori v2 c1_i32_2494
  let c1_i32_2496 : BitVec 32 := 1#32
  let v3025 : BitVec 32 := Scalar.muli v3024 c1_i32_2496
  let v3026 : BitVec 32 := Scalar.addi c0_i32_2497 v3025
  v3026.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32768x512 : Shape := ⟨2, ![32768, 512]⟩
abbrev S512x512 : Shape := ⟨2, ![512, 512]⟩
abbrev S32x1024x512 : Shape := ⟨3, ![32, 1024, 512]⟩
abbrev S_ : Shape := ⟨0, ![]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S32x1024x512, .f32⟩
  | .hbm, ⟨3, _⟩ => ⟨S_, .f32⟩
  | .hbm, ⟨4, _⟩ => ⟨S1024x512, .f32⟩
  | .hbm, ⟨5, _⟩ => ⟨S1024x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
The body of the kernel, told again in few words.

The kernel's program is one straight line of some five hundred memory operations.  Here the same line is
written with a handful of words: `send1` / `send3` (issue the one or three copies of a round), `take1` /
`take3` (wait for them, add the blocks that came to the block kept, store the sum), `join1` / `join3` (wait
for the copies of a gathering round), `stash` (put four strips of rows side by side for the product).
`body_eq` says that it is the same program, by unfolding alone.
-/
module

public import proofs.«01_k».proof.Proof.Gen.KernelIdeal.Skeleton
public import proofs.«01_k».proof.Proof.Gen.KernelIdeal.Points

@[expose] public section

noncomputable section

namespace Cert.KernelIdeal.AR

open Idealize.ShloMosaic Idealize.ShloMosaic.TcCoe Idealize.SL.Sem
open Cert.KernelIdeal Cert.KernelIdeal.Gen

variable {F : FTy → Type} [FloatOps F]

/-- A block of `h` rows and half the columns. -/
abbrev bS (h : ℕ) : Shape := ⟨2, ![h, 256]⟩

/-- The buffers: the argument's block, the weights, the result, the accumulator, the landing zone. -/
abbrev tM : Memref sig .tc .vmem S1024x512 .f32 := Memref.whole cc0_stg0_0
abbrev wM : Memref sig .tc .vmem S512x512 .f32 := Memref.whole cc0_stg1_0
abbrev oM : Memref sig .tc .vmem S1024x512 .f32 := Memref.whole cc0_stg2_0
abbrev aM : Memref sig .tc .vmem S1024x512 .f32 := Memref.whole cc0_scratch0
abbrev rM : Memref sig .tc .vmem S2048x512 .f32 := Memref.whole cc0_scratch1

/-- The send and the receive semaphore of copy `n`. -/
theorem inb128 {n : ℕ} (hn : n < 128) : ∀ a, (![n] : Fin 1 → ℕ) a + S1.size a ≤ S128.size a := by
  intro a; fin_cases a; show n + 1 ≤ 128; omega
abbrev sS (n : ℕ) (hn : n < 128) : DmaSem sig :=
  ((cc0_scratch2.slice (Rect.unit (s := S128) ![n] S1.size (inb128 hn))).squeeze S_ squeezes_S1_S_).sem
abbrev rS (n : ℕ) (hn : n < 128) : DmaSem sig :=
  ((cc0_scratch3.slice (Rect.unit (s := S128) ![n] S1.size (inb128 hn))).squeeze S_ squeezes_S1_S_).sem

/-- The barrier semaphore. -/
abbrev barS : Sem sig := sig.barrier 0 rfl

/-- Where a block lies: its offset, with the fact that it lies inside the 1024 × 512 (or 2048 × 512) buffer. -/
abbrev TB (h : ℕ) := {o : Fin 2 → ℕ // ∀ a, o a + (bS h).size a ≤ S1024x512.size a}
abbrev RB (h : ℕ) := {o : Fin 2 → ℕ // ∀ a, o a + (bS h).size a ≤ S2048x512.size a}

abbrev tSl (m : Memref sig .tc .vmem S1024x512 .f32) {h : ℕ} (b : TB h) : Memref sig .tc .vmem (bS h) .f32 :=
  m.slice (Rect.unit (s := S1024x512) b.1 (bS h).size b.2) (fun _ => rfl)
abbrev rSl {h : ℕ} (b : RB h) : Memref sig .tc .vmem (bS h) .f32 :=
  rM.slice (Rect.unit (s := S2048x512) b.1 (bS h).size b.2) (fun _ => rfl)

/-- A block of the landing zone at named rows and columns. -/
abbrev rAt (h row col : ℕ) (hr : row + h ≤ 2048) (hc : col + 256 ≤ 512) : RB h :=
  ⟨![row, col], by intro a; fin_cases a; exacts [hr, hc]⟩

/-- Programs of one core. -/
abbrev Pg (F : FTy → Type) [FloatOps F] := Prog (TpuEff nD τ sig (Elt F) Λ₀ .tc)

/-- Issue copy `n` of `src` to `dst` on device `d`. -/
def copy {h : ℕ} (n : ℕ) (hn : n < 128) (src dst : Memref sig .tc .vmem (bS h) .f32) (d : Dev nD) : Pg F PUnit :=
  Prog.lift (.enqueueDma src (.remote (Dev.tc d) dst (.dma (sS n hn))) (.dma (rS n hn))
    (View.wordExact_bits rfl) (View.wordExact_bits rfl) ⟨⟨rfl, Or.inl rfl⟩, trivial⟩)

/-- Wait for copy `n`: for this device's own to have left, then for the one it receives. -/
def await {h : ℕ} (n : ℕ) (hn : n < 128) (src dst : Memref sig .tc .vmem (bS h) .f32) : Pg F PUnit := do
  Prog.lift (.waitDma2 (sS n hn) dst src (View.wordExact_bits rfl) (View.wordExact_bits rfl))
  Prog.lift (.waitDma2 (rS n hn) src dst (View.wordExact_bits rfl) (View.wordExact_bits rfl))

/-- Issue a round of one copy, of three copies. -/
def send1 {h : ℕ} (m : Memref sig .tc .vmem S1024x512 .f32) (n : ℕ) (hn : n < 128) (r : RB h) (b : TB h) (d : Dev nD) : Pg F PUnit :=
  copy n hn (tSl m b) (rSl r) d
def send3 {h : ℕ} (m : Memref sig .tc .vmem S1024x512 .f32) (n : ℕ) (hn : n + 2 < 128) (r1 r2 r3 : RB h) (b1 b2 b3 : TB h) (d1 d2 d3 : Dev nD) : Pg F PUnit := do
  copy n (by omega) (tSl m b1) (rSl r1) d1
  copy (n + 1) (by omega) (tSl m b2) (rSl r2) d2
  copy (n + 2) hn (tSl m b3) (rSl r3) d3

/-- Load a block of a buffer. -/
def ldT {h : ℕ} (hh : 0 < (bS h).numel) (m : Memref sig .tc .vmem S1024x512 .f32) (b : TB h) : Pg F (Vec F (bS h) .f32) :=
  Prog.lift (.load m (Rect.unit (s := S1024x512) b.1 (bS h).size b.2).toLoadRect (View.loadsAt_vmem hh))
def ldR {h : ℕ} (hh : 0 < (bS h).numel) (b : RB h) : Pg F (Vec F (bS h) .f32) :=
  Prog.lift (.load rM (Rect.unit (s := S2048x512) b.1 (bS h).size b.2).toLoadRect (View.loadsAt_vmem hh))
/-- Store a block into the accumulator. -/
def stA {h : ℕ} (hh : 0 < (bS h).numel) (b : TB h) (v : Vec F (bS h) .f32) : Pg F PUnit :=
  Prog.lift (.store aM (Rect.unit (s := S1024x512) b.1 (bS h).size b.2) v Finset.univ (View.stores_vmem_bits_univ hh rfl) (.inl rfl))
def stR {h : ℕ} (hh : 0 < (bS h).numel) (b : RB h) (v : Vec F (bS h) .f32) : Pg F PUnit :=
  Prog.lift (.store rM (Rect.unit (s := S2048x512) b.1 (bS h).size b.2) v Finset.univ (View.stores_vmem_bits_univ hh rfl) (.inl rfl))

/-- The same shape twice: the cast that changes nothing. -/
abbrev same (h : ℕ) : (bS h).ShapeCasts (bS h) := rfl

/-- The block kept, as it is loaded: from the argument through a cast, from the accumulator as it is. -/
abbrev kept {h : ℕ} : Bool → Vec F (bS h) .f32 → FVec F (bS h) .f32
  | true, y => shapeCast (bS h) y (same h)
  | false, y => y

/-- Finish a round of one copy: wait, add what came (`r`) to the block kept (`b` of `base`), store the sum. -/
def take1 {h : ℕ} (fst : Bool) (hh : 0 < (bS h).numel) (base : Memref sig .tc .vmem S1024x512 .f32) (n : ℕ) (hn : n < 128) (r : RB h) (s : TB h) (b : TB h) : Pg F PUnit := do
  await n hn (tSl base s) (rSl r)
  let x ← ldR hh r
  let y ← ldT hh base b
  let _ ← ldT hh aM b
  stA hh b (shapeCast (bS h) (addf (kept fst y) x) (same h))

/-- Finish a round of three copies. -/
def take3 {h : ℕ} (fst : Bool) (hh : 0 < (bS h).numel) (base : Memref sig .tc .vmem S1024x512 .f32) (n : ℕ) (hn : n + 2 < 128) (r1 r2 r3 : RB h) (s1 s2 s3 : TB h) (b : TB h) : Pg F PUnit := do
  await n (by omega) (tSl base s1) (rSl r1)
  await (n + 1) (by omega) (tSl base s2) (rSl r2)
  await (n + 2) hn (tSl base s3) (rSl r3)
  let x1 ← ldR hh r1
  let x2 ← ldR hh r2
  let x3 ← ldR hh r3
  let y ← ldT hh base b
  let _ ← ldT hh aM b
  stA hh b (shapeCast (bS h) (addf (kept fst y) (addf (addf x1 x2) x3)) (same h))

/-- Issue a round of the gathering: the block `b` of the result to one peer, to three peers. -/
def give1 {h : ℕ} (n : ℕ) (hn : n < 128) (b : TB h) (d : Dev nD) : Pg F PUnit := copy n hn (tSl oM b) (tSl oM b) d
def give3 {h : ℕ} (n : ℕ) (hn : n + 2 < 128) (b : TB h) (d1 d2 d3 : Dev nD) : Pg F PUnit := do
  copy n (by omega) (tSl oM b) (tSl oM b) d1
  copy (n + 1) (by omega) (tSl oM b) (tSl oM b) d2
  copy (n + 2) hn (tSl oM b) (tSl oM b) d3
/-- Finish it. -/
def join1 {h : ℕ} (n : ℕ) (hn : n < 128) (b : TB h) : Pg F PUnit := await n hn (tSl oM b) (tSl oM b)
def join3 {h : ℕ} (n : ℕ) (hn : n + 2 < 128) (b : TB h) : Pg F PUnit := do
  await n (by omega) (tSl oM b) (tSl oM b)
  await (n + 1) (by omega) (tSl oM b) (tSl oM b)
  await (n + 2) hn (tSl oM b) (tSl oM b)

/-- Copy eight rows of the accumulator to the strip `r` of the landing zone. -/
def strip (b : TB 8) (r : RB 8) : Pg F PUnit := do
  let x ← ldT h_S8x256 aM b
  let _ ← ldR h_S8x256 r
  stR h_S8x256 r (shapeCast S8x256 x shapeCasts_S8x256_S8x256)

/-- Four strips, one below the other, at column `col`; then the 32 × 256 matrix they make, times 256 rows of the weights. -/
def stash (col : ℕ) (hc : col + 256 ≤ 512) (b0 b1 b2 b3 : TB 8) : Pg F (Vec F S32x256 .f32 × Vec F S256x512 .f32) := do
  strip b0 (rAt 8 1984 col (by decide) hc)
  strip b1 (rAt 8 1992 col (by decide) hc)
  strip b2 (rAt 8 2000 col (by decide) hc)
  strip b3 (rAt 8 2008 col (by decide) hc)
  let x ← ldR h_S32x256 (rAt 32 1984 col (by decide) hc)
  let w ← Prog.lift (.load wM (Rect.unit (s := S512x512) ![col, 0] S256x512.size (by intro a; fin_cases a; exacts [hc, le_refl 512])).toLoadRect (View.loadsAt_vmem h_S256x512))
  pure (x, w)

/-- Store eight rows of the product into the result. -/
abbrev OB := {o : Fin 2 → ℕ // ∀ a, o a + S8x512.size a ≤ S1024x512.size a}
def stO (b : OB) (v : Vec F S8x512 .f32) : Pg F PUnit := do
  let _ : Vec F S8x512 .f32 ← Prog.lift (.load oM (Rect.unit (s := S1024x512) b.1 S8x512.size b.2).toLoadRect (View.loadsAt_vmem h_S8x512))
  Prog.lift (.store oM (Rect.unit (s := S1024x512) b.1 S8x512.size b.2) v Finset.univ (View.stores_vmem_bits_univ h_S8x512 rfl) (.inl rfl))

/-- The product's first half. -/
abbrev dot0 (x : Vec F S32x256 .f32) (w : Vec F S256x512 .f32) : FVec F S32x512 .f32 := k0_pay30 x (k0_pay29 w)

/-- One signal to each of the seven peers, and the wait for theirs. -/
def meet (c : Dev nD) : Pg F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semSignalWord (⟨k0_dev5 c, k0_dev5_lt c⟩ : Dev nD) barS 1#32
  semSignalWord (⟨k0_dev6 c, k0_dev6_lt c⟩ : Dev nD) barS 1#32
  semSignalWord (⟨k0_dev7 c, k0_dev7_lt c⟩ : Dev nD) barS 1#32
  semWaitWord barS 7#32

def seg0 (c : Dev nD) : Pg F PUnit := do
  send1 tM 0 (by decide) (rAt 128 0 0 (by decide) (by decide)) ⟨k0_off1 c 0#32, k0_off1_inb c 0⟩ ⟨k0_dev8 c, k0_dev8_lt c⟩
  send3 tM 1 (by decide) (rAt 64 512 0 (by decide) (by decide)) (rAt 64 576 0 (by decide) (by decide)) (rAt 64 640 0 (by decide) (by decide)) ⟨k0_off2 c 1#32, k0_off2_inb c 0⟩ ⟨k0_off2 c 2#32, k0_off2_inb c 1⟩ ⟨k0_off2 c 3#32, k0_off2_inb c 2⟩ ⟨k0_dev9 c, k0_dev9_lt c⟩ ⟨k0_dev10 c, k0_dev10_lt c⟩ ⟨k0_dev11 c, k0_dev11_lt c⟩
  send3 tM 4 (by decide) (rAt 64 1024 0 (by decide) (by decide)) (rAt 64 1088 0 (by decide) (by decide)) (rAt 64 1152 0 (by decide) (by decide)) ⟨k0_off3 c 1#32, k0_off3_inb c 0⟩ ⟨k0_off3 c 2#32, k0_off3_inb c 1⟩ ⟨k0_off3 c 3#32, k0_off3_inb c 2⟩ ⟨k0_dev12 c, k0_dev12_lt c⟩ ⟨k0_dev13 c, k0_dev13_lt c⟩ ⟨k0_dev14 c, k0_dev14_lt c⟩
  send1 tM 7 (by decide) (rAt 128 1536 0 (by decide) (by decide)) ⟨k0_off1 c 768#32, k0_off1_inb c 1⟩ ⟨k0_dev15 c, k0_dev15_lt c⟩

def seg1 (c : Dev nD) : Pg F PUnit := do
  send1 tM 8 (by decide) (rAt 128 0 256 (by decide) (by decide)) ⟨k0_off4 c 0#32, k0_off4_inb c 0⟩ ⟨k0_dev16 c, k0_dev16_lt c⟩
  send3 tM 9 (by decide) (rAt 64 512 256 (by decide) (by decide)) (rAt 64 576 256 (by decide) (by decide)) (rAt 64 640 256 (by decide) (by decide)) ⟨k0_off5 c 1#32, k0_off5_inb c 0⟩ ⟨k0_off5 c 2#32, k0_off5_inb c 1⟩ ⟨k0_off5 c 3#32, k0_off5_inb c 2⟩ ⟨k0_dev17 c, k0_dev17_lt c⟩ ⟨k0_dev18 c, k0_dev18_lt c⟩ ⟨k0_dev19 c, k0_dev19_lt c⟩
  send3 tM 12 (by decide) (rAt 64 1024 256 (by decide) (by decide)) (rAt 64 1088 256 (by decide) (by decide)) (rAt 64 1152 256 (by decide) (by decide)) ⟨k0_off6 c 1#32, k0_off6_inb c 0⟩ ⟨k0_off6 c 2#32, k0_off6_inb c 1⟩ ⟨k0_off6 c 3#32, k0_off6_inb c 2⟩ ⟨k0_dev20 c, k0_dev20_lt c⟩ ⟨k0_dev21 c, k0_dev21_lt c⟩ ⟨k0_dev22 c, k0_dev22_lt c⟩
  send1 tM 15 (by decide) (rAt 128 1536 256 (by decide) (by decide)) ⟨k0_off4 c 768#32, k0_off4_inb c 1⟩ ⟨k0_dev23 c, k0_dev23_lt c⟩
  take1 true h_S128x256 tM 0 (by decide) (rAt 128 0 0 (by decide) (by decide)) ⟨k0_off1 c 0#32, k0_off1_inb c 0⟩ ⟨k0_off7 c 0#32, k0_off7_inb c 0⟩
  send3 aM 16 (by decide) (rAt 32 128 0 (by decide) (by decide)) (rAt 32 160 0 (by decide) (by decide)) (rAt 32 192 0 (by decide) (by decide)) ⟨k0_off8 c 1#32, k0_off8_inb c 0⟩ ⟨k0_off8 c 2#32, k0_off8_inb c 1⟩ ⟨k0_off8 c 3#32, k0_off8_inb c 2⟩ ⟨k0_dev24 c, k0_dev24_lt c⟩ ⟨k0_dev25 c, k0_dev25_lt c⟩ ⟨k0_dev26 c, k0_dev26_lt c⟩
  take3 true h_S64x256 tM 1 (by decide) (rAt 64 512 0 (by decide) (by decide)) (rAt 64 576 0 (by decide) (by decide)) (rAt 64 640 0 (by decide) (by decide)) ⟨k0_off2 c 1#32, k0_off2_inb c 0⟩ ⟨k0_off2 c 2#32, k0_off2_inb c 1⟩ ⟨k0_off2 c 3#32, k0_off2_inb c 2⟩ ⟨k0_off9 c, k0_off9_inb c⟩
  send3 aM 19 (by decide) (rAt 16 704 0 (by decide) (by decide)) (rAt 16 720 0 (by decide) (by decide)) (rAt 16 736 0 (by decide) (by decide)) ⟨k0_off10 c 1#32, k0_off10_inb c 0⟩ ⟨k0_off10 c 2#32, k0_off10_inb c 1⟩ ⟨k0_off10 c 3#32, k0_off10_inb c 2⟩ ⟨k0_dev27 c, k0_dev27_lt c⟩ ⟨k0_dev28 c, k0_dev28_lt c⟩ ⟨k0_dev29 c, k0_dev29_lt c⟩
  take3 true h_S64x256 tM 4 (by decide) (rAt 64 1024 0 (by decide) (by decide)) (rAt 64 1088 0 (by decide) (by decide)) (rAt 64 1152 0 (by decide) (by decide)) ⟨k0_off3 c 1#32, k0_off3_inb c 0⟩ ⟨k0_off3 c 2#32, k0_off3_inb c 1⟩ ⟨k0_off3 c 3#32, k0_off3_inb c 2⟩ ⟨k0_off11 c, k0_off11_inb c⟩
  send1 aM 22 (by decide) (rAt 32 1216 0 (by decide) (by decide)) ⟨k0_off12 c, k0_off12_inb c⟩ ⟨k0_dev30 c, k0_dev30_lt c⟩
  take1 true h_S128x256 tM 7 (by decide) (rAt 128 1536 0 (by decide) (by decide)) ⟨k0_off1 c 768#32, k0_off1_inb c 1⟩ ⟨k0_off7 c 768#32, k0_off7_inb c 1⟩
  send3 aM 23 (by decide) (rAt 32 1664 0 (by decide) (by decide)) (rAt 32 1696 0 (by decide) (by decide)) (rAt 32 1728 0 (by decide) (by decide)) ⟨k0_off13 c 1#32, k0_off13_inb c 0⟩ ⟨k0_off13 c 2#32, k0_off13_inb c 1⟩ ⟨k0_off13 c 3#32, k0_off13_inb c 2⟩ ⟨k0_dev31 c, k0_dev31_lt c⟩ ⟨k0_dev32 c, k0_dev32_lt c⟩ ⟨k0_dev33 c, k0_dev33_lt c⟩

def seg2 (c : Dev nD) : Pg F PUnit := do
  take1 true h_S128x256 tM 8 (by decide) (rAt 128 0 256 (by decide) (by decide)) ⟨k0_off4 c 0#32, k0_off4_inb c 0⟩ ⟨k0_off14 c 0#32, k0_off14_inb c 0⟩
  send3 aM 26 (by decide) (rAt 32 128 256 (by decide) (by decide)) (rAt 32 160 256 (by decide) (by decide)) (rAt 32 192 256 (by decide) (by decide)) ⟨k0_off15 c 1#32, k0_off15_inb c 0⟩ ⟨k0_off15 c 2#32, k0_off15_inb c 1⟩ ⟨k0_off15 c 3#32, k0_off15_inb c 2⟩ ⟨k0_dev34 c, k0_dev34_lt c⟩ ⟨k0_dev35 c, k0_dev35_lt c⟩ ⟨k0_dev36 c, k0_dev36_lt c⟩
  take3 true h_S64x256 tM 9 (by decide) (rAt 64 512 256 (by decide) (by decide)) (rAt 64 576 256 (by decide) (by decide)) (rAt 64 640 256 (by decide) (by decide)) ⟨k0_off5 c 1#32, k0_off5_inb c 0⟩ ⟨k0_off5 c 2#32, k0_off5_inb c 1⟩ ⟨k0_off5 c 3#32, k0_off5_inb c 2⟩ ⟨k0_off16 c, k0_off16_inb c⟩
  send3 aM 29 (by decide) (rAt 16 704 256 (by decide) (by decide)) (rAt 16 720 256 (by decide) (by decide)) (rAt 16 736 256 (by decide) (by decide)) ⟨k0_off17 c 1#32, k0_off17_inb c 0⟩ ⟨k0_off17 c 2#32, k0_off17_inb c 1⟩ ⟨k0_off17 c 3#32, k0_off17_inb c 2⟩ ⟨k0_dev37 c, k0_dev37_lt c⟩ ⟨k0_dev38 c, k0_dev38_lt c⟩ ⟨k0_dev39 c, k0_dev39_lt c⟩
  take3 true h_S64x256 tM 12 (by decide) (rAt 64 1024 256 (by decide) (by decide)) (rAt 64 1088 256 (by decide) (by decide)) (rAt 64 1152 256 (by decide) (by decide)) ⟨k0_off6 c 1#32, k0_off6_inb c 0⟩ ⟨k0_off6 c 2#32, k0_off6_inb c 1⟩ ⟨k0_off6 c 3#32, k0_off6_inb c 2⟩ ⟨k0_off18 c, k0_off18_inb c⟩
  send1 aM 32 (by decide) (rAt 32 1216 256 (by decide) (by decide)) ⟨k0_off19 c, k0_off19_inb c⟩ ⟨k0_dev40 c, k0_dev40_lt c⟩
  take1 true h_S128x256 tM 15 (by decide) (rAt 128 1536 256 (by decide) (by decide)) ⟨k0_off4 c 768#32, k0_off4_inb c 1⟩ ⟨k0_off14 c 768#32, k0_off14_inb c 1⟩
  send3 aM 33 (by decide) (rAt 32 1664 256 (by decide) (by decide)) (rAt 32 1696 256 (by decide) (by decide)) (rAt 32 1728 256 (by decide) (by decide)) ⟨k0_off20 c 1#32, k0_off20_inb c 0⟩ ⟨k0_off20 c 2#32, k0_off20_inb c 1⟩ ⟨k0_off20 c 3#32, k0_off20_inb c 2⟩ ⟨k0_dev41 c, k0_dev41_lt c⟩ ⟨k0_dev42 c, k0_dev42_lt c⟩ ⟨k0_dev43 c, k0_dev43_lt c⟩
  take3 false h_S32x256 aM 16 (by decide) (rAt 32 128 0 (by decide) (by decide)) (rAt 32 160 0 (by decide) (by decide)) (rAt 32 192 0 (by decide) (by decide)) ⟨k0_off8 c 1#32, k0_off8_inb c 0⟩ ⟨k0_off8 c 2#32, k0_off8_inb c 1⟩ ⟨k0_off8 c 3#32, k0_off8_inb c 2⟩ ⟨k0_off21 c, k0_off21_inb c⟩
  send3 aM 36 (by decide) (rAt 8 224 0 (by decide) (by decide)) (rAt 8 232 0 (by decide) (by decide)) (rAt 8 240 0 (by decide) (by decide)) ⟨k0_off22 c 1#32, k0_off22_inb c 0⟩ ⟨k0_off22 c 2#32, k0_off22_inb c 1⟩ ⟨k0_off22 c 3#32, k0_off22_inb c 2⟩ ⟨k0_dev44 c, k0_dev44_lt c⟩ ⟨k0_dev45 c, k0_dev45_lt c⟩ ⟨k0_dev46 c, k0_dev46_lt c⟩
  take3 false h_S16x256 aM 19 (by decide) (rAt 16 704 0 (by decide) (by decide)) (rAt 16 720 0 (by decide) (by decide)) (rAt 16 736 0 (by decide) (by decide)) ⟨k0_off10 c 1#32, k0_off10_inb c 0⟩ ⟨k0_off10 c 2#32, k0_off10_inb c 1⟩ ⟨k0_off10 c 3#32, k0_off10_inb c 2⟩ ⟨k0_off23 c, k0_off23_inb c⟩
  send1 aM 39 (by decide) (rAt 8 752 0 (by decide) (by decide)) ⟨k0_off24 c, k0_off24_inb c⟩ ⟨k0_dev47 c, k0_dev47_lt c⟩
  take1 false h_S32x256 aM 22 (by decide) (rAt 32 1216 0 (by decide) (by decide)) ⟨k0_off12 c, k0_off12_inb c⟩ ⟨k0_off25 c, k0_off25_inb c⟩
  send3 aM 40 (by decide) (rAt 8 1248 0 (by decide) (by decide)) (rAt 8 1256 0 (by decide) (by decide)) (rAt 8 1264 0 (by decide) (by decide)) ⟨k0_off26 c 1#32, k0_off26_inb c 0⟩ ⟨k0_off26 c 2#32, k0_off26_inb c 1⟩ ⟨k0_off26 c 3#32, k0_off26_inb c 2⟩ ⟨k0_dev48 c, k0_dev48_lt c⟩ ⟨k0_dev49 c, k0_dev49_lt c⟩ ⟨k0_dev50 c, k0_dev50_lt c⟩
  take3 false h_S32x256 aM 23 (by decide) (rAt 32 1664 0 (by decide) (by decide)) (rAt 32 1696 0 (by decide) (by decide)) (rAt 32 1728 0 (by decide) (by decide)) ⟨k0_off13 c 1#32, k0_off13_inb c 0⟩ ⟨k0_off13 c 2#32, k0_off13_inb c 1⟩ ⟨k0_off13 c 3#32, k0_off13_inb c 2⟩ ⟨k0_off27 c, k0_off27_inb c⟩
  send3 aM 43 (by decide) (rAt 8 1760 0 (by decide) (by decide)) (rAt 8 1768 0 (by decide) (by decide)) (rAt 8 1776 0 (by decide) (by decide)) ⟨k0_off28 c 1#32, k0_off28_inb c 0⟩ ⟨k0_off28 c 2#32, k0_off28_inb c 1⟩ ⟨k0_off28 c 3#32, k0_off28_inb c 2⟩ ⟨k0_dev51 c, k0_dev51_lt c⟩ ⟨k0_dev52 c, k0_dev52_lt c⟩ ⟨k0_dev53 c, k0_dev53_lt c⟩

def seg3 (c : Dev nD) : Pg F (Vec F S32x256 .f32 × Vec F S256x512 .f32) := do
  take3 false h_S32x256 aM 26 (by decide) (rAt 32 128 256 (by decide) (by decide)) (rAt 32 160 256 (by decide) (by decide)) (rAt 32 192 256 (by decide) (by decide)) ⟨k0_off15 c 1#32, k0_off15_inb c 0⟩ ⟨k0_off15 c 2#32, k0_off15_inb c 1⟩ ⟨k0_off15 c 3#32, k0_off15_inb c 2⟩ ⟨k0_off29 c, k0_off29_inb c⟩
  send3 aM 46 (by decide) (rAt 8 224 256 (by decide) (by decide)) (rAt 8 232 256 (by decide) (by decide)) (rAt 8 240 256 (by decide) (by decide)) ⟨k0_off30 c 1#32, k0_off30_inb c 0⟩ ⟨k0_off30 c 2#32, k0_off30_inb c 1⟩ ⟨k0_off30 c 3#32, k0_off30_inb c 2⟩ ⟨k0_dev54 c, k0_dev54_lt c⟩ ⟨k0_dev55 c, k0_dev55_lt c⟩ ⟨k0_dev56 c, k0_dev56_lt c⟩
  take3 false h_S16x256 aM 29 (by decide) (rAt 16 704 256 (by decide) (by decide)) (rAt 16 720 256 (by decide) (by decide)) (rAt 16 736 256 (by decide) (by decide)) ⟨k0_off17 c 1#32, k0_off17_inb c 0⟩ ⟨k0_off17 c 2#32, k0_off17_inb c 1⟩ ⟨k0_off17 c 3#32, k0_off17_inb c 2⟩ ⟨k0_off31 c, k0_off31_inb c⟩
  send1 aM 49 (by decide) (rAt 8 752 256 (by decide) (by decide)) ⟨k0_off32 c, k0_off32_inb c⟩ ⟨k0_dev57 c, k0_dev57_lt c⟩
  take1 false h_S32x256 aM 32 (by decide) (rAt 32 1216 256 (by decide) (by decide)) ⟨k0_off19 c, k0_off19_inb c⟩ ⟨k0_off33 c, k0_off33_inb c⟩
  send3 aM 50 (by decide) (rAt 8 1248 256 (by decide) (by decide)) (rAt 8 1256 256 (by decide) (by decide)) (rAt 8 1264 256 (by decide) (by decide)) ⟨k0_off34 c 1#32, k0_off34_inb c 0⟩ ⟨k0_off34 c 2#32, k0_off34_inb c 1⟩ ⟨k0_off34 c 3#32, k0_off34_inb c 2⟩ ⟨k0_dev58 c, k0_dev58_lt c⟩ ⟨k0_dev59 c, k0_dev59_lt c⟩ ⟨k0_dev60 c, k0_dev60_lt c⟩
  take3 false h_S32x256 aM 33 (by decide) (rAt 32 1664 256 (by decide) (by decide)) (rAt 32 1696 256 (by decide) (by decide)) (rAt 32 1728 256 (by decide) (by decide)) ⟨k0_off20 c 1#32, k0_off20_inb c 0⟩ ⟨k0_off20 c 2#32, k0_off20_inb c 1⟩ ⟨k0_off20 c 3#32, k0_off20_inb c 2⟩ ⟨k0_off35 c, k0_off35_inb c⟩
  send3 aM 53 (by decide) (rAt 8 1760 256 (by decide) (by decide)) (rAt 8 1768 256 (by decide) (by decide)) (rAt 8 1776 256 (by decide) (by decide)) ⟨k0_off36 c 1#32, k0_off36_inb c 0⟩ ⟨k0_off36 c 2#32, k0_off36_inb c 1⟩ ⟨k0_off36 c 3#32, k0_off36_inb c 2⟩ ⟨k0_dev61 c, k0_dev61_lt c⟩ ⟨k0_dev62 c, k0_dev62_lt c⟩ ⟨k0_dev63 c, k0_dev63_lt c⟩
  take3 false h_S8x256 aM 36 (by decide) (rAt 8 224 0 (by decide) (by decide)) (rAt 8 232 0 (by decide) (by decide)) (rAt 8 240 0 (by decide) (by decide)) ⟨k0_off22 c 1#32, k0_off22_inb c 0⟩ ⟨k0_off22 c 2#32, k0_off22_inb c 1⟩ ⟨k0_off22 c 3#32, k0_off22_inb c 2⟩ ⟨k0_off37 c, k0_off37_inb c⟩
  take1 false h_S8x256 aM 39 (by decide) (rAt 8 752 0 (by decide) (by decide)) ⟨k0_off24 c, k0_off24_inb c⟩ ⟨k0_off38 c, k0_off38_inb c⟩
  take3 false h_S8x256 aM 40 (by decide) (rAt 8 1248 0 (by decide) (by decide)) (rAt 8 1256 0 (by decide) (by decide)) (rAt 8 1264 0 (by decide) (by decide)) ⟨k0_off26 c 1#32, k0_off26_inb c 0⟩ ⟨k0_off26 c 2#32, k0_off26_inb c 1⟩ ⟨k0_off26 c 3#32, k0_off26_inb c 2⟩ ⟨k0_off39 c, k0_off39_inb c⟩
  take3 false h_S8x256 aM 43 (by decide) (rAt 8 1760 0 (by decide) (by decide)) (rAt 8 1768 0 (by decide) (by decide)) (rAt 8 1776 0 (by decide) (by decide)) ⟨k0_off28 c 1#32, k0_off28_inb c 0⟩ ⟨k0_off28 c 2#32, k0_off28_inb c 1⟩ ⟨k0_off28 c 3#32, k0_off28_inb c 2⟩ ⟨k0_off40 c, k0_off40_inb c⟩
  stash 0 (by decide) ⟨k0_off37 c, k0_off37_inb c⟩ ⟨k0_off38 c, k0_off38_inb c⟩ ⟨k0_off39 c, k0_off39_inb c⟩ ⟨k0_off40 c, k0_off40_inb c⟩

def seg4 (c : Dev nD) (p : FVec F S32x512 .f32) : Pg F PUnit := do
  take3 false h_S8x256 aM 46 (by decide) (rAt 8 224 256 (by decide) (by decide)) (rAt 8 232 256 (by decide) (by decide)) (rAt 8 240 256 (by decide) (by decide)) ⟨k0_off30 c 1#32, k0_off30_inb c 0⟩ ⟨k0_off30 c 2#32, k0_off30_inb c 1⟩ ⟨k0_off30 c 3#32, k0_off30_inb c 2⟩ ⟨k0_off41 c, k0_off41_inb c⟩
  take1 false h_S8x256 aM 49 (by decide) (rAt 8 752 256 (by decide) (by decide)) ⟨k0_off32 c, k0_off32_inb c⟩ ⟨k0_off42 c, k0_off42_inb c⟩
  take3 false h_S8x256 aM 50 (by decide) (rAt 8 1248 256 (by decide) (by decide)) (rAt 8 1256 256 (by decide) (by decide)) (rAt 8 1264 256 (by decide) (by decide)) ⟨k0_off34 c 1#32, k0_off34_inb c 0⟩ ⟨k0_off34 c 2#32, k0_off34_inb c 1⟩ ⟨k0_off34 c 3#32, k0_off34_inb c 2⟩ ⟨k0_off43 c, k0_off43_inb c⟩
  take3 false h_S8x256 aM 53 (by decide) (rAt 8 1760 256 (by decide) (by decide)) (rAt 8 1768 256 (by decide) (by decide)) (rAt 8 1776 256 (by decide) (by decide)) ⟨k0_off36 c 1#32, k0_off36_inb c 0⟩ ⟨k0_off36 c 2#32, k0_off36_inb c 1⟩ ⟨k0_off36 c 3#32, k0_off36_inb c 2⟩ ⟨k0_off44 c, k0_off44_inb c⟩
  let xw1 ← stash 256 (by decide) ⟨k0_off41 c, k0_off41_inb c⟩ ⟨k0_off42 c, k0_off42_inb c⟩ ⟨k0_off43 c, k0_off43_inb c⟩ ⟨k0_off44 c, k0_off44_inb c⟩
  stO ⟨k0_off45 c, k0_off45_inb c⟩ (k0_pay40 p xw1.1 xw1.2)
  stO ⟨k0_off46 c, k0_off46_inb c⟩ (k0_pay41 p xw1.1 xw1.2)
  stO ⟨k0_off47 c, k0_off47_inb c⟩ (k0_pay42 p xw1.1 xw1.2)
  stO ⟨k0_off48 c, k0_off48_inb c⟩ (k0_pay43 p xw1.1 xw1.2)
  give3 56 (by decide) ⟨k0_off49 c, k0_off49_inb c⟩ ⟨k0_dev64 c, k0_dev64_lt c⟩ ⟨k0_dev65 c, k0_dev65_lt c⟩ ⟨k0_dev66 c, k0_dev66_lt c⟩
  give1 59 (by decide) ⟨k0_off50 c, k0_off50_inb c⟩ ⟨k0_dev67 c, k0_dev67_lt c⟩
  give3 60 (by decide) ⟨k0_off51 c, k0_off51_inb c⟩ ⟨k0_dev68 c, k0_dev68_lt c⟩ ⟨k0_dev69 c, k0_dev69_lt c⟩ ⟨k0_dev70 c, k0_dev70_lt c⟩
  give3 63 (by decide) ⟨k0_off52 c, k0_off52_inb c⟩ ⟨k0_dev71 c, k0_dev71_lt c⟩ ⟨k0_dev72 c, k0_dev72_lt c⟩ ⟨k0_dev73 c, k0_dev73_lt c⟩

def seg5 (c : Dev nD) : Pg F PUnit := do
  give3 66 (by decide) ⟨k0_off53 c, k0_off53_inb c⟩ ⟨k0_dev74 c, k0_dev74_lt c⟩ ⟨k0_dev75 c, k0_dev75_lt c⟩ ⟨k0_dev76 c, k0_dev76_lt c⟩
  give1 69 (by decide) ⟨k0_off54 c, k0_off54_inb c⟩ ⟨k0_dev77 c, k0_dev77_lt c⟩
  give3 70 (by decide) ⟨k0_off55 c, k0_off55_inb c⟩ ⟨k0_dev78 c, k0_dev78_lt c⟩ ⟨k0_dev79 c, k0_dev79_lt c⟩ ⟨k0_dev80 c, k0_dev80_lt c⟩
  give3 73 (by decide) ⟨k0_off56 c, k0_off56_inb c⟩ ⟨k0_dev81 c, k0_dev81_lt c⟩ ⟨k0_dev82 c, k0_dev82_lt c⟩ ⟨k0_dev83 c, k0_dev83_lt c⟩
  join3 56 (by decide) ⟨k0_off49 c, k0_off49_inb c⟩
  give3 76 (by decide) ⟨k0_off57 c, k0_off57_inb c⟩ ⟨k0_dev84 c, k0_dev84_lt c⟩ ⟨k0_dev85 c, k0_dev85_lt c⟩ ⟨k0_dev86 c, k0_dev86_lt c⟩
  join1 59 (by decide) ⟨k0_off50 c, k0_off50_inb c⟩
  give3 79 (by decide) ⟨k0_off58 c, k0_off58_inb c⟩ ⟨k0_dev87 c, k0_dev87_lt c⟩ ⟨k0_dev88 c, k0_dev88_lt c⟩ ⟨k0_dev89 c, k0_dev89_lt c⟩
  join3 60 (by decide) ⟨k0_off51 c, k0_off51_inb c⟩
  give1 82 (by decide) ⟨k0_off59 c, k0_off59_inb c⟩ ⟨k0_dev90 c, k0_dev90_lt c⟩
  join3 63 (by decide) ⟨k0_off52 c, k0_off52_inb c⟩
  give3 83 (by decide) ⟨k0_off60 c, k0_off60_inb c⟩ ⟨k0_dev91 c, k0_dev91_lt c⟩ ⟨k0_dev92 c, k0_dev92_lt c⟩ ⟨k0_dev93 c, k0_dev93_lt c⟩

def seg6 (c : Dev nD) : Pg F PUnit := do
  join3 66 (by decide) ⟨k0_off53 c, k0_off53_inb c⟩
  give3 86 (by decide) ⟨k0_off61 c, k0_off61_inb c⟩ ⟨k0_dev94 c, k0_dev94_lt c⟩ ⟨k0_dev95 c, k0_dev95_lt c⟩ ⟨k0_dev96 c, k0_dev96_lt c⟩
  join1 69 (by decide) ⟨k0_off54 c, k0_off54_inb c⟩
  give3 89 (by decide) ⟨k0_off62 c, k0_off62_inb c⟩ ⟨k0_dev97 c, k0_dev97_lt c⟩ ⟨k0_dev98 c, k0_dev98_lt c⟩ ⟨k0_dev99 c, k0_dev99_lt c⟩
  join3 70 (by decide) ⟨k0_off55 c, k0_off55_inb c⟩
  give1 92 (by decide) ⟨k0_off63 c, k0_off63_inb c⟩ ⟨k0_dev100 c, k0_dev100_lt c⟩
  join3 73 (by decide) ⟨k0_off56 c, k0_off56_inb c⟩
  give3 93 (by decide) ⟨k0_off64 c, k0_off64_inb c⟩ ⟨k0_dev101 c, k0_dev101_lt c⟩ ⟨k0_dev102 c, k0_dev102_lt c⟩ ⟨k0_dev103 c, k0_dev103_lt c⟩
  join3 76 (by decide) ⟨k0_off57 c, k0_off57_inb c⟩
  give1 96 (by decide) ⟨k0_off65 c, k0_off65_inb c⟩ ⟨k0_dev104 c, k0_dev104_lt c⟩
  join3 79 (by decide) ⟨k0_off58 c, k0_off58_inb c⟩
  give3 97 (by decide) ⟨k0_off66 c, k0_off66_inb c⟩ ⟨k0_dev105 c, k0_dev105_lt c⟩ ⟨k0_dev106 c, k0_dev106_lt c⟩ ⟨k0_dev107 c, k0_dev107_lt c⟩
  join1 82 (by decide) ⟨k0_off59 c, k0_off59_inb c⟩
  give3 100 (by decide) ⟨k0_off67 c, k0_off67_inb c⟩ ⟨k0_dev108 c, k0_dev108_lt c⟩ ⟨k0_dev109 c, k0_dev109_lt c⟩ ⟨k0_dev110 c, k0_dev110_lt c⟩
  join3 83 (by decide) ⟨k0_off60 c, k0_off60_inb c⟩
  give1 103 (by decide) ⟨k0_off68 c, k0_off68_inb c⟩ ⟨k0_dev111 c, k0_dev111_lt c⟩

def seg7 (c : Dev nD) : Pg F PUnit := do
  join3 86 (by decide) ⟨k0_off61 c, k0_off61_inb c⟩
  give1 104 (by decide) ⟨k0_off69 c, k0_off69_inb c⟩ ⟨k0_dev112 c, k0_dev112_lt c⟩
  join3 89 (by decide) ⟨k0_off62 c, k0_off62_inb c⟩
  give3 105 (by decide) ⟨k0_off70 c, k0_off70_inb c⟩ ⟨k0_dev113 c, k0_dev113_lt c⟩ ⟨k0_dev114 c, k0_dev114_lt c⟩ ⟨k0_dev115 c, k0_dev115_lt c⟩
  join1 92 (by decide) ⟨k0_off63 c, k0_off63_inb c⟩
  give3 108 (by decide) ⟨k0_off71 c, k0_off71_inb c⟩ ⟨k0_dev116 c, k0_dev116_lt c⟩ ⟨k0_dev117 c, k0_dev117_lt c⟩ ⟨k0_dev118 c, k0_dev118_lt c⟩
  join3 93 (by decide) ⟨k0_off64 c, k0_off64_inb c⟩
  give1 111 (by decide) ⟨k0_off72 c, k0_off72_inb c⟩ ⟨k0_dev119 c, k0_dev119_lt c⟩
  join1 96 (by decide) ⟨k0_off65 c, k0_off65_inb c⟩
  join3 97 (by decide) ⟨k0_off66 c, k0_off66_inb c⟩
  join3 100 (by decide) ⟨k0_off67 c, k0_off67_inb c⟩
  join1 103 (by decide) ⟨k0_off68 c, k0_off68_inb c⟩

def seg8 (c : Dev nD) : Pg F PUnit := do
  join1 104 (by decide) ⟨k0_off69 c, k0_off69_inb c⟩
  join3 105 (by decide) ⟨k0_off70 c, k0_off70_inb c⟩
  join3 108 (by decide) ⟨k0_off71 c, k0_off71_inb c⟩
  join1 111 (by decide) ⟨k0_off72 c, k0_off72_inb c⟩

/-- The whole body. -/
def prog (c : Dev nD) : Pg F PUnit := do
  meet c
  seg0 c
  seg1 c
  seg2 c
  let xw ← seg3 c
  seg4 c (dot0 xw.1 xw.2)
  seg5 c
  seg6 c
  seg7 c
  seg8 c

def prog' : Pg F PUnit := do
  let c : Dev nD ← Prog.lift .deviceId
  prog c

end Cert.KernelIdeal.AR
-- ==== Proof.Geo.lean ====
/-
The arithmetic of the exchange: the devices as a 2 × 4 × 4 grid, the three rounds of the four streams, the blocks
that move, and the table of the 112 copies.  Everything here is about natural numbers; each fact is a check over
the 32 devices.
-/
module

public import proofs.«01_k».proof.Proof.Program

@[expose] public section

namespace Cert.KernelIdeal.AR

open Cert.KernelIdeal Cert.KernelIdeal.Gen Idealize.ShloMosaic

/-- Device `c`'s coordinate on axis `a`: 0 is x (two places), 1 is y, 2 is z (four places each). -/
def dg (a c : ℕ) : ℕ := if a = 0 then (c + c / 2) % 2 else if a = 1 then c / 2 % 4 else c / 8
/-- The number of places on an axis. -/
def ar (a : ℕ) : ℕ := if a = 0 then 2 else 4
/-- The device at `(x, y, z)`. -/
def mkD (x y z : ℕ) : ℕ := 8 * z + 2 * y + (x + y) % 2
/-- The device `k` places on along axis `a`. -/
def shN (a k c : ℕ) : ℕ :=
  if a = 0 then mkD ((dg 0 c + k) % 2) (dg 1 c) (dg 2 c)
  else if a = 1 then mkD (dg 0 c) ((dg 1 c + k) % 4) (dg 2 c)
  else mkD (dg 0 c) (dg 1 c) ((dg 2 c + k) % 4)
def sh (a k : ℕ) (c : Dev nD) : Dev nD := ⟨shN a k c.val % 32, Nat.mod_lt _ (by decide)⟩

/-- The axis of round `r` of stream `s`. -/
def ax (s r : ℕ) : ℕ := if s = 0 then r else if s = 1 then (r + 1) % 3 else if s = 2 then (r + 2) % 3 else (if r = 0 then 0 else 3 - r)
/-- The rows a device answers for in stream `s` before round `r`, and the first of them. -/
def ht (s : ℕ) : ℕ → ℕ
  | 0 => 256
  | r + 1 => ht s r / ar (ax s r)
def lo (s : ℕ) : ℕ → ℕ → ℕ
  | 0, _ => 256 * s
  | r + 1, c => lo s r c + ht s (r + 1) * dg (ax s r) c
/-- The first row of the block that the device `k` places on answers for after round `r`. -/
def blk (s r k c : ℕ) : ℕ := lo s r c + ht s (r + 1) * ((dg (ax s r) c + k) % ar (ax s r))
/-- Where in the landing zone the block from the device `k` places before lands in round `r`. -/
def rbo (s r k : ℕ) : ℕ :=
  512 * s + (if r = 0 then 0 else (ar (ax s 0) - 1) * ht s 1) + (if r = 2 then (ar (ax s 1) - 1) * ht s 2 else 0) + (k - 1) * ht s (r + 1)

/-- One copy: gathering or not, stream, column half, round, and how many places on it goes. -/
structure Cp where
  ag : Bool
  s : ℕ
  hf : ℕ
  r : ℕ
  k : ℕ
deriving DecidableEq

/-- The copies in the order in which they are issued. -/
def cpL : List Cp := [
    ⟨false, 0, 0, 0, 1⟩, ⟨false, 1, 0, 0, 1⟩, ⟨false, 1, 0, 0, 2⟩, ⟨false, 1, 0, 0, 3⟩, ⟨false, 2, 0, 0, 1⟩, ⟨false, 2, 0, 0, 2⟩, ⟨false, 2, 0, 0, 3⟩, ⟨false, 3, 0, 0, 1⟩,
    ⟨false, 0, 1, 0, 1⟩, ⟨false, 1, 1, 0, 1⟩, ⟨false, 1, 1, 0, 2⟩, ⟨false, 1, 1, 0, 3⟩, ⟨false, 2, 1, 0, 1⟩, ⟨false, 2, 1, 0, 2⟩, ⟨false, 2, 1, 0, 3⟩, ⟨false, 3, 1, 0, 1⟩,
    ⟨false, 0, 0, 1, 1⟩, ⟨false, 0, 0, 1, 2⟩, ⟨false, 0, 0, 1, 3⟩, ⟨false, 1, 0, 1, 1⟩, ⟨false, 1, 0, 1, 2⟩, ⟨false, 1, 0, 1, 3⟩, ⟨false, 2, 0, 1, 1⟩, ⟨false, 3, 0, 1, 1⟩,
    ⟨false, 3, 0, 1, 2⟩, ⟨false, 3, 0, 1, 3⟩, ⟨false, 0, 1, 1, 1⟩, ⟨false, 0, 1, 1, 2⟩, ⟨false, 0, 1, 1, 3⟩, ⟨false, 1, 1, 1, 1⟩, ⟨false, 1, 1, 1, 2⟩, ⟨false, 1, 1, 1, 3⟩,
    ⟨false, 2, 1, 1, 1⟩, ⟨false, 3, 1, 1, 1⟩, ⟨false, 3, 1, 1, 2⟩, ⟨false, 3, 1, 1, 3⟩, ⟨false, 0, 0, 2, 1⟩, ⟨false, 0, 0, 2, 2⟩, ⟨false, 0, 0, 2, 3⟩, ⟨false, 1, 0, 2, 1⟩,
    ⟨false, 2, 0, 2, 1⟩, ⟨false, 2, 0, 2, 2⟩, ⟨false, 2, 0, 2, 3⟩, ⟨false, 3, 0, 2, 1⟩, ⟨false, 3, 0, 2, 2⟩, ⟨false, 3, 0, 2, 3⟩, ⟨false, 0, 1, 2, 1⟩, ⟨false, 0, 1, 2, 2⟩,
    ⟨false, 0, 1, 2, 3⟩, ⟨false, 1, 1, 2, 1⟩, ⟨false, 2, 1, 2, 1⟩, ⟨false, 2, 1, 2, 2⟩, ⟨false, 2, 1, 2, 3⟩, ⟨false, 3, 1, 2, 1⟩, ⟨false, 3, 1, 2, 2⟩, ⟨false, 3, 1, 2, 3⟩,
    ⟨true, 0, 0, 2, 1⟩, ⟨true, 0, 0, 2, 2⟩, ⟨true, 0, 0, 2, 3⟩, ⟨true, 1, 0, 2, 1⟩, ⟨true, 2, 0, 2, 1⟩, ⟨true, 2, 0, 2, 2⟩, ⟨true, 2, 0, 2, 3⟩, ⟨true, 3, 0, 2, 1⟩,
    ⟨true, 3, 0, 2, 2⟩, ⟨true, 3, 0, 2, 3⟩, ⟨true, 0, 1, 2, 1⟩, ⟨true, 0, 1, 2, 2⟩, ⟨true, 0, 1, 2, 3⟩, ⟨true, 1, 1, 2, 1⟩, ⟨true, 2, 1, 2, 1⟩, ⟨true, 2, 1, 2, 2⟩,
    ⟨true, 2, 1, 2, 3⟩, ⟨true, 3, 1, 2, 1⟩, ⟨true, 3, 1, 2, 2⟩, ⟨true, 3, 1, 2, 3⟩, ⟨true, 0, 0, 1, 1⟩, ⟨true, 0, 0, 1, 2⟩, ⟨true, 0, 0, 1, 3⟩, ⟨true, 1, 0, 1, 1⟩,
    ⟨true, 1, 0, 1, 2⟩, ⟨true, 1, 0, 1, 3⟩, ⟨true, 2, 0, 1, 1⟩, ⟨true, 3, 0, 1, 1⟩, ⟨true, 3, 0, 1, 2⟩, ⟨true, 3, 0, 1, 3⟩, ⟨true, 0, 1, 1, 1⟩, ⟨true, 0, 1, 1, 2⟩,
    ⟨true, 0, 1, 1, 3⟩, ⟨true, 1, 1, 1, 1⟩, ⟨true, 1, 1, 1, 2⟩, ⟨true, 1, 1, 1, 3⟩, ⟨true, 2, 1, 1, 1⟩, ⟨true, 3, 1, 1, 1⟩, ⟨true, 3, 1, 1, 2⟩, ⟨true, 3, 1, 1, 3⟩,
    ⟨true, 0, 0, 0, 1⟩, ⟨true, 1, 0, 0, 1⟩, ⟨true, 1, 0, 0, 2⟩, ⟨true, 1, 0, 0, 3⟩, ⟨true, 2, 0, 0, 1⟩, ⟨true, 2, 0, 0, 2⟩, ⟨true, 2, 0, 0, 3⟩, ⟨true, 3, 0, 0, 1⟩,
    ⟨true, 0, 1, 0, 1⟩, ⟨true, 1, 1, 0, 1⟩, ⟨true, 1, 1, 0, 2⟩, ⟨true, 1, 1, 0, 3⟩, ⟨true, 2, 1, 0, 1⟩, ⟨true, 2, 1, 0, 2⟩, ⟨true, 2, 1, 0, 3⟩, ⟨true, 3, 1, 0, 1⟩
  ]
abbrev Ix := Fin 112
def cp (n : Ix) : Cp := cpL.getD n.val ⟨false, 0, 0, 0, 0⟩

/-- Where copy `n` of device `c` goes, and where the one it receives comes from. -/
def dst (n : Ix) (c : Dev nD) : Dev nD := sh (ax (cp n).s (cp n).r) (cp n).k c
def src (n : Ix) (c : Dev nD) : Dev nD := sh (ax (cp n).s (cp n).r) (ar (ax (cp n).s (cp n).r) - (cp n).k) c
/-- The rows of a copy. -/
def hn (n : Ix) : ℕ := ht (cp n).s ((cp n).r + 1)
/-- The first row of the block that device `c` sends as copy `n`. -/
def so (n : Ix) (c : ℕ) : ℕ := if (cp n).ag then lo (cp n).s ((cp n).r + 1) c else blk (cp n).s (cp n).r (cp n).k c
/-- The first row of its place in the landing zone. -/
def ro (n : Ix) : ℕ := rbo (cp n).s (cp n).r (cp n).k

theorem src_dst (n : Ix) (c : Dev nD) : src n (dst n c) = c := by revert n c; decide +kernel
theorem dst_src (n : Ix) (c : Dev nD) : dst n (src n c) = c := by revert n c; decide +kernel

/-- The seven peers. -/
def peerAx (b : Fin 7) : ℕ := if b.val = 0 then 0 else if b.val ≤ 3 then 1 else 2
def peerK (b : Fin 7) : ℕ := if b.val = 0 then 1 else if b.val ≤ 3 then b.val else b.val - 3
def peer (b : Fin 7) (c : Dev nD) : Dev nD := sh (peerAx b) (peerK b) c
/-- The way back. -/
def back (b : Fin 7) : Fin 7 := ![0, 3, 2, 1, 6, 5, 4] b
/-- Which peer copy `n` goes to. -/
def cls (n : Ix) : Fin 7 :=
  ⟨(if ax (cp n).s (cp n).r = 0 then 0 else if ax (cp n).s (cp n).r = 1 then (cp n).k else 3 + (cp n).k) % 7, Nat.mod_lt _ (by decide)⟩

theorem back_back (b : Fin 7) : back (back b) = b := by revert b; decide
theorem peer_back (b : Fin 7) (c : Dev nD) : peer (back b) (peer b c) = c := by revert b c; decide +kernel
theorem dst_eq (n : Ix) (c : Dev nD) : dst n c = peer (cls n) c := by revert n c; decide +kernel
theorem peer_inj (c : Dev nD) (b b' : Fin 7) (h : peer b c = peer b' c) : b = b' := by revert c b b'; decide +kernel

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 6 c := by revert c; decide +kernel

/-- Every block lies inside its buffer. -/
theorem so_le (n : Ix) (c : Dev nD) : so n c.val + hn n ≤ 1024 := by revert n c; decide +kernel
theorem ro_le (n : Ix) : ro n + hn n ≤ 2048 := by revert n; decide +kernel
theorem hf_lt (n : Ix) : (cp n).hf < 2 := by revert n; decide +kernel

/-- What a device sends to a peer is the block that the peer keeps. -/
theorem so_keep (n : Ix) (c : Dev nD) : so n (src n c).val = if (cp n).ag then lo (cp n).s ((cp n).r + 1) (src n c).val else lo (cp n).s ((cp n).r + 1) c.val := by
  revert n c; decide +kernel

/-- Two rectangles (first row, rows, half) that have no element in common. -/
abbrev Apart (a h p b g q : ℕ) : Prop := a + h ≤ b ∨ b + g ≤ a ∨ p ≠ q

theorem cp_ok (n : Ix) : (cp n).s < 4 ∧ (cp n).hf < 2 ∧ (cp n).r < 3 ∧ 1 ≤ (cp n).k ∧ (cp n).k < ar (ax (cp n).s (cp n).r) := by revert n; decide +kernel
theorem cp_inj (n m : Ix) (h : cp n = cp m) : n = m := by revert n m; decide +kernel
theorem ar_le (a : ℕ) : ar a ≤ 4 := by unfold ar; split <;> decide
/-- The block of the device `k` places on, by that device's own account. -/
theorem blk_lo (s : Fin 4) (r : Fin 3) (k : Fin 4) (c : Dev nD) : lo s.val (r.val + 1) (sh (ax s.val r.val) k.val c).val = blk s.val r.val k.val c.val := by
  revert s r k c; decide +kernel
theorem rbo_apart_s (s : Fin 4) (r r' : Fin 3) (k k' : Fin 4) (h : 1 ≤ k.val ∧ k.val < ar (ax s.val r.val)) (h' : 1 ≤ k'.val ∧ k'.val < ar (ax s.val r'.val))
    (hne : (r, k) ≠ (r', k')) : rbo s.val r.val k.val + ht s.val (r.val + 1) ≤ rbo s.val r'.val k'.val ∨ rbo s.val r'.val k'.val + ht s.val (r'.val + 1) ≤ rbo s.val r.val k.val := by
  revert s r r' k k'; decide +kernel
theorem rbo_in (s : Fin 4) (r : Fin 3) (k : Fin 4) (h : 1 ≤ k.val ∧ k.val < ar (ax s.val r.val)) :
    512 * s.val ≤ rbo s.val r.val k.val ∧ rbo s.val r.val k.val + ht s.val (r.val + 1) ≤ 512 * s.val + 448 := by
  revert s r k; decide +kernel
theorem blk_apart_s (c : Dev nD) (s : Fin 4) (r r' : Fin 3) (k k' : Fin 4) (h : 1 ≤ k.val ∧ k.val < ar (ax s.val r.val)) (h' : 1 ≤ k'.val ∧ k'.val < ar (ax s.val r'.val))
    (hne : (r, k) ≠ (r', k')) : blk s.val r.val k.val c.val + ht s.val (r.val + 1) ≤ blk s.val r'.val k'.val c.val
      ∨ blk s.val r'.val k'.val c.val + ht s.val (r'.val + 1) ≤ blk s.val r.val k.val c.val := by
  revert c s r r' k k'; decide +kernel
theorem blk_in (s : Fin 4) (r : Fin 3) (k : Fin 4) (c : Dev nD) :
    256 * s.val ≤ blk s.val r.val k.val c.val ∧ blk s.val r.val k.val c.val + ht s.val (r.val + 1) ≤ 256 * s.val + 256 := by
  revert s r k c; decide +kernel

/-- The places in the landing zone are apart, and below the strips of the product. -/
theorem ro_apart (n m : Ix) (hn' : (cp n).ag = false) (hm : (cp m).ag = false) (h : n ≠ m) :
    Apart (ro n) (hn n) (cp n).hf (ro m) (hn m) (cp m).hf := by
  have hcp : cp n ≠ cp m := fun e => h (cp_inj n m e)
  obtain ⟨a1, a2, a3, a4, a5⟩ := cp_ok n
  obtain ⟨b1, b2, b3, b4, b5⟩ := cp_ok m
  unfold ro hn Apart
  revert a1 a2 a3 a4 a5 b1 b2 b3 b4 b5 hn' hm hcp
  obtain ⟨g, s, f, r, k⟩ := cp n
  obtain ⟨g', s', f', r', k'⟩ := cp m
  intro hg hg' hne a1 a2 a3 a4 a5 b1 b2 b3 b4 b5
  dsimp only at *
  have k4 := lt_of_lt_of_le a5 (ar_le _)
  have k4' := lt_of_lt_of_le b5 (ar_le _)
  by_cases hs : s = s'
  · subst hs
    by_cases hf : f = f'
    · subst hf
      have := rbo_apart_s ⟨s, a1⟩ ⟨r, a3⟩ ⟨r', b3⟩ ⟨k, k4⟩ ⟨k', k4'⟩ ⟨a4, a5⟩ ⟨b4, b5⟩ (fun e => hne (by
        rw [Prod.mk.injEq, Fin.mk.injEq, Fin.mk.injEq] at e
        rw [hg, hg', e.1, e.2]))
      dsimp only at this
      omega
    · exact .inr (.inr hf)
  · have h1 := rbo_in ⟨s, a1⟩ ⟨r, a3⟩ ⟨k, k4⟩ ⟨a4, a5⟩
    have h2 := rbo_in ⟨s', b1⟩ ⟨r', b3⟩ ⟨k', k4'⟩ ⟨b4, b5⟩
    dsimp only at h1 h2
    omega
theorem ro_low (n : Ix) (hn' : (cp n).ag = false) : ro n + hn n ≤ 1984 := by revert n; decide +kernel
/-- The block that comes to a device in the gathering, by its own account. -/
theorem so_ag (n : Ix) (c : Dev nD) (h : (cp n).ag = true) :
    so n (src n c).val = blk (cp n).s (cp n).r (ar (ax (cp n).s (cp n).r) - (cp n).k) c.val := by revert n c; decide +kernel
/-- The blocks that come to a device in the gathering are apart, and apart from its own. -/
theorem land_apart (c : Dev nD) (n m : Ix) (hn' : (cp n).ag = true) (hm : (cp m).ag = true) (h : n ≠ m) :
    Apart (so n (src n c).val) (hn n) (cp n).hf (so m (src m c).val) (hn m) (cp m).hf := by
  have hcp : cp n ≠ cp m := fun e => h (cp_inj n m e)
  obtain ⟨a1, a2, a3, a4, a5⟩ := cp_ok n
  obtain ⟨b1, b2, b3, b4, b5⟩ := cp_ok m
  rw [so_ag n c hn', so_ag m c hm]
  unfold hn Apart
  revert a1 a2 a3 a4 a5 b1 b2 b3 b4 b5 hn' hm hcp
  obtain ⟨g, s, f, r, k⟩ := cp n
  obtain ⟨g', s', f', r', k'⟩ := cp m
  intro hg hg' hne a1 a2 a3 a4 a5 b1 b2 b3 b4 b5
  dsimp only at *
  have l1 := ar_le (ax s r)
  have l2 := ar_le (ax s' r')
  by_cases hs : s = s'
  · subst hs
    by_cases hf : f = f'
    · subst hf
      have := blk_apart_s c ⟨s, a1⟩ ⟨r, a3⟩ ⟨r', b3⟩ ⟨ar (ax s r) - k, by omega⟩ ⟨ar (ax s r') - k', by omega⟩ ⟨by dsimp only; omega, by dsimp only; omega⟩
        ⟨by dsimp only; omega, by dsimp only; omega⟩ (fun e => hne (by
        rw [Prod.mk.injEq, Fin.mk.injEq, Fin.mk.injEq] at e
        obtain ⟨e1, e2⟩ := e
        subst e1
        have : k = k' := by omega
        rw [hg, hg', this]))
      dsimp only at this
      omega
    · exact .inr (.inr hf)
  · have h1 := blk_in ⟨s, a1⟩ ⟨r, a3⟩ ⟨ar (ax s r) - k, by omega⟩ c
    have h2 := blk_in ⟨s', b1⟩ ⟨r', b3⟩ ⟨ar (ax s' r') - k', by omega⟩ c
    dsimp only at h1 h2
    omega
theorem land_own (c : Dev nD) (n : Ix) (s : Fin 4) (hn' : (cp n).ag = true) :
    so n (src n c).val + hn n ≤ lo s.val 3 c.val ∨ lo s.val 3 c.val + 8 ≤ so n (src n c).val := by revert c n s; decide +kernel
theorem own_apart (c : Dev nD) (s s' : Fin 4) (h : s ≠ s') : lo s.val 3 c.val + 8 ≤ lo s'.val 3 c.val ∨ lo s'.val 3 c.val + 8 ≤ lo s.val 3 c.val := by
  revert c s s'; decide +kernel

/-- The rows before round `r` are the block kept and the blocks sent. -/
theorem ht_eq (s : Fin 4) (r : Fin 3) : ht s.val r.val = ar (ax s.val r.val) * ht s.val (r.val + 1) := by revert s r; decide +kernel
theorem ht_three (s : Fin 4) : ht s.val 3 = 8 := by revert s; decide +kernel
theorem lo_le (s : Fin 4) (r : Fin 4) (c : Dev nD) : 256 * s.val ≤ lo s.val r.val c.val ∧ lo s.val r.val c.val + ht s.val r.val ≤ 256 * s.val + 256 := by
  revert s r c; decide +kernel
theorem dg_lt (a : Fin 3) (c : Dev nD) : dg a.val c.val < ar a.val := by revert a c; decide +kernel
theorem ax_lt (s : Fin 4) (r : Fin 3) : ax s.val r.val < 3 := by revert s r; decide +kernel

end Cert.KernelIdeal.AR
-- ==== Proof.Mem.lean ====
/-
Memory by rows and columns.  The kernel's buffers are held in rectangles: `h` rows from row `a` and one half of the
columns.  Here are the rectangles as sets of indices, what it is to hold one, and the load, the store and the copy
of a rectangle in those terms.
-/
module

public import proofs.«01_k».proof.Proof.Geo
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's and the exchange's, the latter with seven names for a cell's duties. -/
abbrev D := Fin 7
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- A program of device `c` with its postcondition. -/
abbrev wpc (c : Dev nD) {α : Type} (p : Pg F α) (Q : α → sProp 𝕄) : sProp 𝕄 :=
  wp frame (wpE (defs₀ (F := F)) 𝒱₀ (c : Thread nD τ) none) Set.univ p Q

/-- Contents and indices of the large buffers and of the landing zone. -/
abbrev TI := S1024x512.Idx
abbrev RI := S2048x512.Idx
abbrev TC (F : FTy → Type) := TI → F .f32
abbrev RC (F : FTy → Type) := RI → F .f32

/-- Rows `a` to `a + h` and the columns of half `p`. -/
def tset (a h p : ℕ) : Finset TI := Finset.univ.filter fun i => (a ≤ (i 0 : ℕ) ∧ (i 0 : ℕ) < a + h) ∧ 256 * p ≤ (i 1 : ℕ) ∧ (i 1 : ℕ) < 256 * p + 256
def rset (a h p : ℕ) : Finset RI := Finset.univ.filter fun i => (a ≤ (i 0 : ℕ) ∧ (i 0 : ℕ) < a + h) ∧ 256 * p ≤ (i 1 : ℕ) ∧ (i 1 : ℕ) < 256 * p + 256
/-- Rows `a` to `a + h`, all columns. -/
def wset (a h : ℕ) : Finset TI := Finset.univ.filter fun i => a ≤ (i 0 : ℕ) ∧ (i 0 : ℕ) < a + h

theorem mem_tset {a h p : ℕ} {i : TI} : i ∈ tset a h p ↔ (a ≤ (i 0 : ℕ) ∧ (i 0 : ℕ) < a + h) ∧ 256 * p ≤ (i 1 : ℕ) ∧ (i 1 : ℕ) < 256 * p + 256 := by
  unfold tset; rw [Finset.mem_filter]; exact and_iff_right (Finset.mem_univ _)
theorem mem_rset {a h p : ℕ} {i : RI} : i ∈ rset a h p ↔ (a ≤ (i 0 : ℕ) ∧ (i 0 : ℕ) < a + h) ∧ 256 * p ≤ (i 1 : ℕ) ∧ (i 1 : ℕ) < 256 * p + 256 := by
  unfold rset; rw [Finset.mem_filter]; exact and_iff_right (Finset.mem_univ _)
theorem mem_wset {a h : ℕ} {i : TI} : i ∈ wset a h ↔ a ≤ (i 0 : ℕ) ∧ (i 0 : ℕ) < a + h := by
  unfold wset; rw [Finset.mem_filter]; exact and_iff_right (Finset.mem_univ _)

/-- A table of rows and columns as the contents of a buffer. -/
def bufOf (g : ℕ → ℕ → F .f32) : TC F := fun i => g (i 0) (i 1)

/-- The three buffers of 1024 rows: the argument's block, the accumulator, the result. -/
inductive Bf | t | a | o
abbrev Bf.m : Bf → Memref sig .tc .vmem S1024x512 .f32
  | .t => tM
  | .a => aM
  | .o => oM

/-- Device `c` holds the elements `S` of a buffer at contents `f`. -/
def pt (x : Bf) (c : Dev nD) (S : Finset TI) (q : PosShare TreeShare) (f : TC F) : sProp 𝕄 :=
  match x with
  | .t => ((c : Thread nD τ).loc cc0_stg0_0) ↦[S]{q} f
  | .a => ((c : Thread nD τ).loc cc0_scratch0) ↦[S]{q} f
  | .o => ((c : Thread nD τ).loc cc0_stg2_0) ↦[S]{q} f
/-- The same of the landing zone. -/
def ptR (c : Dev nD) (S : Finset RI) (f : RC F) : sProp 𝕄 := ((c : Thread nD τ).loc cc0_scratch1) ↦[S]{fullShare} f

instance pt_storable (x : Bf) (c : Dev nD) (S q) (f : TC F) : BI.Storable (upEmb : UEmb _ 𝕄) (pt x c S q f) := by
  cases x <;> (unfold pt; infer_instance)
instance ptR_storable (c : Dev nD) (S) (f : RC F) : BI.Storable (upEmb : UEmb _ 𝕄) (ptR c S f) := by unfold ptR; infer_instance

theorem pt_congr (x : Bf) (c : Dev nD) (S q) {f g : TC F} (h : ∀ i ∈ S, f i = g i) : pt x c S q f = pt x c S q g := by
  cases x <;> exact pointsTo_congr h
theorem ptR_congr (c : Dev nD) (S) {f g : RC F} (h : ∀ i ∈ S, f i = g i) : ptR c S f = ptR c S g := pointsTo_congr h
theorem pt_split (x : Bf) (c : Dev nD) {I S} (q) (f : TC F) (h : I ⊆ S) : pt x c S q f ⊣⊢ iprop(pt x c I q f ∗ pt x c (S \ I) q f) := by
  cases x <;> exact pointsTo_split_subset h
theorem ptR_split (c : Dev nD) {I S} (f : RC F) (h : I ⊆ S) : ptR c S f ⊣⊢ iprop(ptR c I f ∗ ptR c (S \ I) f) := pointsTo_split_subset h
theorem pt_join (x : Bf) (c : Dev nD) {I J : Finset TI} (q) (f g : TC F) (h : Disjoint I J) :
    iprop(pt x c I q f ∗ pt x c J q g) ⊢ pt x c (I ∪ J) q (J.piecewise g f) := by
  cases x <;> exact pointsTo_join h
theorem pt_union (x : Bf) (c : Dev nD) {I J : Finset TI} (q) (f : TC F) (h : Disjoint I J) :
    pt x c (I ∪ J) q f ⊣⊢ iprop(pt x c I q f ∗ pt x c J q f) := by
  cases x <;> exact pointsTo_union h
theorem pt_share (x : Bf) (c : Dev nD) (S) {q q₁ q₂} (f : TC F) (h : q ∈ q₁ ·? q₂) : pt x c S q f ⊣⊢ iprop(pt x c S q₁ f ∗ pt x c S q₂ f) := by
  cases x <;> exact pointsTo_share h

/-! ### The rectangles of the program -/

abbrev tR {h : ℕ} (b : TB h) : Rect S1024x512 := Rect.unit (s := S1024x512) b.1 (bS h).size b.2
abbrev rR {h : ℕ} (b : RB h) : Rect S2048x512 := Rect.unit (s := S2048x512) b.1 (bS h).size b.2

theorem tR_set {h a p : ℕ} (b : TB h) (hb : b.1 = ![a, 256 * p]) : (tR b).set = tset a h p := by
  ext i
  rw [mem_tset, Rect.mem_set_unit, hb]
  exact ⟨fun H => ⟨H 0, H 1⟩, fun H x => by fin_cases x <;> [exact H.1; exact H.2]⟩
theorem rR_set {h a p : ℕ} (b : RB h) (hb : b.1 = ![a, 256 * p]) : (rR b).set = rset a h p := by
  ext i
  rw [mem_rset, Rect.mem_set_unit, hb]
  exact ⟨fun H => ⟨H 0, H 1⟩, fun H x => by fin_cases x <;> [exact H.1; exact H.2]⟩

theorem unit_at {s : Shape} (off size : Fin s.rank → ℕ) (inb) (j : (Rect.unit off size inb).shape.Idx) (a : Fin s.rank) :
    (((Rect.unit off size inb).emb j a : Fin _) : ℕ) = off a + j a := by
  rw [Rect.emb_apply]; show off a + 1 * (j a : ℕ) = _; omega
theorem tR_at {h a p : ℕ} (b : TB h) (hb : b.1 = ![a, 256 * p]) (j : (bS h).Idx) :
    (((tR b).emb j 0 : Fin _) : ℕ) = a + (j 0 : ℕ) ∧ (((tR b).emb j 1 : Fin _) : ℕ) = 256 * p + (j 1 : ℕ) := by
  have H := unit_at (s := S1024x512) b.1 (bS h).size b.2 j
  have h0 := H 0; have h1 := H 1
  exact ⟨h0.trans (congrArg (· + (j 0 : ℕ)) (congrFun hb 0)), h1.trans (congrArg (· + (j 1 : ℕ)) (congrFun hb 1))⟩
theorem rR_at {h a p : ℕ} (b : RB h) (hb : b.1 = ![a, 256 * p]) (j : (bS h).Idx) :
    (((rR b).emb j 0 : Fin _) : ℕ) = a + (j 0 : ℕ) ∧ (((rR b).emb j 1 : Fin _) : ℕ) = 256 * p + (j 1 : ℕ) := by
  have H := unit_at (s := S2048x512) b.1 (bS h).size b.2 j
  have h0 := H 0; have h1 := H 1
  exact ⟨h0.trans (congrArg (· + (j 0 : ℕ)) (congrFun hb 0)), h1.trans (congrArg (· + (j 1 : ℕ)) (congrFun hb 1))⟩

/-- Every element of a rectangle is one of the images of its own indices. -/
theorem of_mem {s : Shape} (r : Rect s) {i : s.Idx} (h : i ∈ r.set) : ∃ j, r.emb j = i := by
  rw [← Rect.map_emb_univ, Finset.mem_map] at h
  obtain ⟨j, -, e⟩ := h
  exact ⟨j, e⟩

/-! ### Load and store -/

theorem acc_t (r : Rect S1024x512) : (tM.access r).set = r.set := View.set_slice_whole cc0_stg0_0 r
theorem acc_a (r : Rect S1024x512) : (aM.access r).set = r.set := View.set_slice_whole cc0_scratch0 r
theorem acc_o (r : Rect S1024x512) : (oM.access r).set = r.set := View.set_slice_whole cc0_stg2_0 r
theorem acc_r (r : Rect S2048x512) : (rM.access r).set = r.set := View.set_slice_whole cc0_scratch1 r
theorem acc_w (r : Rect S512x512) : (wM.access r).set = r.set := View.set_slice_whole cc0_stg1_0 r

/-- A load of a view's elements held. -/
theorem ld_view {s : Shape} (c : Dev nD) (m : Memref sig .tc .vmem s .f32) (r : Rect s) (hl) {S q} (f : Buf (Elt F) ((m.access r).loc (c : Thread nD τ))) (hS : (m.access r).set ⊆ S)
    (Q : Vec F r.shape .f32 → sProp 𝕄) :
    ((m.access r).loc (c : Thread nD τ) ↦[S]{q} f)
      ⊢ iprop((((m.access r).loc (c : Thread nD τ) ↦[S]{q} f) -∗ Q ((m.access r).read (Elt F) f)) -∗ wpc c (Prog.lift (.load m r.toLoadRect hl)) Q) := by
  refine (wp_load_rect (defs := defs₀ (F := F)) 𝒱₀ (c : Thread nD τ) none Set.univ (Γ := .empty) (m := m) (r := r) (hl := hl) (k := Prog.ret) (Q := Q) hS).trans
    (wand_mono_left (wand_mono_right ?_))
  rw [wp_ret]; iintro H; imodintro; iexact H
/-- A store of a view's elements held: afterwards they hold any contents that agree with what was stored. -/
theorem st_view {s : Shape} (c : Dev nD) (m : Memref sig .tc .vmem s .f32) (r : Rect s) (v : Vec F r.shape .f32) (hx hm) (f g : Buf (Elt F) ((m.access r).loc (c : Thread nD τ)))
    (hg : ∀ j, (m.access r).read (Elt F) g j = v j) (Q : PUnit → sProp 𝕄) :
    ((m.access r).loc (c : Thread nD τ) ↦[(m.access r).set]{fullShare} f)
      ⊢ iprop((((m.access r).loc (c : Thread nD τ) ↦[(m.access r).set]{fullShare} g) -∗ Q ⟨⟩) -∗ wpc c (Prog.lift (.store m r v Finset.univ hx hm)) Q) := by
  have e : ((m.access r).loc (c : Thread nD τ) ↦[(m.access r).set]{fullShare} ((m.access r).write (Elt F) f v Finset.univ) : sProp 𝕄)
      = ((m.access r).loc (c : Thread nD τ) ↦[(m.access r).set]{fullShare} g) := pointsTo_congr fun i hi => by
    obtain ⟨j, -, rfl⟩ := Finset.mem_map.mp hi
    rw [View.write_emb_of_mem _ _ (Finset.mem_univ j), ← hg j, View.read_apply, cast_cast]; rfl
  refine (wp_store (defs := defs₀ (F := F)) 𝒱₀ (c : Thread nD τ) none Set.univ (Γ := .empty) (m := m) (r := r) (w := v) (Mk := Finset.univ) (hx := hx) (hm := hm) (k := Prog.ret) (Q := Q)
    (S := (m.access r).setOn Finset.univ) (Finset.Subset.refl _)).trans (wand_mono_left ?_)
  rw [View.setOn_univ, e]
  refine wand_mono_right ?_
  rw [wp_ret]; iintro H; imodintro; iexact H

/-- A load of a rectangle held. -/
theorem wp_ld (x : Bf) (c : Dev nD) (r : Rect S1024x512) (hl) {S q} (f : TC F) (hS : r.set ⊆ S) (Q : Vec F r.shape .f32 → sProp 𝕄) :
    pt x c S q f ⊢ iprop((pt x c S q f -∗ Q (fun j => f (r.emb j))) -∗ wpc c (Prog.lift (.load x.m r.toLoadRect hl)) Q) := by
  cases x
  · exact ld_view c tM r hl f (by rw [acc_t]; exact hS) Q
  · exact ld_view c aM r hl f (by rw [acc_a]; exact hS) Q
  · exact ld_view c oM r hl f (by rw [acc_o]; exact hS) Q
theorem wp_ldR (c : Dev nD) (r : Rect S2048x512) (hl) {S} (f : RC F) (hS : r.set ⊆ S) (Q : Vec F r.shape .f32 → sProp 𝕄) :
    ptR c S f ⊢ iprop((ptR c S f -∗ Q (fun j => f (r.emb j))) -∗ wpc c (Prog.lift (.load rM r.toLoadRect hl)) Q) :=
  ld_view c rM r hl f (by rw [acc_r]; exact hS) Q

/-- A store of a whole rectangle held. -/
theorem wp_st (x : Bf) (c : Dev nD) (r : Rect S1024x512) (v : Vec F r.shape .f32) (hx hm) (f g : TC F) (hg : ∀ j, g (r.emb j) = v j) (Q : PUnit → sProp 𝕄) :
    pt x c r.set fullShare f ⊢ iprop((pt x c r.set fullShare g -∗ Q ⟨⟩) -∗ wpc c (Prog.lift (.store x.m r v Finset.univ hx hm)) Q) := by
  cases x
  · have h := st_view c tM r v hx hm f g hg Q; rw [acc_t] at h; exact h
  · have h := st_view c aM r v hx hm f g hg Q; rw [acc_a] at h; exact h
  · have h := st_view c oM r v hx hm f g hg Q; rw [acc_o] at h; exact h
theorem wp_stR (c : Dev nD) (r : Rect S2048x512) (v : Vec F r.shape .f32) (hx hm) (f g : RC F) (hg : ∀ j, g (r.emb j) = v j) (Q : PUnit → sProp 𝕄) :
    ptR c r.set f ⊢ iprop((ptR c r.set g -∗ Q ⟨⟩) -∗ wpc c (Prog.lift (.store rM r v Finset.univ hx hm)) Q) := by
  have h := st_view c rM r v hx hm f g hg Q; rw [acc_r] at h; exact h

end Cert.KernelIdeal.AR
-- ==== Proof.Sched.lean ====
/-
What the devices tell one another.

The barrier cell of a device takes one signal from each of its seven peers; a peer's signal hands over the places
where the copies from here are to land on that peer.  Each of the 112 copies has a send cell (on the sender, which
gets the rectangle it copied from back) and a receive cell (on the receiver, which gets the rectangle copied to, with
what it now holds).  Every cell is used for one round.

`A s r c` is what device `c` has summed in stream `s` before round `r`; `O` is the result.
-/
module

public import proofs.«01_k».proof.Proof.Mem

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### What the buffers hold -/

section Contents
variable (X : Dev nD → ℕ → ℕ → F .f32) (Wt : Dev nD → ℕ → ℕ → F .f32)

/-- Row `ρ`, column `κ` of device `c`'s sum of stream `s` before round `r`: its own, and those of the other devices on
the round's axis, the nearest one behind last added. -/
def A (s : ℕ) : ℕ → Dev nD → ℕ → ℕ → F .f32
  | 0, c, ρ, κ => X c ρ κ
  | r + 1, c, ρ, κ =>
    if ar (ax s r) = 2 then FloatOps.addf (A s r c ρ κ) (A s r (sh (ax s r) 1 c) ρ κ)
    else FloatOps.addf (A s r c ρ κ)
      (FloatOps.addf (FloatOps.addf (A s r (sh (ax s r) 3 c) ρ κ) (A s r (sh (ax s r) 2 c) ρ κ)) (A s r (sh (ax s r) 1 c) ρ κ))

/-- The 32 rows a device multiplies, half of the columns: eight of each stream. -/
def xh (d : Dev nD) (h : ℕ) : Vec F S32x256 .f32 := fun i => A X ((i 0 : ℕ) / 8) 3 d (lo ((i 0 : ℕ) / 8) 3 d + (i 0 : ℕ) % 8) (256 * h + (i 1 : ℕ))
/-- Half of the rows of the weights. -/
def wh (d : Dev nD) (h : ℕ) : Vec F S256x512 .f32 := fun i => Wt d (256 * h + (i 0 : ℕ)) (i 1)
/-- The product of a device's 32 rows with the weights. -/
def Om (d : Dev nD) : FVec F S32x512 .f32 := k0_pay39 (dot0 (xh X d 0) (wh Wt d 0)) (xh X d 1) (wh Wt d 1)

/-- An index of the product from two numbers. -/
def i32 (a b : ℕ) : S32x512.Idx := fun x => match x with
  | ⟨0, _⟩ => ⟨a % 32, Nat.mod_lt _ (by decide)⟩
  | ⟨1, _⟩ => ⟨b % 512, Nat.mod_lt _ (by decide)⟩

/-- The place of row `ρ`'s owner in round `r`. -/
def dig (ρ r : ℕ) : ℕ := let s := ρ / 256
  if r = 0 then ρ % 256 / ht s 1 else if r = 1 then ρ % ht s 1 / ht s 2 else ρ % ht s 2 / 8
/-- That owner's coordinate on axis `a`. -/
def crd (ρ a : ℕ) : ℕ := let s := ρ / 256
  if ax s 0 = a then dig ρ 0 else if ax s 1 = a then dig ρ 1 else dig ρ 2
/-- The device that multiplies row `ρ`. -/
def own (ρ : ℕ) : Dev nD := ⟨mkD (crd ρ 0) (crd ρ 1) (crd ρ 2) % 32, Nat.mod_lt _ (by decide)⟩
/-- The result. -/
def O (ρ κ : ℕ) : F .f32 := Om X Wt (own ρ) (i32 (8 * (ρ / 256) + ρ % 8) κ)

end Contents

theorem own_lo (c : Dev nD) (s : Fin 4) (j : Fin 8) : own (lo s.val 3 c.val + j.val) = c := by revert c s j; decide +kernel
theorem lo_div (c : Dev nD) (s : Fin 4) (j : Fin 8) : (lo s.val 3 c.val + j.val) / 256 = s.val ∧ (lo s.val 3 c.val + j.val) % 8 = j.val := by
  revert c s j; decide +kernel

/-! ### The cells -/

theorem lt128 (n : Ix) : n.val < 128 := lt_trans n.isLt (by decide)
abbrev barC (c : Dev nD) : GSem nD τ sig := ((c : Thread nD τ), .reg barS)
abbrev sC (n : Ix) (c : Dev nD) : GSem nD τ sig := ((c : Thread nD τ), .dma (sS n.val (lt128 n)))
abbrev rC (n : Ix) (c : Dev nD) : GSem nD τ sig := ((c : Thread nD τ), .dma (rS n.val (lt128 n)))

theorem sS_val (n : Fin 128) : (sS n.val n.isLt).val = 3 + n.val := by revert n; decide +kernel
theorem rS_val (n : Fin 128) : (rS n.val n.isLt).val = 131 + n.val := by revert n; decide +kernel

/-- What a semaphore is for. -/
inductive Kd | bar | snd (n : Ix) | rcv (n : Ix) | non
def kd : SemLoc sig → Kd
  | .reg _ => .bar
  | .dma q => if h : 3 ≤ q.val ∧ q.val < 115 then .snd ⟨q.val - 3, by omega⟩ else if h : 131 ≤ q.val ∧ q.val < 243 then .rcv ⟨q.val - 131, by omega⟩ else .non

theorem kd_snd (n : Ix) : kd (.dma (sS n.val (lt128 n))) = .snd n := by
  have h := sS_val ⟨n.val, lt128 n⟩
  have hl := n.isLt
  dsimp only at h
  unfold kd; dsimp only
  rw [dif_pos (by omega)]
  exact congrArg Kd.snd (Fin.ext (by dsimp only; omega))
theorem kd_rcv (n : Ix) : kd (.dma (rS n.val (lt128 n))) = .rcv n := by
  have h := rS_val ⟨n.val, lt128 n⟩
  have hl := n.isLt
  dsimp only at h
  unfold kd; dsimp only
  rw [dif_neg (by omega), dif_pos (by omega)]
  exact congrArg Kd.rcv (Fin.ext (by dsimp only; omega))

/-- What a copy credits. -/
abbrev amt (n : Ix) : ℕ := RefSig.tileCredit (bS (hn n)) .f32
theorem amt_pos (n : Ix) : 0 < amt n := by revert n; decide +kernel

section Sched
variable (X : Dev nD → ℕ → ℕ → F .f32) (Wt : Dev nD → ℕ → ℕ → F .f32)

/-- Copy `n`: the buffer it leaves, what is there, and the share of it lent (the same block goes to up to three peers
in the gathering). -/
def sb (n : Ix) : Bf := if (cp n).ag then .o else if (cp n).r = 0 then .t else .a
def con (n : Ix) (c : Dev nD) : ℕ → ℕ → F .f32 := if (cp n).ag then O X Wt else A X (cp n).s (cp n).r c
def third (k : ℕ) : PosShare TreeShare := if k = 1 then fullShare.left else if k = 2 then fullShare.right.left else fullShare.right.right
def shq (n : Ix) : PosShare TreeShare := if (cp n).ag ∧ ar (ax (cp n).s (cp n).r) = 4 then third (cp n).k else fullShare

/-- What the sender lends and gets back; what the receiver gets; what it lends. -/
def sendPay (n : Ix) (c : Dev nD) : sProp 𝕄 := pt (sb n) c (tset (so n c) (hn n) (cp n).hf) (shq n) (bufOf (con X Wt n c))
def recvPay (n : Ix) (c : Dev nD) : sProp 𝕄 :=
  if (cp n).ag then pt .o c (tset (so n (src n c)) (hn n) (cp n).hf) fullShare (bufOf (O X Wt))
  else iprop(∃ f, ⌜∀ i ∈ rset (ro n) (hn n) (cp n).hf, f i = con X Wt n (src n c) (so n (src n c) + ((i 0 : ℕ) - ro n)) (i 1)⌝ ∗ ptR c (rset (ro n) (hn n) (cp n).hf) f)
def land (n : Ix) (c : Dev nD) : sProp 𝕄 :=
  if (cp n).ag then iprop(∃ f : TC F, pt .o c (tset (so n (src n c)) (hn n) (cp n).hf) fullShare f)
  else iprop(∃ f : RC F, ptR c (rset (ro n) (hn n) (cp n).hf) f)
/-- What the signal of peer `b` hands `c`. -/
def barPay (b : Fin 7) (c : Dev nD) : sProp 𝕄 := bigSep (Finset.univ.filter fun n : Ix => cls n = b) fun n => land (F := F) n (dst n c)

instance sendPay_st (n : Ix) (c : Dev nD) : BI.Storable (upEmb : UEmb _ 𝕄) (sendPay X Wt n c) := by unfold sendPay; infer_instance
instance recvPay_st (n : Ix) (c : Dev nD) : BI.Storable (upEmb : UEmb _ 𝕄) (recvPay X Wt n c) := by unfold recvPay; split <;> infer_instance
instance land_st (n : Ix) (c : Dev nD) : BI.Storable (upEmb : UEmb _ 𝕄) (land (F := F) n c) := by unfold land; split <;> infer_instance
instance barPay_st (b : Fin 7) (c : Dev nD) : BI.Storable (upEmb : UEmb _ 𝕄) (barPay (F := F) b c) := by unfold barPay; infer_instance

def Rd : Rounds.Schedule (GSem nD τ sig) D 𝕄 where
  duties g r := if r = 0 ∧ g.1.2 = .tc then (match kd g.2 with | .bar => Finset.univ | .non => ∅ | _ => {0}) else ∅
  unitless _ := False
  amount g _ _ := match kd g.2 with | .snd n => amt n | .rcv n => amt n | _ => 1
  payload g _ d := match kd g.2 with
    | .bar => barPay d g.1.1
    | .snd n => sendPay X Wt n g.1.1
    | .rcv n => recvPay X Wt n g.1.1
    | .non => iprop(emp)
  amount_pos g _ _ _ := by
    split
    · exact amt_pos _
    · exact amt_pos _
    · exact Nat.one_pos

instance Rd_st (g : GSem nD τ sig) (r : ℕ) (d : D) : BI.Storable (upEmb : UEmb _ 𝕄) ((Rd X Wt).payload g r d) := by
  dsimp only [Rd]; split <;> infer_instance

variable (c : Dev nD) (n : Ix)

theorem duties_bar : (Rd X Wt).duties (barC c) 0 = Finset.univ := by dsimp only [Rd]; rw [if_pos ⟨rfl, rfl⟩]; rfl
theorem duties_snd : (Rd X Wt).duties (sC n c) 0 = {0} := by dsimp only [Rd]; rw [if_pos ⟨rfl, rfl⟩, kd_snd]
theorem duties_rcv : (Rd X Wt).duties (rC n c) 0 = {0} := by dsimp only [Rd]; rw [if_pos ⟨rfl, rfl⟩, kd_rcv]
theorem duties_later (g : GSem nD τ sig) : ∀ r, 1 ≤ r → (Rd X Wt).duties g r = ∅ := fun r hr => by dsimp only [Rd]; exact if_neg fun h => by omega
theorem amount_bar (d : D) : (Rd X Wt).amount (barC c) 0 d = 1 := rfl
theorem amount_snd (d : D) : (Rd X Wt).amount (sC n c) 0 d = amt n := by dsimp only [Rd]; rw [kd_snd]
theorem amount_rcv (d : D) : (Rd X Wt).amount (rC n c) 0 d = amt n := by dsimp only [Rd]; rw [kd_rcv]
theorem payload_bar (d : D) : (Rd X Wt).payload (barC c) 0 d = barPay d c := rfl
theorem payload_snd (d : D) : (Rd X Wt).payload (sC n c) 0 d = sendPay X Wt n c := by dsimp only [Rd]; rw [kd_snd]
theorem payload_rcv (d : D) : (Rd X Wt).payload (rC n c) 0 d = recvPay X Wt n c := by dsimp only [Rd]; rw [kd_rcv]
theorem expect_bar : (Rd X Wt).expect (barC c) 0 = 7 := by
  unfold Schedule.expect Schedule.amountOf; rw [duties_bar]; rfl
theorem expect_snd : (Rd X Wt).expect (sC n c) 0 = amt n := by
  unfold Schedule.expect Schedule.amountOf; rw [duties_snd, Finset.sum_singleton, amount_snd]
theorem expect_rcv : (Rd X Wt).expect (rC n c) 0 = amt n := by
  unfold Schedule.expect Schedule.amountOf; rw [duties_rcv, Finset.sum_singleton, amount_rcv]
theorem rest_snd : bigSep ((Rd X Wt).duties (sC n c) 0 \ ∅) (fun u => (Rd X Wt).payload (sC n c) 0 u) = sendPay X Wt n c := by
  rw [Finset.sdiff_empty, duties_snd, bigSep_singleton, payload_snd]
theorem rest_rcv : bigSep ((Rd X Wt).duties (rC n c) 0 \ ∅) (fun u => (Rd X Wt).payload (rC n c) 0 u) = recvPay X Wt n c := by
  rw [Finset.sdiff_empty, duties_rcv, bigSep_singleton, payload_rcv]
theorem rest_bar : bigSep ((Rd X Wt).duties (barC c) 0 \ ∅) (fun u => (Rd X Wt).payload (barC c) 0 u) = bigSep Finset.univ fun b => barPay b c := by
  rw [Finset.sdiff_empty, duties_bar]; rfl

end Sched

/-! ### Levels: who may wait for what -/

def L (g : GSem nD τ sig) : Finset Unit := if g.1.2 = .tc then {()} else ∅
def lv (g : GSem nD τ sig) (_ : Unit) : ℕ := match kd g.2 with | .bar => 1 | .rcv n => 2 + n.val | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_snd (n : Ix) (c : Dev nD) : lv (sC n c) () = 0 := by unfold lv; rw [kd_snd]
theorem lv_rcv (n : Ix) (c : Dev nD) : lv (rC n c) () = 2 + n.val := by unfold lv; rw [kd_rcv]

/-- What a device still owes when the copies from `k` on are to be issued. -/
def owed (k : ℕ) (c : Dev nD) : CellTallies nD τ sig Unit := ∑ n ∈ Finset.univ.filter (fun n : Ix => k ≤ n.val), tallyAt (rC n (dst n c)) () (amt n)
/-- What it owes its peers' barrier cells when the signals from `b` on are to come. -/
def owedB (b : ℕ) (c : Dev nD) : CellTallies nD τ sig Unit := ∑ p ∈ Finset.univ.filter (fun p : Fin 7 => b ≤ p.val), tallyAt (barC (peer p c)) () 1

theorem owed_pos {k : ℕ} {c : Dev nD} {g : GSem nD τ sig} {u : Unit} (h : 0 < owed k c g u) : ∃ n : Ix, k ≤ n.val ∧ g = rC n (dst n c) := by
  unfold owed at h
  rw [Finset.sum_apply, Finsupp.finset_sum_apply] at h
  obtain ⟨n, hn, hne⟩ := Finset.exists_ne_zero_of_sum_ne_zero (Nat.pos_iff_ne_zero.mp h)
  rw [tallyAt_apply] at hne
  refine ⟨n, (Finset.mem_filter.mp hn).2, ?_⟩
  by_contra hg
  exact hne (if_neg fun h' => hg h'.1)
theorem owedB_pos {k : ℕ} {c : Dev nD} {g : GSem nD τ sig} {u : Unit} (h : 0 < owedB k c g u) : ∃ p : Fin 7, g = barC (peer p c) := by
  unfold owedB at h
  rw [Finset.sum_apply, Finsupp.finset_sum_apply] at h
  obtain ⟨n, hn, hne⟩ := Finset.exists_ne_zero_of_sum_ne_zero (Nat.pos_iff_ne_zero.mp h)
  rw [tallyAt_apply] at hne
  refine ⟨n, ?_⟩
  by_contra hg
  exact hne (if_neg fun h' => hg h'.1)

theorem owed_succ (n : Ix) (c : Dev nD) : owed n.val c = owed (n.val + 1) c + tallyAt (rC n (dst n c)) () (amt n) := by
  unfold owed
  rw [show (Finset.univ.filter fun m : Ix => n.val ≤ m.val) = insert n (Finset.univ.filter fun m : Ix => n.val + 1 ≤ m.val) from by
    ext m; simp only [Finset.mem_filter, Finset.mem_univ, true_and, Finset.mem_insert, Fin.ext_iff]; omega,
    Finset.sum_insert (by simp), add_comm]
theorem owed_end (c : Dev nD) : owed 112 c = 0 := by
  unfold owed
  rw [Finset.filter_false_of_mem (fun n _ => by have := n.isLt; omega), Finset.sum_empty]
theorem owedB_succ (b : Fin 7) (c : Dev nD) : owedB b.val c = owedB (b.val + 1) c + tallyAt (barC (peer b c)) () 1 := by
  unfold owedB
  rw [show (Finset.univ.filter fun m : Fin 7 => b.val ≤ m.val) = insert b (Finset.univ.filter fun m : Fin 7 => b.val + 1 ≤ m.val) from by
    ext m; simp only [Finset.mem_filter, Finset.mem_univ, true_and, Finset.mem_insert, Fin.ext_iff]; omega,
    Finset.sum_insert (by simp), add_comm]
theorem owedB_end (c : Dev nD) : owedB 7 c = 0 := by
  unfold owedB
  rw [Finset.filter_false_of_mem (fun n _ => by have := n.isLt; omega), Finset.sum_empty]

/-- What is known of the levels. -/
@[irreducible] def Lev : sProp 𝕄 := levAts L lv
instance Lev_pers : BI.Persistent (Lev (F := F)) := by unfold Lev; infer_instance

/-- A wait of low level while copies are to come. -/
theorem mayWait_owed (c : Dev nD) (sm : SemLoc sig) (k : ℕ) (h : lv ((c : Thread nD τ), sm) () < 2 + k) :
    Lev (F := F) ⊢ MayWait (c : Thread nD τ) sm () (owed k c) := by
  unfold Lev
  exact MayOwe.of_cut (L := L) (lev := lv) (lv ((c : Thread nD τ), sm) ()) (fun p hp => by rw [Finset.mem_singleton.mp hp, L_tc]; exact Finset.mem_singleton_self _)
    (fun g u hg => by obtain ⟨n, -, rfl⟩ := owed_pos hg; rw [L_tc]; exact Finset.mem_singleton_self _)
    (fun p hp => by rw [Finset.mem_singleton.mp hp])
    (fun g u hg => by obtain ⟨n, hn, rfl⟩ := owed_pos hg; rw [lv_rcv]; omega)
/-- A wait of level nothing at the start. -/
theorem mayWait_start (c : Dev nD) (sm : SemLoc sig) (h : lv ((c : Thread nD τ), sm) () = 0) :
    Lev (F := F) ⊢ MayWait (c : Thread nD τ) sm () (owed 0 c + owedB 0 c) := by
  unfold Lev
  exact MayOwe.of_cut (L := L) (lev := lv) 0 (fun p hp => by rw [Finset.mem_singleton.mp hp, L_tc]; exact Finset.mem_singleton_self _)
    (fun g u hg => by
      rw [Pi.add_apply, Finsupp.add_apply] at hg
      rcases Nat.add_pos_iff_pos_or_pos.mp hg with hg | hg
      · obtain ⟨n, -, rfl⟩ := owed_pos hg; rw [L_tc]; exact Finset.mem_singleton_self _
      · obtain ⟨n, rfl⟩ := owedB_pos hg; rw [L_tc]; exact Finset.mem_singleton_self _)
    (fun p hp => by rw [Finset.mem_singleton.mp hp, h])
    (fun g u hg => by
      rw [Pi.add_apply, Finsupp.add_apply] at hg
      rcases Nat.add_pos_iff_pos_or_pos.mp hg with hg | hg
      · obtain ⟨n, hn, rfl⟩ := owed_pos hg; rw [lv_rcv]; omega
      · obtain ⟨n, rfl⟩ := owedB_pos hg; exact Nat.one_pos)

end Cert.KernelIdeal.AR
-- ==== Proof.Proto.lean ====
/-
The steps of the exchange: the signals and the wait at the start, the issue of a copy, and the wait for one.  `Prot k w c`
is what device `c` has of the protocol when it has issued the copies below `k` and waited for those below `w`.
-/
module

public import proofs.«01_k».proof.Proof.Sched

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- One of several. -/
theorem one_of {I : Type} [DecidableEq I] {s : Finset I} {i : I} (h : i ∈ s) {Φ : I → sProp 𝕄} : bigSep s Φ ⊢ Φ i := bigSep_elim h
/-- One of several, and the others. -/
theorem one_and {I : Type} [DecidableEq I] {s t : Finset I} {i : I} (h : i ∉ t) (e : s = insert i t) (Φ : I → sProp 𝕄) : bigSep s Φ = iprop(Φ i ∗ bigSep t Φ) := by
  rw [e]; exact bigSep_insert h

/-- The invariant of a cell, under some name. -/
def cinv (g : GSem nD τ sig) : sProp 𝕄 := iprop(∃ κ, cellInv ER (Rd X Wt) κ g)
instance cinv_pers (g : GSem nD τ sig) : BI.Persistent (cinv X Wt g) := by unfold cinv; infer_instance

/-- What every device knows of every cell. -/
def Ctx : sProp 𝕄 :=
  iprop((bigSep Finset.univ fun p : Ix × Dev nD => iprop((cinv X Wt (sC p.1 p.2) ∗ reached ER (sC p.1 p.2) 0) ∗ cinv X Wt (rC p.1 p.2) ∗ reached ER (rC p.1 p.2) 0))
    ∗ (bigSep Finset.univ fun c : Dev nD => iprop(cinv X Wt (barC c) ∗ reached ER (barC c) 0)) ∗ Lev (F := F))
instance Ctx_pers : BI.Persistent (Ctx X Wt) := by unfold Ctx; infer_instance

theorem ctx_cells (n : Ix) (c : Dev nD) : Ctx X Wt ⊢ iprop((cinv X Wt (sC n c) ∗ reached ER (sC n c) 0) ∗ cinv X Wt (rC n c) ∗ reached ER (rC n c) 0) := by
  unfold Ctx
  iintro ⟨H, -, -⟩
  iapply (one_of (i := (n, c)) (Finset.mem_univ _)) $$ H
theorem ctx_bar (c : Dev nD) : Ctx X Wt ⊢ iprop(cinv X Wt (barC c) ∗ reached ER (barC c) 0) := by
  unfold Ctx
  iintro ⟨-, H, -⟩
  iapply (one_of (i := c) (Finset.mem_univ _)) $$ H
theorem ctx_lev : Ctx X Wt ⊢ Lev (F := F) := by
  unfold Ctx
  iintro ⟨-, -, H⟩
  iexact H

/-- One copy, by the views it names. -/
theorem wp_copy_view (n : Ix) (c : Dev nD) {h : ℕ} (hn' : n.val < 128) (hh : hn n = h) (s d : Memref sig .tc .vmem (bS h) .f32) (dd : Dev nD) (hd : dd = dst n c)
    (W : Waits sig Unit) (fs : Buf (Elt F) (s.view.loc (c : Thread nD τ))) (fd : Buf (Elt F) (d.view.loc (dst n c : Thread nD τ)))
    (hs : (s.view.loc (c : Thread nD τ) ↦[s.view.set]{shq n} fs) ⊢ sendPay X Wt n c)
    (hr : (d.view.loc (dst n c : Thread nD τ) ↦[d.view.set]{fullShare} (d.view.write (Elt F) fd (s.view.read (Elt F) fs) Finset.univ)) ⊢ recvPay X Wt n (dst n c))
    (Q : PUnit → sProp 𝕄) :
    iprop(Ctx X Wt ∗ dutyTok ER (sC n c) 0 0 ∗ dutyTok ER (rC n (dst n c)) 0 0 ∗ (s.view.loc (c : Thread nD τ) ↦[s.view.set]{shq n} fs)
        ∗ (d.view.loc (dst n c : Thread nD τ) ↦[d.view.set]{fullShare} fd) ∗ owes (c : Thread nD τ) (owed n.val c) W)
      ⊢ iprop(((cred (tallyAt (sC n c) () (amt n)) ∗ owes (c : Thread nD τ) (owed (n.val + 1) c) W) -∗ Q ⟨⟩) -∗ wpc c (copy n.val hn' s d dd) Q) := by
  subst hd hh
  unfold copy wpc
  simp only [Prog.lift]
  iintro ⟨#HC, Hs, Hd, Hsrc, Hdst, HO⟩ HK
  ihave H1 := (ctx_cells X Wt n c) $$ HC
  icases H1 with ⟨⟨HIs, #Hrs⟩, -, -⟩
  ihave H2 := (ctx_cells X Wt n (dst n c)) $$ HC
  icases H2 with ⟨-, HIr, #Hrr⟩
  unfold cinv
  icases HIs with ⟨%κ₁, #HIs⟩
  icases HIr with ⟨%κ₂, #HIr⟩
  iapply (Rounds.wp_send_pointsTo 𝒱₀ ER (Rd X Wt) (c : Thread nD τ) none (c' := (dst n c : Thread nD τ)) (κ₁ := κ₁) (κ₂ := κ₂)
    (r₁ := 0) (r₂ := 0) (d₁ := 0) (d₂ := 0) (fd := fd) (src := s) (dst := d) (fs := fs) (q := shq n)
    (by rw [duties_snd]; exact Finset.mem_singleton_self _) (by rw [duties_rcv]; exact Finset.mem_singleton_self _)
    () () (amt n) rfl (amount_snd X Wt c n 0) (amount_rcv X Wt (dst n c) n 0) (owed (n.val + 1) c) (owed_succ n c) (W := W)
    (by rw [payload_snd]; exact hs) (by rw [payload_rcv]; exact hr)) $$ [Hs Hd Hsrc Hdst HO]
  · isplitr; · iexact HIs
    isplitr; · iexact HIr
    isplitl [Hsrc]; · iexact Hsrc
    isplitl [Hdst]; · iexact Hdst
    isplitl [HO]; · iexact HO
    isplitl [Hs]; · iexact Hs
    isplitr; · iexact Hrs
    isplitl [Hd]; · iexact Hd
    iexact Hrr
  iintro H
  rw [wp_ret]; imodintro
  iapply HK; iexact H

/-- What a view of a copy's rows credits. -/
theorem credit_eq {h : ℕ} (m : Memref sig .tc .vmem (bS h) .f32) : m.view.dmaCredit = RefSig.tileCredit (bS h) .f32 := rfl
theorem wait_eq (c : Dev nD) {h : ℕ} (q : DmaSem sig) (s d : Memref sig .tc .vmem (bS h) .f32) (hs hd) (K : PUnit → sProp 𝕄) :
    wpE (defs₀ (F := F)) 𝒱₀ (c : Thread nD τ) none Set.univ (.waitDma2 q s d hs hd) K = waitSpec (c : Thread nD τ) Set.univ (.dma q) (RefSig.tileCredit (bS h) .f32) K := by
  rw [← credit_eq d]; exact wpE_waitDma2_eq 𝒱₀ (c : Thread nD τ) none Set.univ K

set_option maxRecDepth 4096 in
/-- The wait for one copy: the sender's own end, then the receiver's; both cells are then done with. -/
theorem wp_await_view (n : Ix) (c : Dev nD) {h : ℕ} (hn' : n.val < 128) (hh : hn n = h) (s d : Memref sig .tc .vmem (bS h) .f32) (k : ℕ) (hk : n.val < k)
    (W : Waits sig Unit) (Q : PUnit → sProp 𝕄) :
    iprop(Ctx X Wt ∗ atPos ER (sC n c) 0 ∅ 0 ∗ atPos ER (rC n c) 0 ∅ 0 ∗ cred (tallyAt (rC n c) () (amt n)) ∗ cred (tallyAt (sC n c) () (amt n)) ∗ owes (c : Thread nD τ) (owed k c) W)
      ⊢ iprop(((semVal (sC n c) 0 ∗ semVal (rC n c) 0 ∗ (∃ W', owes (c : Thread nD τ) (owed k c) W') ∗ sendPay X Wt n c ∗ recvPay X Wt n c) -∗ Q ⟨⟩)
        -∗ wpc c (await n.val hn' s d) Q) := by
  subst hh
  unfold await wpc
  simp only [Prog.lift, Prog.bind_op, Prog.bind_ret, Prog.pure_eq_ret]
  iintro ⟨#HC, HaS, HaR, HcR, HcS, HO⟩ HK
  ihave H1 := (ctx_cells X Wt n c) $$ HC
  icases H1 with ⟨⟨HIs, -⟩, HIr, -⟩
  have hlev := @ctx_lev F _ X Wt
  unfold cinv
  icases HIs with ⟨%κ₁, #HIs⟩
  icases HIr with ⟨%κ₂, #HIr⟩
  iapply (Rounds.wp_wait_rest_token 𝒱₀ ER (Rd X Wt) (c : Thread nD τ) none (κ := κ₁) (sm := .dma (sS n.val (lt128 n))) (k' := amt n)
      (wait_eq c _ _ _ _ _) (Set.mem_univ _) () (O := owed k c) (W := W) (R := 0) (m := 0) (T := ∅)
      (by rw [Nat.zero_add, expect_snd])) $$ [HcS HO HaS]
  · isplitr; · iexact HIs
    isplitl [HcS]; · iexact HcS
    isplitl [HO]; · iexact HO
    isplitr
    · iapply (mayWait_owed c (.dma (sS n.val (lt128 n))) k (by rw [lv_snd]; omega)); iapply hlev; iexact HC
    iexact HaS
  iintro ⟨HO, HaS, -, Hp⟩
  ihave HpS := (Entails.of_eq (rest_snd X Wt c n)) $$ Hp
  iapply (Rounds.wp_wait_rest_token 𝒱₀ ER (Rd X Wt) (c : Thread nD τ) none (κ := κ₂) (sm := .dma (rS n.val (lt128 n))) (k' := amt n)
      (wait_eq c _ _ _ _ _) (Set.mem_univ _) () (O := owed k c) (W := insert (SemLoc.dma (sS n.val (lt128 n)), ()) W) (R := 0) (m := 0) (T := ∅)
      (by rw [Nat.zero_add, expect_rcv])) $$ [HcR HO HaR]
  · isplitr; · iexact HIr
    isplitl [HcR]; · iexact HcR
    isplitl [HO]; · iexact HO
    isplitr
    · iapply (mayWait_owed c (.dma (rS n.val (lt128 n))) k (by rw [lv_rcv]; omega)); iapply hlev; iexact HC
    iexact HaR
  iintro ⟨HO, HaR, -, Hp⟩
  ihave HpR := (Entails.of_eq (rest_rcv X Wt c n)) $$ Hp
  imod (Rounds.cell_close ER (Rd X Wt) (Set.mem_univ κ₁) (fun h => h) (R := 0 + 1) (duties_later X Wt (sC n c))) $$ [HaS] with HzS
  · isplitr; · iexact HIs
    iexact HaS
  imod (Rounds.cell_close ER (Rd X Wt) (Set.mem_univ κ₂) (fun h => h) (R := 0 + 1) (duties_later X Wt (rC n c))) $$ [HaR] with HzR
  · isplitr; · iexact HIr
    iexact HaR
  rw [wp_ret]; imodintro
  iapply HK
  isplitl [HzS]; · iexact HzS
  isplitl [HzR]; · iexact HzR
  isplitl [HO]; · iexists _; iexact HO
  isplitl [HpS] <;> iassumption

end Cert.KernelIdeal.AR
-- ==== Proof.Steps.lean ====
/-
The steps of the exchange.  `Prot k w c` is what device `c` holds of the protocol when it has issued the copies below
`k` and awaited those below `w`.  Here are the meeting at the start, the issue of one copy and the wait for one.
-/
module

public import proofs.«01_k».proof.Proof.Proto

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-! ### Programs with a precondition and a postcondition -/

/-- With `P`, the program `p` of device `c` runs and ends with `P'`. -/
def Tri (c : Dev nD) {α : Type} (P : sProp 𝕄) (p : Pg F α) (P' : α → sProp 𝕄) : Prop := iprop(Ctx X Wt ∗ P) ⊢ wpc c p P'

variable {X Wt}
theorem Tri.mk {c : Dev nD} {α : Type} {P : sProp 𝕄} {p : Pg F α} {P' : α → sProp 𝕄} (h : iprop(Ctx X Wt ∗ P) ⊢ wpc c p P') : Tri X Wt c P p P' := h
theorem Tri.use {c : Dev nD} {α : Type} {P : sProp 𝕄} {p : Pg F α} {P' : α → sProp 𝕄} (h : Tri X Wt c P p P') : iprop(Ctx X Wt ∗ P) ⊢ wpc c p P' := h

theorem Tri.bind {c : Dev nD} {α β : Type} {P : sProp 𝕄} {p : Pg F α} {k : α → Pg F β} {P₁ : α → sProp 𝕄} {P₂ : β → sProp 𝕄}
    (h : Tri X Wt c P p P₁) (h' : ∀ a, Tri X Wt c (P₁ a) (k a) P₂) : Tri X Wt c P (p >>= k) P₂ := by
  refine .mk ?_
  rw [wpc, wp_bind]
  have h1 : iprop(Ctx X Wt ∗ Ctx X Wt ∗ P) ⊢ wpc c p fun a => iprop(Ctx X Wt ∗ P₁ a) := by
    refine (sep_mono_right h.use).trans ?_
    refine sep_comm.trans ((wp_frame_r _ _ _).trans (wp_mono _ _ _ fun a => ?_))
    exact sep_comm
  refine BIBase.Entails.trans ?_ (h1.trans (wp_mono _ _ _ fun a => (h' a).use))
  iintro ⟨#H, HP⟩
  isplitr; · iexact H
  isplitr; · iexact H
  iexact HP
theorem Tri.pre {c : Dev nD} {α : Type} {P P₀ : sProp 𝕄} {p : Pg F α} {P' : α → sProp 𝕄} (h : P₀ ⊢ P) (t : Tri X Wt c P p P') : Tri X Wt c P₀ p P' :=
  .mk ((sep_mono_right h).trans t.use)
theorem Tri.post {c : Dev nD} {α : Type} {P : sProp 𝕄} {p : Pg F α} {P' P₁ : α → sProp 𝕄} (t : Tri X Wt c P p P') (h : ∀ a, P' a ⊢ P₁ a) : Tri X Wt c P p P₁ :=
  .mk (t.use.trans (wp_mono _ _ _ h))
theorem Tri.frame {c : Dev nD} {α : Type} {P : sProp 𝕄} {p : Pg F α} {P' : α → sProp 𝕄} (t : Tri X Wt c P p P') (R : sProp 𝕄) :
    Tri X Wt c iprop(P ∗ R) p fun a => iprop(P' a ∗ R) :=
  .mk (BIBase.Entails.trans sep_assoc.2 ((sep_mono_left t.use).trans (wp_frame_r _ _ _)))
theorem Tri.ret {c : Dev nD} {α : Type} {P : sProp 𝕄} {a : α} {P' : α → sProp 𝕄} (h : P ⊢ P' a) : Tri X Wt c P (pure a : Pg F α) P' := by
  refine .mk ?_
  simp only [Prog.pure_eq_ret, wpc]
  rw [wp_ret]
  iintro ⟨-, H⟩; imodintro
  iapply h; iexact H
/-- A rule that passes its resources on. -/
theorem Tri.wand {c : Dev nD} {α : Type} {P : sProp 𝕄} {p : Pg F α} {v : α} {P' : sProp 𝕄}
    (h : ∀ Q : α → sProp 𝕄, iprop(Ctx X Wt ∗ P) ⊢ iprop((P' -∗ Q v) -∗ wpc c p Q)) : Tri X Wt c P p fun a => iprop(⌜a = v⌝ ∗ P') := by
  refine .mk ?_
  iintro H
  iapply (h fun a => iprop(⌜a = v⌝ ∗ P')) $$ H
  iintro H
  isplitr; · ipureintro; rfl
  iexact H
theorem Tri.wand' {c : Dev nD} {P : sProp 𝕄} {p : Pg F PUnit} {P' : sProp 𝕄}
    (h : ∀ Q : PUnit → sProp 𝕄, iprop(Ctx X Wt ∗ P) ⊢ iprop((P' -∗ Q ⟨⟩) -∗ wpc c p Q)) : Tri X Wt c P p fun _ => P' := by
  refine .mk ?_
  iintro H
  iapply (h fun a => P') $$ H
  iintro H; iexact H
variable (X Wt)

/-! ### What is held of the protocol -/

abbrev ge (k : ℕ) : Finset Ix := Finset.univ.filter fun n => k ≤ n.val
abbrev lt (k : ℕ) : Finset Ix := Finset.univ.filter fun n => n.val < k
abbrev mid (w k : ℕ) : Finset Ix := Finset.univ.filter fun n => w ≤ n.val ∧ n.val < k

theorem ge_at (n : Ix) : ge n.val = insert n (ge (n.val + 1)) := by
  ext m; simp only [Finset.mem_filter, Finset.mem_univ, true_and, Finset.mem_insert, Fin.ext_iff]; omega
theorem lt_at (n : Ix) : lt (n.val + 1) = insert n (lt n.val) := by
  ext m; simp only [Finset.mem_filter, Finset.mem_univ, true_and, Finset.mem_insert, Fin.ext_iff]; omega
theorem mid_up (n : Ix) {w : ℕ} (h : w ≤ n.val) : mid w (n.val + 1) = insert n (mid w n.val) := by
  ext m; simp only [Finset.mem_filter, Finset.mem_univ, true_and, Finset.mem_insert, Fin.ext_iff]; omega
theorem mid_at (n : Ix) {k : ℕ} (h : n.val < k) : mid n.val k = insert n (mid (n.val + 1) k) := by
  ext m; simp only [Finset.mem_filter, Finset.mem_univ, true_and, Finset.mem_insert, Fin.ext_iff]; omega

/-- For a copy to be issued: the duties of its two cells and the place where it lands. -/
def toIssue (n : Ix) (c : Dev nD) : sProp 𝕄 := iprop(dutyTok ER (sC n c) 0 0 ∗ dutyTok ER (rC n (dst n c)) 0 0 ∗ land (F := F) n (dst n c))
/-- For a copy to be awaited: the positions of the two cells, and leave to wait for what comes. -/
def toAwait (n : Ix) (c : Dev nD) : sProp 𝕄 := iprop(atPos ER (sC n c) 0 ∅ 0 ∗ atPos ER (rC n c) 0 ∅ 0 ∗ cred (tallyAt (rC n c) () (amt n)))
def inFlight (n : Ix) (c : Dev nD) : sProp 𝕄 := cred (tallyAt (sC n c) () (amt n))
def done (n : Ix) (c : Dev nD) : sProp 𝕄 := iprop(semVal (sC n c) 0 ∗ semVal (rC n c) 0)
def Prot (k w : ℕ) (c : Dev nD) : sProp 𝕄 :=
  iprop((bigSep (ge k) fun n => toIssue (F := F) n c) ∗ (bigSep (ge w) fun n => toAwait (F := F) n c) ∗ (bigSep (mid w k) fun n => inFlight (F := F) n c)
    ∗ (bigSep (lt w) fun n => done (F := F) n c) ∗ ∃ W, owes (c : Thread nD τ) (owed k c) W)

theorem prot_issue (n : Ix) (w : ℕ) (c : Dev nD) (hw : w ≤ n.val) :
    Prot (F := F) n.val w c ⊢ iprop(toIssue (F := F) n c ∗ (∃ W, owes (c : Thread nD τ) (owed n.val c) W)
      ∗ ((inFlight (F := F) n c ∗ ∃ W, owes (c : Thread nD τ) (owed (n.val + 1) c) W) -∗ Prot (F := F) (n.val + 1) w c)) := by
  unfold Prot
  rw [one_and (by simp) (ge_at n), one_and (t := mid w n.val) (by simp) (mid_up n hw)]
  iintro ⟨⟨H1, H2⟩, H3, H4, H5, H6⟩
  isplitl [H1]; · iexact H1
  isplitl [H6]; · iexact H6
  iintro ⟨G1, G2⟩
  isplitl [H2]; · iexact H2
  isplitl [H3]; · iexact H3
  isplitl [H4 G1]; · isplitl [G1] <;> iassumption
  isplitl [H5] <;> iassumption
theorem prot_await (n : Ix) (k : ℕ) (c : Dev nD) (hk : n.val < k) :
    Prot (F := F) k n.val c ⊢ iprop(toAwait (F := F) n c ∗ inFlight (F := F) n c ∗ (∃ W, owes (c : Thread nD τ) (owed k c) W)
      ∗ ((done (F := F) n c ∗ ∃ W, owes (c : Thread nD τ) (owed k c) W) -∗ Prot (F := F) k (n.val + 1) c)) := by
  unfold Prot
  rw [one_and (by simp) (ge_at n), one_and (t := mid (n.val + 1) k) (by simp) (mid_at n hk), one_and (t := lt n.val) (by simp) (lt_at n)]
  iintro ⟨H1, ⟨H2, H3⟩, ⟨H4, H5⟩, H6, H7⟩
  isplitl [H2]; · iexact H2
  isplitl [H4]; · iexact H4
  isplitl [H7]; · iexact H7
  iintro ⟨G1, G2⟩
  isplitl [H1]; · iexact H1
  isplitl [H3]; · iexact H3
  isplitl [H5]; · iexact H5
  isplitl [G1 H6]; · isplitl [G1] <;> iassumption
  iexact G2

/-! ### One wait -/

theorem await_step (n : Ix) (c : Dev nD) {h : ℕ} (hn' : n.val < 128) (hh : hn n = h) (s d : Memref sig .tc .vmem (bS h) .f32) (k : ℕ) (hk : n.val < k) :
    Tri X Wt c (Prot (F := F) k n.val c) (await n.val hn' s d) fun _ => iprop(Prot (F := F) k (n.val + 1) c ∗ sendPay X Wt n c ∗ recvPay X Wt n c) := by
  refine Tri.wand' fun Q => ?_
  iintro ⟨#HC, HP⟩ HQ
  ihave HP' := (prot_await n k c hk) $$ HP
  unfold toAwait inFlight done
  icases HP' with ⟨⟨H1, H2, H3⟩, H4, ⟨%W, H5⟩, HK⟩
  iapply (wp_await_view X Wt n c hn' hh s d k hk W Q) $$ [H1 H2 H3 H4 H5]
  · isplitr; · iexact HC
    isplitl [H1]; · iexact H1
    isplitl [H2]; · iexact H2
    isplitl [H3]; · iexact H3
    isplitl [H4] <;> iassumption
  iintro ⟨G1, G2, G3, G4, G5⟩
  iapply HQ
  isplitl [HK G1 G2 G3]
  · iapply HK
    isplitl [G1 G2]; · isplitl [G1] <;> iassumption
    iexact G3
  isplitl [G4] <;> iassumption

/-! ### The meeting -/

/-- The places on `c` where copies from the devices of class `b` land. -/
def landB (b : Fin 7) (c : Dev nD) : sProp 𝕄 := bigSep (Finset.univ.filter fun n : Ix => cls n = b) fun n => land (F := F) n c
theorem barPay_eq (b : Fin 7) (c : Dev nD) : barPay (F := F) (back b) (peer b c) = landB (F := F) (back b) c := by
  unfold barPay landB
  refine bigSep_congr fun n hn => ?_
  rw [dst_eq, (Finset.mem_filter.mp hn).2, peer_back]

abbrev geB (k : ℕ) : Finset (Fin 7) := Finset.univ.filter fun n => k ≤ n.val
theorem geB_at (n : Fin 7) : geB n.val = insert n (geB (n.val + 1)) := by
  ext m; simp only [Finset.mem_filter, Finset.mem_univ, true_and, Finset.mem_insert, Fin.ext_iff]; omega
/-- What is held when the signals from `b` on are to come. -/
def Meet (b : ℕ) (c : Dev nD) : sProp 𝕄 :=
  iprop((bigSep (geB b) fun p => iprop(dutyTok ER (barC (peer p c)) 0 (back p) ∗ landB (F := F) (back p) c)) ∗ ∃ W, owes (c : Thread nD τ) (owed 0 c + owedB b c) W)

theorem signal_step (b : Fin 7) (c : Dev nD) (d : Dev nD) (hd : d = peer b c) :
    Tri X Wt c (Meet (F := F) b.val c) (semSignalWord d barS 1#32) fun _ => Meet (F := F) (b.val + 1) c := by
  subst hd
  refine Tri.wand' fun Q => ?_
  unfold Meet
  rw [one_and (by simp) (geB_at b)]
  iintro ⟨#HC, ⟨⟨H1, H2⟩, H3⟩, ⟨%W, H4⟩⟩ HQ
  ihave HB := (ctx_bar X Wt (peer b c)) $$ HC
  unfold cinv
  icases HB with ⟨⟨%κ, #HI⟩, #Hr⟩
  unfold wpc
  simp only [semSignalWord]
  iapply (Rounds.wp_signal 𝒱₀ ER (Rd X Wt) (c : Thread nD τ) none (κ := κ) (dst := (peer b c : Thread nD τ)) (sem := barS) (r := 0) (d := back b) (k' := 1)
      (by rw [duties_bar]; exact Finset.mem_univ _) (amount_bar X Wt (peer b c) (back b)) () (O₀ := owed 0 c + owedB b.val c) (owed 0 c + owedB (b.val + 1) c)
      (by rw [owedB_succ, add_assoc]) (W := W)) $$ [H1 H2 H4]
  · isplitr; · iexact HI
    isplitl [H4]; · iexact H4
    isplitl [H1]; · iexact H1
    isplitl [H2]
    · rw [payload_bar, barPay_eq]; iexact H2
    iexact Hr
  iintro HO
  rw [wp_ret]; imodintro
  iapply HQ
  isplitl [H3]; · iexact H3
  iexists _; iexact HO

theorem landB_all (c : Dev nD) : (bigSep Finset.univ fun n : Ix => land (F := F) n c) ⊢ bigSep (geB 0) fun p => landB (F := F) (back p) c := by
  have e1 : (bigSep Finset.univ fun n : Ix => land (F := F) n c)
      = bigSep Finset.univ fun n : Ix => bigSep Finset.univ fun p : Fin 7 => if cls n = back p then land (F := F) n c else iprop(emp) := by
    refine bigSep_congr fun n _ => ?_
    rw [one_and (i := back (cls n)) (s := Finset.univ) (t := Finset.univ.erase (back (cls n))) (Finset.notMem_erase _ _) (Finset.insert_erase (Finset.mem_univ _)).symm,
      if_pos (back_back _).symm]
    have e2 : (bigSep (Finset.univ.erase (back (cls n))) fun p : Fin 7 => if cls n = back p then land (F := F) n c else (iprop(emp) : sProp 𝕄)) = iprop(emp) := by
      refine (bigSep_congr fun p hp => if_neg fun h => ?_).trans (bigSep_emp_const _)
      exact (Finset.mem_erase.mp hp).1 (by rw [h, back_back])
    rw [e2]
    exact (equiv_iff.mp sep_emp).symm
  rw [e1, bigSep_univ_comm]
  rw [show geB 0 = Finset.univ from Finset.filter_true_of_mem fun _ _ => Nat.zero_le _]
  refine bigSep_mono fun p _ => ?_
  unfold landB
  rw [bigSep_filter]; intro a ha; exact ha

/-- After the signals: the others' seven, and with them all the places where this device's copies are to land. -/
theorem bar_lands (c : Dev nD) : (bigSep Finset.univ fun b => barPay (F := F) b c) ⊢ bigSep (ge 0) fun n => land (F := F) n (dst n c) := by
  rw [show ge 0 = Finset.univ from Finset.filter_true_of_mem fun _ _ => Nat.zero_le _]
  have e1 : (bigSep Finset.univ fun n : Ix => land (F := F) n (dst n c))
      = bigSep Finset.univ fun n : Ix => bigSep Finset.univ fun p : Fin 7 => if cls n = p then land (F := F) n (dst n c) else iprop(emp) := by
    refine bigSep_congr fun n _ => ?_
    rw [one_and (i := cls n) (s := Finset.univ) (t := Finset.univ.erase (cls n)) (Finset.notMem_erase _ _) (Finset.insert_erase (Finset.mem_univ _)).symm, if_pos rfl]
    have e2 : (bigSep (Finset.univ.erase (cls n)) fun p : Fin 7 => if cls n = p then land (F := F) n (dst n c) else (iprop(emp) : sProp 𝕄)) = iprop(emp) := by
      refine (bigSep_congr fun p hp => if_neg fun h => ?_).trans (bigSep_emp_const _)
      exact (Finset.mem_erase.mp hp).1 h.symm
    rw [e2]
    exact (equiv_iff.mp sep_emp).symm
  rw [e1, bigSep_univ_comm]
  refine bigSep_mono fun p _ => ?_
  unfold barPay
  rw [bigSep_filter]; intro a ha; exact ha

/-- What is held before the meeting, the places lent to the others among it. -/
def Start (c : Dev nD) : sProp 𝕄 :=
  iprop(((bigSep Finset.univ fun b : Fin 7 => dutyTok ER (barC (peer b c)) 0 (back b)) ∗ (bigSep Finset.univ fun n : Ix => land (F := F) n c)
      ∗ ∃ W, owes (c : Thread nD τ) (owed 0 c + owedB 0 c) W)
    ∗ atPos ER (barC c) 0 ∅ 0 ∗ cred (tallyAt (barC c) () 7)
    ∗ (bigSep Finset.univ fun n : Ix => iprop(dutyTok ER (sC n c) 0 0 ∗ dutyTok ER (rC n (dst n c)) 0 0))
    ∗ (bigSep Finset.univ fun n : Ix => toAwait (F := F) n c))

theorem wait_step (c : Dev nD) :
    Tri X Wt c iprop(Meet (F := F) 7 c ∗ atPos ER (barC c) 0 ∅ 0 ∗ cred (tallyAt (barC c) () 7)) (semWaitWord barS 7#32)
      fun _ => iprop(((bigSep (ge 0) fun n => land (F := F) n (dst n c)) ∗ ∃ W, owes (c : Thread nD τ) (owed 0 c) W) ∗ semVal (barC c) 0) := by
  refine Tri.wand' fun Q => ?_
  unfold Meet
  rw [owedB_end, add_zero]
  iintro ⟨#HC, ⟨-, ⟨%W, H4⟩⟩, Ha, Hc⟩ HQ
  ihave HB := (ctx_bar X Wt c) $$ HC
  have hlev := @ctx_lev F _ X Wt
  unfold cinv
  icases HB with ⟨⟨%κ, #HI⟩, -⟩
  unfold wpc
  simp only [semWaitWord]
  iapply (Rounds.wp_wait_rest_token 𝒱₀ ER (Rd X Wt) (c : Thread nD τ) none (κ := κ) (sm := .reg barS) (k' := 7)
      (wpE_semWait_eq 𝒱₀ (c : Thread nD τ) none Set.univ) (Set.mem_univ _) () (O := owed 0 c) (W := W) (R := 0) (m := 0) (T := ∅)
      (by rw [Nat.zero_add, expect_bar])) $$ [Hc H4 Ha]
  · isplitr; · iexact HI
    isplitl [Hc]; · iexact Hc
    isplitl [H4]; · iexact H4
    isplitr
    · iapply (mayWait_owed c (.reg barS) 0 (show (1 : ℕ) < 2 + 0 by decide)); iapply hlev; iexact HC
    iexact Ha
  iintro ⟨HO, Ha, -, Hp⟩
  ihave Hp := (Entails.of_eq (rest_bar X Wt c)) $$ Hp
  imod (Rounds.cell_close ER (Rd X Wt) (Set.mem_univ κ) (fun h => h) (R := 0 + 1) (duties_later X Wt (barC c))) $$ [Ha] with Hz
  · isplitr; · iexact HI
    iexact Ha
  rw [wp_ret]; imodintro
  iapply HQ
  isplitr [Hz]
  · isplitl [Hp]
    · iapply (bar_lands c); iexact Hp
    iexists _; iexact HO
  iexact Hz

theorem meet_step (c : Dev nD) : Tri X Wt c (Start (F := F) c) (meet c) fun _ => iprop(Prot (F := F) 0 0 c ∗ semVal (barC c) 0) := by
  have hs : Tri X Wt c iprop(Meet (F := F) 0 c ∗ (atPos ER (barC c) 0 ∅ 0 ∗ cred (tallyAt (barC c) () 7))) (meet c)
      fun _ => iprop(((bigSep (ge 0) fun n => land (F := F) n (dst n c)) ∗ ∃ W, owes (c : Thread nD τ) (owed 0 c) W) ∗ semVal (barC c) 0) := by
    unfold meet
    refine .bind ((signal_step X Wt 0 c _ (dev1_eq c)).frame _) fun _ => ?_
    refine .bind ((signal_step X Wt 1 c _ (dev2_eq c)).frame _) fun _ => ?_
    refine .bind ((signal_step X Wt 2 c _ (dev3_eq c)).frame _) fun _ => ?_
    refine .bind ((signal_step X Wt 3 c _ (dev4_eq c)).frame _) fun _ => ?_
    refine .bind ((signal_step X Wt 4 c _ (dev5_eq c)).frame _) fun _ => ?_
    refine .bind ((signal_step X Wt 5 c _ (dev6_eq c)).frame _) fun _ => ?_
    refine .bind ((signal_step X Wt 6 c _ (dev7_eq c)).frame _) fun _ => ?_
    exact wait_step X Wt c
  refine (Tri.pre ?_ (hs.frame iprop((bigSep Finset.univ fun n : Ix => iprop(dutyTok ER (sC n c) 0 0 ∗ dutyTok ER (rC n (dst n c)) 0 0))
    ∗ (bigSep Finset.univ fun n : Ix => toAwait (F := F) n c)))).post fun _ => ?_
  · unfold Start Meet
    rw [bigSep_sep' (geB 0)]
    iintro ⟨⟨H1, H2, H3⟩, H4, H5, H6, H7⟩
    isplitr [H6 H7]
    · isplitr [H4 H5]
      · isplitr [H3]
        · isplitl [H1]
          · rw [show geB 0 = Finset.univ from Finset.filter_true_of_mem fun _ _ => Nat.zero_le _]; iexact H1
          iapply (landB_all c); iexact H2
        iexact H3
      isplitl [H4] <;> iassumption
    isplitl [H6] <;> iassumption
  · unfold Prot toIssue
    rw [bigSep_sep', bigSep_sep']
    rw [bigSep_sep']
    rw [show mid 0 0 = ∅ from Finset.filter_false_of_mem fun _ _ => by omega, show lt 0 = ∅ from Finset.filter_false_of_mem fun _ _ => by omega,
      bigSep_empty, bigSep_empty]
    iintro ⟨⟨⟨H1, H2⟩, H3⟩, ⟨H4, H5⟩, H6⟩
    rw [show ge 0 = Finset.univ from Finset.filter_true_of_mem fun _ _ => Nat.zero_le _]
    isplitr [H3]
    · isplitl [H1 H4 H5]
      · isplitl [H4]; · iexact H4
        isplitl [H5]; · iexact H5
        iexact H1
      isplitl [H6]; · iexact H6
      isplitr; · iempintro
      isplitr; · iempintro
      iexact H2
    iexact H3

/-! ### One copy -/

/-- What lands is what left. -/
theorem recv_rs (n : Ix) (c : Dev nD) (hag : (cp n).ag = false) (b : TB (hn n)) (r : RB (hn n))
    (hb : b.1 = ![so n c.val, 256 * (cp n).hf]) (hr : r.1 = ![ro n, 256 * (cp n).hf]) (wr : RC F)
    (hwr : ∀ j, wr ((rR r).emb j) = bufOf (con X Wt n c) ((tR b).emb j)) :
    ptR (dst n c) (rR r).set wr ⊢ recvPay X Wt n (dst n c) := by
  unfold recvPay
  rw [if_neg (by rw [hag]; decide), ← rR_set r hr]
  iintro H
  iexists wr
  isplitr
  · ipureintro
    intro i hi
    obtain ⟨j, rfl⟩ := of_mem (rR r) hi
    rw [hwr, src_dst]
    unfold bufOf
    rw [(tR_at b hb j).1, (tR_at b hb j).2, (rR_at r hr j).1, (rR_at r hr j).2]
    congr 1; omega
  iexact H

theorem sl_t {h : ℕ} (b : TB h) : (tSl tM b).view.set = (tR b).set := View.set_slice_whole cc0_stg0_0 _
theorem sl_a {h : ℕ} (b : TB h) : (tSl aM b).view.set = (tR b).set := View.set_slice_whole cc0_scratch0 _
theorem sl_o {h : ℕ} (b : TB h) : (tSl oM b).view.set = (tR b).set := View.set_slice_whole cc0_stg2_0 _
theorem sl_r {h : ℕ} (b : RB h) : (rSl b).view.set = (rR b).set := View.set_slice_whole cc0_scratch1 _

theorem wp_copyR (n : Ix) (c : Dev nD) (hn' : n.val < 128) (hag : (cp n).ag = false) (x : Bf) (hx : sb n = x) (b : TB (hn n)) (r : RB (hn n))
    (hb : b.1 = ![so n c.val, 256 * (cp n).hf]) (hr : r.1 = ![ro n, 256 * (cp n).hf]) (d : Dev nD) (hd : d = dst n c) (W : Waits sig Unit) (fd : RC F)
    (Q : PUnit → sProp 𝕄) :
    iprop(Ctx X Wt ∗ dutyTok ER (sC n c) 0 0 ∗ dutyTok ER (rC n (dst n c)) 0 0 ∗ pt x c (tR b).set (shq n) (bufOf (con X Wt n c))
        ∗ ptR (dst n c) (rR r).set fd ∗ owes (c : Thread nD τ) (owed n.val c) W)
      ⊢ iprop(((cred (tallyAt (sC n c) () (amt n)) ∗ owes (c : Thread nD τ) (owed (n.val + 1) c) W) -∗ Q ⟨⟩) -∗ wpc c (copy n.val hn' (tSl x.m b) (rSl r) d) Q) := by
  have hs : pt x c (tR b).set (shq n) (bufOf (con X Wt n c)) ⊢ sendPay X Wt n c := by
    unfold sendPay; rw [hx, tR_set b hb]
  cases x
  · have H := wp_copy_view X Wt n c hn' rfl (tSl tM b) (rSl r) d hd W (bufOf (con X Wt n c)) fd (by rw [sl_t]; exact hs)
      (by rw [sl_r]; exact recv_rs X Wt n c hag b r hb hr _ fun j => by exact View.write_emb_of_mem _ _ (Finset.mem_univ j)) Q
    rw [sl_t, sl_r] at H; exact H
  · have H := wp_copy_view X Wt n c hn' rfl (tSl aM b) (rSl r) d hd W (bufOf (con X Wt n c)) fd (by rw [sl_a]; exact hs)
      (by rw [sl_r]; exact recv_rs X Wt n c hag b r hb hr _ fun j => by exact View.write_emb_of_mem _ _ (Finset.mem_univ j)) Q
    rw [sl_a, sl_r] at H; exact H
  · have H := wp_copy_view X Wt n c hn' rfl (tSl oM b) (rSl r) d hd W (bufOf (con X Wt n c)) fd (by rw [sl_o]; exact hs)
      (by rw [sl_r]; exact recv_rs X Wt n c hag b r hb hr _ fun j => by exact View.write_emb_of_mem _ _ (Finset.mem_univ j)) Q
    rw [sl_o, sl_r] at H; exact H

/-- A copy of a round of the summing. -/
theorem copyR_step (n : Ix) (c : Dev nD) {h : ℕ} (hn' : n.val < 128) (hag : (cp n).ag = false) (hh : hn n = h) (x : Bf) (hx : sb n = x) (b : TB h) (r : RB h)
    (hb : b.1 = ![so n c.val, 256 * (cp n).hf]) (hr : r.1 = ![ro n, 256 * (cp n).hf]) (d : Dev nD) (hd : d = dst n c) (w : ℕ) (hw : w ≤ n.val) :
    Tri X Wt c iprop(Prot (F := F) n.val w c ∗ sendPay X Wt n c) (copy n.val hn' (tSl x.m b) (rSl r) d) fun _ => Prot (F := F) (n.val + 1) w c := by
  subst hh
  refine Tri.wand' fun Q => ?_
  iintro ⟨#HC, HP, Hs⟩ HQ
  ihave HP' := (prot_issue n w c hw) $$ HP
  unfold toIssue inFlight land sendPay
  rw [if_neg (by rw [hag]; decide), ← rR_set r hr, hx, ← tR_set b hb]
  icases HP' with ⟨⟨H1, H2, ⟨%fd, H3⟩⟩, ⟨%W, H4⟩, HK⟩
  iapply (wp_copyR X Wt n c hn' hag x hx b r hb hr d hd W fd Q) $$ [H1 H2 H3 H4 Hs]
  · isplitr; · iexact HC
    isplitl [H1]; · iexact H1
    isplitl [H2]; · iexact H2
    isplitl [Hs]; · iexact Hs
    isplitl [H3] <;> iassumption
  iintro ⟨G1, G2⟩
  iapply HQ
  iapply HK
  isplitl [G1]; · iexact G1
  iexists _; iexact G2

/-- A copy of a round of the gathering: the block lands where it lay. -/
theorem copyG_step (n : Ix) (c : Dev nD) {h : ℕ} (hn' : n.val < 128) (hag : (cp n).ag = true) (hh : hn n = h) (b : TB h)
    (hb : b.1 = ![so n c.val, 256 * (cp n).hf]) (d : Dev nD) (hd : d = dst n c) (w : ℕ) (hw : w ≤ n.val) :
    Tri X Wt c iprop(Prot (F := F) n.val w c ∗ sendPay X Wt n c) (copy n.val hn' (tSl oM b) (tSl oM b) d) fun _ => Prot (F := F) (n.val + 1) w c := by
  subst hh
  refine Tri.wand' fun Q => ?_
  iintro ⟨#HC, HP, Hs⟩ HQ
  ihave HP' := (prot_issue n w c hw) $$ HP
  have hx : sb n = .o := by unfold sb; rw [if_pos hag]
  have hc : con X Wt n c = O X Wt := by unfold con; rw [if_pos hag]
  unfold toIssue inFlight land
  rw [if_pos hag, src_dst, ← tR_set b hb]
  icases HP' with ⟨⟨H1, H2, ⟨%fd, H3⟩⟩, ⟨%W, H4⟩, HK⟩
  have hs : pt .o c (tR b).set (shq n) (bufOf (con X Wt n c)) ⊢ sendPay X Wt n c := by unfold sendPay; rw [hx, tR_set b hb]
  have hs' : sendPay X Wt n c ⊢ pt .o c (tR b).set (shq n) (bufOf (con X Wt n c)) := by unfold sendPay; rw [hx, tR_set b hb]
  have H := wp_copy_view X Wt n c hn' rfl (tSl oM b) (tSl oM b) d hd W (bufOf (con X Wt n c)) fd (by rw [sl_o]; exact hs)
      (by
        rw [sl_o]
        have e : ∀ wr : TC F, (∀ j, wr ((tR b).emb j) = bufOf (con X Wt n c) ((tR b).emb j)) → pt .o (dst n c) (tR b).set fullShare wr ⊢ recvPay X Wt n (dst n c) := by
          intro wr hwr
          unfold recvPay
          rw [if_pos hag, src_dst, ← tR_set b hb, ← hc]
          refine Entails.of_eq (pt_congr _ _ _ _ fun i hi => ?_)
          obtain ⟨j, rfl⟩ := of_mem (tR b) hi
          exact hwr j
        exact e _ fun j => by exact View.write_emb_of_mem _ _ (Finset.mem_univ j)) Q
  rw [sl_o] at H
  ihave Hs := hs' $$ Hs
  unfold pt
  iapply H $$ [H1 H2 H3 H4 Hs]
  · isplitr; · iexact HC
    isplitl [H1]; · iexact H1
    isplitl [H2]; · iexact H2
    isplitl [Hs]; · iexact Hs
    isplitl [H3]; · iexact H3
    iexact H4
  iintro ⟨G1, G2⟩
  iapply HQ
  iapply HK
  isplitl [G1]; · iexact G1
  iexists _; iexact G2

end Cert.KernelIdeal.AR
-- ==== Proof.Blocks.lean ====
/-
The rectangles of a stream and what they are made of.  Before round `r` a device answers, in stream `s`, for the rows
`Rs s r`; they are the rows it keeps in the round, `Rs s (r + 1)`, and the blocks `Bs s r k` of the devices `k` places
on.
-/
module

public import proofs.«01_k».proof.Proof.Steps

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev Rs (s r hf : ℕ) (c : Dev nD) : Finset TI := tset (lo s r c.val) (ht s r) hf
abbrev Bs (s r k hf : ℕ) (c : Dev nD) : Finset TI := tset (blk s r k c.val) (ht s (r + 1)) hf

theorem dg_lt' (s r : ℕ) (c : Dev nD) (hs : s < 4) (hr : r < 3) : dg (ax s r) c.val < ar (ax s r) :=
  dg_lt ⟨ax s r, ax_lt ⟨s, hs⟩ ⟨r, hr⟩⟩ c
theorem Rs_zero (s hf : ℕ) (c : Dev nD) : Rs s 0 hf c = tset (256 * s) 256 hf := rfl

theorem mem_block (s r k hf : ℕ) (c : Dev nD) (i : TI) : i ∈ Bs s r k hf c
    ↔ ((lo s r c.val + ht s (r + 1) * ((dg (ax s r) c.val + k) % ar (ax s r)) ≤ (i 0 : ℕ)
      ∧ (i 0 : ℕ) < lo s r c.val + ht s (r + 1) * ((dg (ax s r) c.val + k) % ar (ax s r)) + ht s (r + 1)) ∧ 256 * hf ≤ (i 1 : ℕ) ∧ (i 1 : ℕ) < 256 * hf + 256) := mem_tset
theorem mem_keep (s r hf : ℕ) (c : Dev nD) (i : TI) : i ∈ Rs s (r + 1) hf c
    ↔ ((lo s r c.val + ht s (r + 1) * dg (ax s r) c.val ≤ (i 0 : ℕ)
      ∧ (i 0 : ℕ) < lo s r c.val + ht s (r + 1) * dg (ax s r) c.val + ht s (r + 1)) ∧ 256 * hf ≤ (i 1 : ℕ) ∧ (i 1 : ℕ) < 256 * hf + 256) := mem_tset
theorem mem_all (s r hf : ℕ) (c : Dev nD) (hs : s < 4) (hr : r < 3) (i : TI) : i ∈ Rs s r hf c
    ↔ ((lo s r c.val ≤ (i 0 : ℕ) ∧ (i 0 : ℕ) < lo s r c.val + ar (ax s r) * ht s (r + 1)) ∧ 256 * hf ≤ (i 1 : ℕ) ∧ (i 1 : ℕ) < 256 * hf + 256) := by
  rw [mem_tset, ht_eq ⟨s, hs⟩ ⟨r, hr⟩]

variable (s r hf : ℕ) (c : Dev nD) (hs : s < 4) (hr : r < 3)
include hs hr

theorem Rs_sub : Rs s (r + 1) hf c ⊆ Rs s r hf c := by
  intro i hi
  rw [mem_all s r hf c hs hr]
  rw [mem_keep] at hi
  have hd := dg_lt' s r c hs hr
  have : ht s (r + 1) * dg (ax s r) c.val + ht s (r + 1) ≤ ar (ax s r) * ht s (r + 1) := by
    calc _ = (dg (ax s r) c.val + 1) * ht s (r + 1) := by rw [Nat.succ_mul, Nat.mul_comm]
      _ ≤ _ := Nat.mul_le_mul_right _ hd
  omega

/-- The rest of a round with two places is one block. -/
theorem rest_two (h : ar (ax s r) = 2) : Rs s r hf c \ Rs s (r + 1) hf c = Bs s r 1 hf c := by
  have hd := dg_lt' s r c hs hr
  ext i
  rw [Finset.mem_sdiff, mem_all s r hf c hs hr, mem_keep, mem_block]
  rw [h] at hd ⊢
  generalize dg (ax s r) c.val = d at hd ⊢
  generalize ht s (r + 1) = w
  obtain rfl | rfl : d = 0 ∨ d = 1 := by omega
  all_goals (simp only [Nat.zero_add, Nat.reduceAdd, Nat.reduceMod, Nat.mul_zero, Nat.mul_one]; omega)
/-- The rest of a round with four places is three blocks. -/
theorem rest_four (h : ar (ax s r) = 4) : Rs s r hf c \ Rs s (r + 1) hf c = Bs s r 1 hf c ∪ (Bs s r 2 hf c ∪ Bs s r 3 hf c) := by
  have hd := dg_lt' s r c hs hr
  ext i
  rw [Finset.mem_sdiff, Finset.mem_union, Finset.mem_union, mem_all s r hf c hs hr, mem_keep, mem_block, mem_block, mem_block]
  rw [h] at hd ⊢
  generalize dg (ax s r) c.val = d at hd ⊢
  generalize ht s (r + 1) = w
  obtain rfl | rfl | rfl | rfl : d = 0 ∨ d = 1 ∨ d = 2 ∨ d = 3 := by omega
  all_goals (simp only [Nat.zero_add, Nat.reduceAdd, Nat.reduceMod, Nat.mul_zero, Nat.mul_one]; omega)
theorem blocks_apart (h : ar (ax s r) = 4) : Disjoint (Bs s r 1 hf c) (Bs s r 2 hf c ∪ Bs s r 3 hf c) ∧ Disjoint (Bs s r 2 hf c) (Bs s r 3 hf c) := by
  have hd := dg_lt' s r c hs hr
  rw [Finset.disjoint_left, Finset.disjoint_left]
  refine ⟨fun i h1 h2 => ?_, fun i h1 h2 => ?_⟩
  · rw [Finset.mem_union, mem_block, mem_block] at h2
    rw [mem_block] at h1
    rw [h] at hd h1 h2
    generalize dg (ax s r) c.val = d at *
    generalize ht s (r + 1) = w at *
    obtain rfl | rfl | rfl | rfl : d = 0 ∨ d = 1 ∨ d = 2 ∨ d = 3 := by omega
    all_goals (simp only [Nat.zero_add, Nat.reduceAdd, Nat.reduceMod, Nat.mul_zero, Nat.mul_one] at h1 h2; omega)
  · rw [mem_block] at h1 h2
    rw [h] at hd h1 h2
    generalize dg (ax s r) c.val = d at *
    generalize ht s (r + 1) = w at *
    obtain rfl | rfl | rfl | rfl : d = 0 ∨ d = 1 ∨ d = 2 ∨ d = 3 := by omega
    all_goals (simp only [Nat.zero_add, Nat.reduceAdd, Nat.reduceMod, Nat.mul_zero, Nat.mul_one] at h1 h2; omega)
omit hs hr

theorem keep_split (hs : s < 4) (hr : r < 3) (x : Bf) (q : PosShare TreeShare) (f : TC F) :
    pt x c (Rs s r hf c) q f ⊣⊢ iprop(pt x c (Rs s (r + 1) hf c) q f ∗ pt x c (Rs s r hf c \ Rs s (r + 1) hf c) q f) :=
  pt_split x c q f (Rs_sub s r hf c hs hr)
theorem cut_two (hs : s < 4) (hr : r < 3) (h : ar (ax s r) = 2) (x : Bf) (q : PosShare TreeShare) (f : TC F) :
    pt x c (Rs s r hf c \ Rs s (r + 1) hf c) q f = pt x c (Bs s r 1 hf c) q f := by rw [rest_two s r hf c hs hr h]
theorem cut_four (hs : s < 4) (hr : r < 3) (h : ar (ax s r) = 4) (x : Bf) (q : PosShare TreeShare) (f : TC F) :
    pt x c (Rs s r hf c \ Rs s (r + 1) hf c) q f
      ⊣⊢ iprop(pt x c (Bs s r 1 hf c) q f ∗ pt x c (Bs s r 2 hf c) q f ∗ pt x c (Bs s r 3 hf c) q f) := by
  rw [rest_four s r hf c hs hr h]
  have := blocks_apart s r hf c hs hr h
  refine ⟨(pt_union x c q f this.1).1.trans (sep_mono_right (pt_union x c q f this.2).1),
    (sep_mono_right (pt_union x c q f this.2).2).trans (pt_union x c q f this.1).2⟩

theorem Rs_sub_zero (hs : s < 4) (hr : r ≤ 3) : Rs s r hf c ⊆ Rs s 0 hf c := by
  induction r with
  | zero => exact fun _ h => h
  | succ r ih => exact (Rs_sub s r hf c hs (by omega)).trans (ih (by omega))
theorem junk_sets (hs : s < 4) (hr : r < 3) :
    (Rs s 0 hf c \ Rs s r hf c) ∪ (Rs s r hf c \ Rs s (r + 1) hf c) = Rs s 0 hf c \ Rs s (r + 1) hf c := by
  have h1 := Rs_sub s r hf c hs hr
  have h2 := Rs_sub_zero s r hf c hs (by omega)
  ext i
  simp only [Finset.mem_union, Finset.mem_sdiff]
  have := @h1 i; have := @h2 i
  tauto

/-! ### What the copies carry, by stream and round -/

variable (X : Dev nD → ℕ → ℕ → F .f32) (Wt : Dev nD → ℕ → ℕ → F .f32)

/-- The buffer a round reads: the argument's block in the first round, then the accumulator. -/
@[reducible] def base : ℕ → Bf
  | 0 => .t
  | _ + 1 => .a
theorem base_eq (r : ℕ) : (if r = 0 then Bf.t else Bf.a) = base r := by cases r <;> rfl

theorem sendPay_rs (n : Ix) (k : ℕ) (hcp : cp n = ⟨false, s, hf, r, k⟩) :
    sendPay X Wt n c = pt (base r) c (Bs s r k hf c) fullShare (bufOf (A X s r c)) := by
  unfold sendPay sb so hn shq con
  rw [hcp]
  simp only [Bool.false_eq_true, if_false, false_and, base_eq]
theorem sendPay_ag (n : Ix) (k : ℕ) (hcp : cp n = ⟨true, s, hf, r, k⟩) :
    sendPay X Wt n c = pt .o c (Rs s (r + 1) hf c) (if ar (ax s r) = 4 then third k else fullShare) (bufOf (O X Wt)) := by
  unfold sendPay sb so hn shq con
  rw [hcp]
  simp only [if_true, true_and]
theorem recvPay_rs (n : Ix) (k : ℕ) (hcp : cp n = ⟨false, s, hf, r, k⟩) :
    recvPay X Wt n c = iprop(∃ f, ⌜∀ i ∈ rset (rbo s r k) (ht s (r + 1)) hf, f i
        = A X s r (sh (ax s r) (ar (ax s r) - k) c) (lo s (r + 1) c.val + ((i 0 : ℕ) - rbo s r k)) (i 1)⌝ ∗ ptR c (rset (rbo s r k) (ht s (r + 1)) hf) f) := by
  have h := so_keep n c
  have h2 : src n c = sh (ax s r) (ar (ax s r) - k) c := by unfold src; rw [hcp]
  unfold recvPay
  rw [h, h2]
  unfold hn con ro
  rw [hcp]
  simp only [Bool.false_eq_true, if_false]
theorem recvPay_ag (n : Ix) (k : ℕ) (hcp : cp n = ⟨true, s, hf, r, k⟩) :
    recvPay X Wt n c = pt .o c (Bs s r (ar (ax s r) - k) hf c) fullShare (bufOf (O X Wt)) := by
  have h := so_ag n c (by rw [hcp])
  unfold recvPay
  rw [h]
  unfold hn
  rw [hcp]
  simp only [if_true]

/-- The place in the landing zone that a copy of the summing leaves behind once it is read. -/
def left (n : Ix) (c : Dev nD) : sProp 𝕄 := if (cp n).ag then iprop(emp) else iprop(∃ f : RC F, ptR c (rset (ro n) (hn n) (cp n).hf) f)
theorem left_rs (n : Ix) (k : ℕ) (hcp : cp n = ⟨false, s, hf, r, k⟩) (f : RC F) : ptR c (rset (rbo s r k) (ht s (r + 1)) hf) f ⊢ left (F := F) n c := by
  unfold left ro hn
  rw [hcp]
  simp only [Bool.false_eq_true, if_false]
  iintro H; iexists f; iexact H
theorem left_ag (n : Ix) (k : ℕ) (hcp : cp n = ⟨true, s, hf, r, k⟩) : left (F := F) n c = iprop(emp) := by
  unfold left; rw [hcp]; simp only [if_true]
def Pile (w : ℕ) (c : Dev nD) : sProp 𝕄 := bigSep (lt w) fun n => left (F := F) n c
theorem pile_succ (n : Ix) (c : Dev nD) : Pile (F := F) (n.val + 1) c = iprop(left (F := F) n c ∗ Pile (F := F) n.val c) := by
  unfold Pile; rw [one_and (by simp) (lt_at n)]

end Cert.KernelIdeal.AR
-- ==== Proof.Phase.lean ====
/-
The state of a stream's half, and the steps that change it: sending a round's blocks, taking what came, giving a
block of the result, joining what came.
-/
module

public import proofs.«01_k».proof.Proof.Blocks

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- Where a stream's half stands: before round `r` of the summing, with its copies in flight; before round `l - 1` of the
gathering, with the copies of round `r` in flight. -/
inductive Ph | rs (r : ℕ) | rsF (r : ℕ) | ag (l : ℕ) | agF (r : ℕ)
  deriving DecidableEq

/-- What is held besides the block being summed. -/
def rest (s hf : ℕ) (c : Dev nD) : ℕ → sProp 𝕄
  | 0 => iprop(∃ f, pt .a c (Rs s 0 hf c) fullShare f)
  | r + 1 => iprop(pt .t c (Rs s 0 hf c) fullShare (bufOf (X c)) ∗ ∃ f, pt .a c (Rs s 0 hf c \ Rs s (r + 1) hf c) fullShare f)
def Inst (s hf : ℕ) (c : Dev nD) : Ph → sProp 𝕄
  | .rs r => iprop(pt (base r) c (Rs s r hf c) fullShare (bufOf (A X s r c)) ∗ rest X s hf c r)
  | .rsF r => iprop(pt (base r) c (Rs s (r + 1) hf c) fullShare (bufOf (A X s r c)) ∗ rest X s hf c r)
  | .ag l => iprop(pt .o c (Rs s l hf c) fullShare (bufOf (O X Wt)) ∗ pt .t c (Rs s 0 hf c) fullShare (bufOf (X c)) ∗ ∃ f, pt .a c (Rs s 0 hf c) fullShare f)
  | .agF _ => iprop(pt .t c (Rs s 0 hf c) fullShare (bufOf (X c)) ∗ ∃ f, pt .a c (Rs s 0 hf c) fullShare f)

def Loc (k w s hf : ℕ) (p : Ph) (c : Dev nD) : sProp 𝕄 := iprop(Prot (F := F) k w c ∗ Pile (F := F) w c ∗ Inst X Wt s hf c p)

variable {X Wt}
theorem Tri.run {c : Dev nD} {P : sProp 𝕄} {p : Pg F PUnit} {P' : PUnit → sProp 𝕄} (t : Tri X Wt c P p P') (Q : PUnit → sProp 𝕄) :
    iprop(Ctx X Wt ∗ P) ⊢ iprop((P' ⟨⟩ -∗ Q ⟨⟩) -∗ wpc c p Q) :=
  (t.use.trans (wp_wand _ _ _)).trans (wand_mono_left (by iintro H %a; iexact H))

variable (X Wt)
variable (s hf r : ℕ) (c : Dev nD) (hs : s < 4) (hr : r < 3)
include hs hr

/-! ### Sending and giving -/

theorem send1_step {n : ℕ} (hN : n < 112 := by decide) (hcp : cp ⟨n, hN⟩ = ⟨false, s, hf, r, 1⟩ := by decide +kernel) (har : ar (ax s r) = 2 := by decide +kernel) {h : ℕ} (hh : ht s (r + 1) = h := by decide +kernel) {hn' : n < 128}
    {rb : RB h} (hrb : rb.1 = ![rbo s r 1, 256 * hf] := by revert c; decide +kernel) {b : TB h} (hb : b.1 = ![blk s r 1 c.val, 256 * hf] := by revert c; decide +kernel) {d : Dev nD} (hd : d = sh (ax s r) 1 c := by revert c; decide +kernel)
    {w : ℕ} (hw : w ≤ n := by decide) :
    Tri X Wt c (Loc X Wt n w s hf (.rs r) c) (send1 (base r).m n hn' rb b d) fun _ => Loc X Wt (n + 1) w s hf (.rsF r) c := by
  have S := copyR_step X Wt ⟨n, hN⟩ c (h := h) hn' (by rw [hcp]) (by unfold Cert.KernelIdeal.AR.hn; rw [hcp]; exact hh) (base r) (by unfold sb; rw [hcp]; exact base_eq r) b rb
    (by unfold so; rw [hcp]; exact hb) (by unfold ro; rw [hcp]; exact hrb) d (by unfold dst; rw [hcp]; exact hd) w hw
  rw [sendPay_rs s r hf c X Wt ⟨n, hN⟩ 1 hcp] at S
  unfold Loc Inst send1
  refine (Tri.pre ?_ (S.frame iprop(Pile (F := F) w c ∗ pt (base r) c (Rs s (r + 1) hf c) fullShare (bufOf (A X s r c)) ∗ rest X s hf c r))).post fun _ => ?_
  · iintro ⟨H1, H2, H3, H4⟩
    ihave H3 := (keep_split s r hf c hs hr _ _ _).1 $$ H3
    rw [cut_two s r hf c hs hr har]
    icases H3 with ⟨H3, H5⟩
    isplitl [H1 H5]; · isplitl [H1] <;> iassumption
    isplitl [H2]; · iexact H2
    isplitl [H3] <;> iassumption
  · exact Entails.of_eq rfl

theorem send3_step {n : ℕ} (hN : n + 2 < 112 := by decide) (hcp : cp ⟨n, by omega⟩ = ⟨false, s, hf, r, 1⟩ := by decide +kernel) (hcp2 : cp ⟨n + 1, by omega⟩ = ⟨false, s, hf, r, 2⟩ := by decide +kernel)
    (hcp3 : cp ⟨n + 2, by omega⟩ = ⟨false, s, hf, r, 3⟩ := by decide +kernel) (har : ar (ax s r) = 4 := by decide +kernel) {h : ℕ} (hh : ht s (r + 1) = h := by decide +kernel) {hn' : n + 2 < 128}
    {rb rb2 rb3 : RB h} (hrb : rb.1 = ![rbo s r 1, 256 * hf] := by revert c; decide +kernel) (hrb2 : rb2.1 = ![rbo s r 2, 256 * hf] := by revert c; decide +kernel) (hrb3 : rb3.1 = ![rbo s r 3, 256 * hf] := by revert c; decide +kernel)
    {b b2 b3 : TB h} (hb : b.1 = ![blk s r 1 c.val, 256 * hf] := by revert c; decide +kernel) (hb2 : b2.1 = ![blk s r 2 c.val, 256 * hf] := by revert c; decide +kernel) (hb3 : b3.1 = ![blk s r 3 c.val, 256 * hf] := by revert c; decide +kernel)
    {d d2 d3 : Dev nD} (hd : d = sh (ax s r) 1 c := by revert c; decide +kernel) (hd2 : d2 = sh (ax s r) 2 c := by revert c; decide +kernel) (hd3 : d3 = sh (ax s r) 3 c := by revert c; decide +kernel)
    {w : ℕ} (hw : w ≤ n := by decide) :
    Tri X Wt c (Loc X Wt n w s hf (.rs r) c) (send3 (base r).m n hn' rb rb2 rb3 b b2 b3 d d2 d3) fun _ => Loc X Wt (n + 3) w s hf (.rsF r) c := by
  have S1 := copyR_step X Wt ⟨n, by omega⟩ c (h := h) (by dsimp only; omega) (by rw [hcp]) (by unfold Cert.KernelIdeal.AR.hn; rw [hcp]; exact hh) (base r) (by unfold sb; rw [hcp]; exact base_eq r) b rb
    (by unfold so; rw [hcp]; exact hb) (by unfold ro; rw [hcp]; exact hrb) d (by unfold dst; rw [hcp]; exact hd) w hw
  have S2 := copyR_step X Wt ⟨n + 1, by omega⟩ c (h := h) (by dsimp only; omega) (by rw [hcp2]) (by unfold Cert.KernelIdeal.AR.hn; rw [hcp2]; exact hh) (base r) (by unfold sb; rw [hcp2]; exact base_eq r) b2 rb2
    (by unfold so; rw [hcp2]; exact hb2) (by unfold ro; rw [hcp2]; exact hrb2) d2 (by unfold dst; rw [hcp2]; exact hd2) w (by dsimp only; omega)
  have S3 := copyR_step X Wt ⟨n + 2, by omega⟩ c (h := h) hn' (by rw [hcp3]) (by unfold Cert.KernelIdeal.AR.hn; rw [hcp3]; exact hh) (base r) (by unfold sb; rw [hcp3]; exact base_eq r) b3 rb3
    (by unfold so; rw [hcp3]; exact hb3) (by unfold ro; rw [hcp3]; exact hrb3) d3 (by unfold dst; rw [hcp3]; exact hd3) w (by dsimp only; omega)
  rw [sendPay_rs s r hf c X Wt _ 1 hcp] at S1
  rw [sendPay_rs s r hf c X Wt _ 2 hcp2] at S2
  rw [sendPay_rs s r hf c X Wt _ 3 hcp3] at S3
  unfold Loc Inst send3
  let R : sProp 𝕄 := iprop(Pile (F := F) w c ∗ pt (base r) c (Rs s (r + 1) hf c) fullShare (bufOf (A X s r c)) ∗ rest X s hf c r)
  refine (Tri.pre ?_ (Tri.bind (S1.frame iprop((pt (base r) c (Bs s r 2 hf c) fullShare (bufOf (A X s r c)) ∗ pt (base r) c (Bs s r 3 hf c) fullShare (bufOf (A X s r c))) ∗ R)) fun _ =>
    Tri.bind (Tri.pre ?_ (S2.frame iprop(pt (base r) c (Bs s r 3 hf c) fullShare (bufOf (A X s r c)) ∗ R))) fun _ => Tri.pre ?_ (S3.frame R))).post fun _ => ?_
  · iintro ⟨H1, H2, H3, H4⟩
    ihave H3 := (keep_split s r hf c hs hr _ _ _).1 $$ H3
    icases H3 with ⟨H3, H5⟩
    ihave H5 := (cut_four s r hf c hs hr har _ _ _).1 $$ H5
    icases H5 with ⟨H5, H6, H7⟩
    isplitl [H1 H5]; · isplitl [H1] <;> iassumption
    isplitl [H6 H7]; · isplitl [H6] <;> iassumption
    isplitl [H2]; · iexact H2
    isplitl [H3] <;> iassumption
  · iintro ⟨H1, ⟨H2, H3⟩, H4⟩
    isplitl [H1 H2]; · isplitl [H1] <;> iassumption
    isplitl [H3] <;> iassumption
  · iintro ⟨H1, H2, H3⟩
    isplitl [H1 H2]; · isplitl [H1] <;> iassumption
    iexact H3
  · exact Entails.of_eq rfl

theorem give1_step {n : ℕ} (hN : n < 112 := by decide) (hcp : cp ⟨n, hN⟩ = ⟨true, s, hf, r, 1⟩ := by decide +kernel) (har : ar (ax s r) = 2 := by decide +kernel) {h : ℕ} (hh : ht s (r + 1) = h := by decide +kernel) {hn' : n < 128}
    {b : TB h} (hb : b.1 = ![lo s (r + 1) c.val, 256 * hf] := by revert c; decide +kernel) {d : Dev nD} (hd : d = sh (ax s r) 1 c := by revert c; decide +kernel) {w : ℕ} (hw : w ≤ n := by decide) :
    Tri X Wt c (Loc X Wt n w s hf (.ag (r + 1)) c) (give1 n hn' b d) fun _ => Loc X Wt (n + 1) w s hf (.agF r) c := by
  have S := copyG_step X Wt ⟨n, hN⟩ c (h := h) hn' (by rw [hcp]) (by unfold Cert.KernelIdeal.AR.hn; rw [hcp]; exact hh) b
    (by unfold so; rw [hcp]; exact hb) d (by unfold dst; rw [hcp]; exact hd) w hw
  rw [sendPay_ag s r hf c X Wt ⟨n, hN⟩ 1 hcp, har, if_neg (by decide)] at S
  unfold Loc Inst give1
  refine (Tri.pre ?_ (S.frame iprop(Pile (F := F) w c ∗ pt .t c (Rs s 0 hf c) fullShare (bufOf (X c)) ∗ ∃ f, pt .a c (Rs s 0 hf c) fullShare f))).post fun _ => ?_
  · iintro ⟨H1, H2, H3, H4⟩
    isplitl [H1 H3]; · isplitl [H1] <;> iassumption
    isplitl [H2] <;> iassumption
  · exact Entails.of_eq rfl

omit hs hr in
/-- A block in three shares. -/
theorem thirds (S : Finset TI) (f : TC F) : pt .o c S fullShare f ⊣⊢ iprop(pt .o c S (third 1) f ∗ pt .o c S (third 2) f ∗ pt .o c S (third 3) f) := by
  have e1 := pt_share .o c S f (PosShare.mem_left_op_right fullShare)
  have e2 := pt_share .o c S f (PosShare.mem_left_op_right fullShare.right)
  exact ⟨e1.1.trans (sep_mono_right e2.1), (sep_mono_right e2.2).trans e1.2⟩

theorem give3_step {n : ℕ} (hN : n + 2 < 112 := by decide) (hcp : cp ⟨n, by omega⟩ = ⟨true, s, hf, r, 1⟩ := by decide +kernel) (hcp2 : cp ⟨n + 1, by omega⟩ = ⟨true, s, hf, r, 2⟩ := by decide +kernel)
    (hcp3 : cp ⟨n + 2, by omega⟩ = ⟨true, s, hf, r, 3⟩ := by decide +kernel) (har : ar (ax s r) = 4 := by decide +kernel) {h : ℕ} (hh : ht s (r + 1) = h := by decide +kernel) {hn' : n + 2 < 128}
    {b : TB h} (hb : b.1 = ![lo s (r + 1) c.val, 256 * hf] := by revert c; decide +kernel) {d d2 d3 : Dev nD} (hd : d = sh (ax s r) 1 c := by revert c; decide +kernel) (hd2 : d2 = sh (ax s r) 2 c := by revert c; decide +kernel) (hd3 : d3 = sh (ax s r) 3 c := by revert c; decide +kernel)
    {w : ℕ} (hw : w ≤ n := by decide) :
    Tri X Wt c (Loc X Wt n w s hf (.ag (r + 1)) c) (give3 n hn' b d d2 d3) fun _ => Loc X Wt (n + 3) w s hf (.agF r) c := by
  have S1 := copyG_step X Wt ⟨n, by omega⟩ c (h := h) (by dsimp only; omega) (by rw [hcp]) (by unfold Cert.KernelIdeal.AR.hn; rw [hcp]; exact hh) b
    (by unfold so; rw [hcp]; exact hb) d (by unfold dst; rw [hcp]; exact hd) w hw
  have S2 := copyG_step X Wt ⟨n + 1, by omega⟩ c (h := h) (by dsimp only; omega) (by rw [hcp2]) (by unfold Cert.KernelIdeal.AR.hn; rw [hcp2]; exact hh) b
    (by unfold so; rw [hcp2]; exact hb) d2 (by unfold dst; rw [hcp2]; exact hd2) w (by dsimp only; omega)
  have S3 := copyG_step X Wt ⟨n + 2, by omega⟩ c (h := h) hn' (by rw [hcp3]) (by unfold Cert.KernelIdeal.AR.hn; rw [hcp3]; exact hh) b
    (by unfold so; rw [hcp3]; exact hb) d3 (by unfold dst; rw [hcp3]; exact hd3) w (by dsimp only; omega)
  rw [sendPay_ag s r hf c X Wt _ 1 hcp, har, if_pos rfl] at S1
  rw [sendPay_ag s r hf c X Wt _ 2 hcp2, har, if_pos rfl] at S2
  rw [sendPay_ag s r hf c X Wt _ 3 hcp3, har, if_pos rfl] at S3
  unfold Loc Inst give3
  let R : sProp 𝕄 := iprop(Pile (F := F) w c ∗ pt .t c (Rs s 0 hf c) fullShare (bufOf (X c)) ∗ ∃ f, pt .a c (Rs s 0 hf c) fullShare f)
  refine (Tri.pre ?_ (Tri.bind (S1.frame iprop((pt .o c (Rs s (r + 1) hf c) (third 2) (bufOf (O X Wt)) ∗ pt .o c (Rs s (r + 1) hf c) (third 3) (bufOf (O X Wt))) ∗ R)) fun _ =>
    Tri.bind (Tri.pre ?_ (S2.frame iprop(pt .o c (Rs s (r + 1) hf c) (third 3) (bufOf (O X Wt)) ∗ R))) fun _ => Tri.pre ?_ (S3.frame R))).post fun _ => ?_
  · iintro ⟨H1, H2, H3, H4⟩
    ihave H3 := (thirds c _ _).1 $$ H3
    icases H3 with ⟨H5, H6, H7⟩
    isplitl [H1 H5]; · isplitl [H1] <;> iassumption
    isplitl [H6 H7]; · isplitl [H6] <;> iassumption
    isplitl [H2]; · iexact H2
    iexact H4
  · iintro ⟨H1, ⟨H2, H3⟩, H4⟩
    isplitl [H1 H2]; · isplitl [H1] <;> iassumption
    isplitl [H3] <;> iassumption
  · iintro ⟨H1, H2, H3⟩
    isplitl [H1 H2]; · isplitl [H1] <;> iassumption
    iexact H3
  · exact Entails.of_eq rfl

/-! ### Joining -/

theorem join1_step {n : ℕ} (hN : n < 112 := by decide) (hcp : cp ⟨n, hN⟩ = ⟨true, s, hf, r, 1⟩ := by decide +kernel) (har : ar (ax s r) = 2 := by decide +kernel) {h : ℕ} (hh : ht s (r + 1) = h := by decide +kernel) {hn' : n < 128}
    {b : TB h} {k : ℕ} (hk : n < k := by decide) :
    Tri X Wt c (Loc X Wt k n s hf (.agF r) c) (join1 n hn' b) fun _ => Loc X Wt k (n + 1) s hf (.ag r) c := by
  have S := await_step X Wt ⟨n, hN⟩ c (h := h) hn' (by unfold Cert.KernelIdeal.AR.hn; rw [hcp]; exact hh) (tSl oM b) (tSl oM b) k hk
  rw [sendPay_ag s r hf c X Wt ⟨n, hN⟩ 1 hcp, recvPay_ag s r hf c X Wt ⟨n, hN⟩ 1 hcp, har, if_neg (by decide)] at S
  unfold Loc Inst join1
  refine (S.frame _).post fun _ => ?_
  have e := pile_succ (F := F) ⟨n, hN⟩ c
  dsimp only at e
  rw [e, left_ag s r hf c ⟨n, hN⟩ 1 hcp]
  iintro ⟨⟨H1, H2, H3⟩, H4, H5⟩
  isplitl [H1]; · iexact H1
  isplitl [H4]; · isplitr; · iempintro
                  iexact H4
  isplitr [H5]
  · iapply (keep_split s r hf c hs hr _ _ _).2
    isplitl [H2]; · iexact H2
    rw [cut_two s r hf c hs hr har]
    iexact H3
  iexact H5

theorem join3_step {n : ℕ} (hN : n + 2 < 112 := by decide) (hcp : cp ⟨n, by omega⟩ = ⟨true, s, hf, r, 1⟩ := by decide +kernel) (hcp2 : cp ⟨n + 1, by omega⟩ = ⟨true, s, hf, r, 2⟩ := by decide +kernel)
    (hcp3 : cp ⟨n + 2, by omega⟩ = ⟨true, s, hf, r, 3⟩ := by decide +kernel) (har : ar (ax s r) = 4 := by decide +kernel) {h : ℕ} (hh : ht s (r + 1) = h := by decide +kernel) {hn' : n + 2 < 128}
    {b : TB h} {k : ℕ} (hk : n + 2 < k := by decide) :
    Tri X Wt c (Loc X Wt k n s hf (.agF r) c) (join3 n hn' b) fun _ => Loc X Wt k (n + 3) s hf (.ag r) c := by
  have S1 := await_step X Wt ⟨n, by omega⟩ c (h := h) (by dsimp only; omega) (by unfold Cert.KernelIdeal.AR.hn; rw [hcp]; exact hh) (tSl oM b) (tSl oM b) k (by dsimp only; omega)
  have S2 := await_step X Wt ⟨n + 1, by omega⟩ c (h := h) (by dsimp only; omega) (by unfold Cert.KernelIdeal.AR.hn; rw [hcp2]; exact hh) (tSl oM b) (tSl oM b) k (by dsimp only; omega)
  have S3 := await_step X Wt ⟨n + 2, by omega⟩ c (h := h) hn' (by unfold Cert.KernelIdeal.AR.hn; rw [hcp3]; exact hh) (tSl oM b) (tSl oM b) k hk
  rw [sendPay_ag s r hf c X Wt _ 1 hcp, recvPay_ag s r hf c X Wt _ 1 hcp, har, if_pos rfl] at S1
  rw [sendPay_ag s r hf c X Wt _ 2 hcp2, recvPay_ag s r hf c X Wt _ 2 hcp2, har, if_pos rfl] at S2
  rw [sendPay_ag s r hf c X Wt _ 3 hcp3, recvPay_ag s r hf c X Wt _ 3 hcp3, har, if_pos rfl] at S3
  unfold Loc Inst join3
  refine (Tri.bind (S1.frame _) fun _ => Tri.bind (Tri.pre sep_assoc.1 (S2.frame _)) fun _ => Tri.pre sep_assoc.1 (S3.frame _)).post fun _ => ?_
  have e := pile_succ (F := F) ⟨n, by omega⟩ c
  have e2 := pile_succ (F := F) ⟨n + 1, by omega⟩ c
  have e3 := pile_succ (F := F) ⟨n + 2, by omega⟩ c
  dsimp only at e e2 e3
  rw [e3, e2, e, left_ag s r hf c _ 1 hcp, left_ag s r hf c _ 2 hcp2, left_ag s r hf c _ 3 hcp3]
  iintro ⟨⟨H1, A3, B3⟩, ⟨A2, B2⟩, ⟨A1, B1⟩, H4, H5⟩
  isplitl [H1]; · iexact H1
  isplitl [H4]
  · isplitr; · iempintro
    isplitr; · iempintro
    isplitr; · iempintro
    iexact H4
  isplitr [H5]
  · iapply (keep_split s r hf c hs hr _ _ _).2
    isplitl [A1 A2 A3]
    · iapply (thirds c _ _).2
      isplitl [A1]; · iexact A1
      isplitl [A2] <;> iassumption
    · iapply (cut_four s r hf c hs hr har _ _ _).2
      isplitl [B3]; · iexact B3
      isplitl [B2] <;> iassumption
  iexact H5

end Cert.KernelIdeal.AR
-- ==== Proof.Take.lean ====
/-
Taking what came in a round of the summing: wait, read the landing zone, add to the block kept, store the sum.
-/
module

public import proofs.«01_k».proof.Proof.Phase

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- The cast that changes nothing. -/
theorem same_cast {h : ℕ} (v : Vec F (bS h) .f32) : shapeCast (bS h) v (same h) = v := funext fun i => congrArg v (Shape.reshapeEquiv_self _ i)
theorem kept_eq {h : ℕ} (fst : Bool) (v : Vec F (bS h) .f32) : kept fst v = v := by cases fst <;> [rfl; exact same_cast v]

theorem wp_stS (x : Bf) (c : Dev nD) (r : Rect S1024x512) (v : Vec F r.shape .f32) (hx hm) (f g : TC F) (hg : ∀ j, g (r.emb j) = v j) {S : Finset TI} (hS : r.set = S)
    (Q : PUnit → sProp 𝕄) :
    pt x c S fullShare f ⊢ iprop((pt x c S fullShare g -∗ Q ⟨⟩) -∗ wpc c (Prog.lift (.store x.m r v Finset.univ hx hm)) Q) := by
  subst hS; exact wp_st x c r v hx hm f g hg Q

variable (s hf r : ℕ) (c : Dev nD) (hs : s < 4) (hr : r < 3)

theorem A_two (har : ar (ax s r) = 2) (ρ κ : ℕ) : A X s (r + 1) c ρ κ = FloatOps.addf (A X s r c ρ κ) (A X s r (sh (ax s r) 1 c) ρ κ) := by
  show (if _ then _ else _) = _
  rw [if_pos har]
theorem A_four (har : ar (ax s r) = 4) (ρ κ : ℕ) : A X s (r + 1) c ρ κ = FloatOps.addf (A X s r c ρ κ)
    (FloatOps.addf (FloatOps.addf (A X s r (sh (ax s r) 3 c) ρ κ) (A X s r (sh (ax s r) 2 c) ρ κ)) (A X s r (sh (ax s r) 1 c) ρ κ)) := by
  show (if _ then _ else _) = _
  rw [if_neg (by rw [har]; decide)]

include hs hr

/-- Add to the block kept, and store. -/
theorem fin_step {h : ℕ} (hh' : ht s (r + 1) = h) (fst : Bool) (hh : 0 < (bS h).numel) (b : TB h) (hb : b.1 = ![lo s (r + 1) c.val, 256 * hf])
    (z : Vec F (bS h) .f32)
    (hz : ∀ j : (bS h).Idx, FloatOps.addf (A X s r c (lo s (r + 1) c.val + (j 0 : ℕ)) (256 * hf + (j 1 : ℕ))) (z j)
      = A X s (r + 1) c (lo s (r + 1) c.val + (j 0 : ℕ)) (256 * hf + (j 1 : ℕ))) :
    Tri X Wt c iprop(pt (base r) c (Rs s (r + 1) hf c) fullShare (bufOf (A X s r c)) ∗ pt (base r) c (Rs s r hf c \ Rs s (r + 1) hf c) fullShare (bufOf (A X s r c)) ∗ rest X s hf c r)
      (do let y ← ldT hh (base r).m b
          let _ ← ldT hh aM b
          stA hh b (shapeCast (bS h) (addf (kept fst y) z) (same h)))
      fun _ => Inst X Wt s hf c (.rs (r + 1)) := by
  subst hh'
  have eS : (tR b).set = Rs s (r + 1) hf c := tR_set b hb
  have hg : ∀ y : Vec F (bS (ht s (r + 1))) .f32, (∀ j, y j = bufOf (A X s r c) ((tR b).emb j)) →
      ∀ j, bufOf (A X s (r + 1) c) ((tR b).emb j) = (shapeCast (bS (ht s (r + 1))) (addf (kept fst y) z) (same (ht s (r + 1)))) j := by
    intro y hy j
    rw [kept_eq, same_cast]
    show _ = FloatOps.addf (y j) (z j)
    rw [hy]
    unfold bufOf
    rw [(tR_at b hb j).1, (tR_at b hb j).2, hz]
  refine .mk ?_
  unfold ldT stA
  rw [wpc, wp_bind]
  cases r with
  | zero =>
    unfold Inst rest
    iintro ⟨-, H1, H2, ⟨%f, H3⟩⟩
    iapply (wp_ld .t c (tR b) _ _ (by rw [eS]) _) $$ H1
    iintro H1
    rw [wp_bind]
    iapply (wp_ld .a c (tR b) _ f (by rw [eS]; exact Rs_sub s 0 hf c hs hr) _) $$ H3
    iintro H3
    ihave H3 := (keep_split s 0 hf c hs hr .a fullShare f).1 $$ H3
    icases H3 with ⟨H3, H4⟩
    iapply (wp_stS .a c (tR b) _ _ _ f (bufOf (A X s 1 c)) (hg _ fun j => rfl) eS _) $$ H3
    iintro H3
    isplitl [H3]; · iexact H3
    isplitl [H1 H2]
    · iapply (keep_split s 0 hf c hs hr .t fullShare (bufOf (X c))).2
      isplitl [H1]; · iexact H1
      iexact H2
    iexists f; iexact H4
  | succ r =>
    unfold Inst rest
    iintro ⟨-, H1, H2, H5, ⟨%f, H3⟩⟩
    iapply (wp_ld .a c (tR b) _ _ (by rw [eS]) _) $$ H1
    iintro H1
    rw [wp_bind]
    iapply (wp_ld .a c (tR b) _ _ (by rw [eS]) _) $$ H1
    iintro H1
    iapply (wp_stS .a c (tR b) _ _ _ (bufOf (A X s (r + 1) c)) (bufOf (A X s (r + 1 + 1) c)) (hg _ fun j => rfl) eS _) $$ H1
    iintro H1
    isplitl [H1]; · iexact H1
    isplitl [H5]; · iexact H5
    have hd : Disjoint (Rs s 0 hf c \ Rs s (r + 1) hf c) (Rs s (r + 1) hf c \ Rs s (r + 1 + 1) hf c) :=
      Finset.disjoint_left.mpr fun i h1 h2 => (Finset.mem_sdiff.mp h1).2 (Finset.mem_sdiff.mp h2).1
    iexists _
    rw [← junk_sets s (r + 1) hf c hs hr]
    iapply (pt_join .a c fullShare f (bufOf (A X s (r + 1) c)) hd)
    isplitl [H3] <;> iassumption

/-- What came, as it is read. -/
theorem came (k : ℕ) {h : ℕ} (hh' : ht s (r + 1) = h) (rb : RB h) (hrb : rb.1 = ![rbo s r k, 256 * hf]) (f : RC F)
    (hf' : ∀ i ∈ rset (rbo s r k) (ht s (r + 1)) hf, f i = A X s r (sh (ax s r) (ar (ax s r) - k) c) (lo s (r + 1) c.val + ((i 0 : ℕ) - rbo s r k)) (i 1)) (j : (bS h).Idx) :
    f ((rR rb).emb j) = A X s r (sh (ax s r) (ar (ax s r) - k) c) (lo s (r + 1) c.val + (j 0 : ℕ)) (256 * hf + (j 1 : ℕ)) := by
  subst hh'
  rw [hf' _ (by rw [← rR_set rb hrb]; rw [← Rect.map_emb_univ]; exact Finset.mem_map_of_mem _ (Finset.mem_univ j)), (rR_at rb hrb j).1, (rR_at rb hrb j).2]
  congr 1; omega

theorem take1_step {n : ℕ} (hN : n < 112 := by decide) (hcp : cp ⟨n, hN⟩ = ⟨false, s, hf, r, 1⟩ := by decide +kernel) (har : ar (ax s r) = 2 := by decide +kernel) {h : ℕ} (hh' : ht s (r + 1) = h := by decide +kernel) {hn' : n < 128}
    {fst : Bool} {hh : 0 < (bS h).numel} {rb : RB h} (hrb : rb.1 = ![rbo s r 1, 256 * hf] := by revert c; decide +kernel) {sb' : TB h}
    {b : TB h} (hb : b.1 = ![lo s (r + 1) c.val, 256 * hf] := by revert c; decide +kernel) {k : ℕ} (hk : n < k := by decide) :
    Tri X Wt c (Loc X Wt k n s hf (.rsF r) c) (take1 fst hh (base r).m n hn' rb sb' b) fun _ => Loc X Wt k (n + 1) s hf (.rs (r + 1)) c := by
  have S := await_step X Wt ⟨n, hN⟩ c (h := h) hn' (by unfold Cert.KernelIdeal.AR.hn; rw [hcp]; exact hh') (tSl (base r).m sb') (rSl rb) k hk
  rw [sendPay_rs s r hf c X Wt ⟨n, hN⟩ 1 hcp, recvPay_rs s r hf c X Wt ⟨n, hN⟩ 1 hcp] at S
  have e := pile_succ (F := F) ⟨n, hN⟩ c
  have hl := left_rs (F := F) s r hf c ⟨n, hN⟩ 1 hcp
  dsimp only at e
  subst hh'
  rw [← rR_set rb hrb] at S hl
  unfold Loc take1
  rw [e]
  refine Tri.bind (S.frame _) fun _ => .mk ?_
  rw [wpc, wp_bind]
  unfold ldR
  iintro ⟨#HC, ⟨H1, H2, ⟨%f, %Hf, H3⟩⟩, H4, H5⟩
  iapply (wp_ldR c (rR rb) _ f (Finset.Subset.refl _) _) $$ H3
  iintro H3
  have fin := fin_step X Wt s hf r c hs hr rfl fst hh b hb (fun j => f ((rR rb).emb j)) (fun j => by
    rw [came X s hf r c hs hr 1 rfl rb hrb f (by rw [← rR_set rb hrb]; exact Hf) j, A_two X s r c har, har])
  unfold Inst
  icases H5 with ⟨H5, H6⟩
  ihave W := ((fin.frame iprop(Prot (F := F) k (n + 1) c ∗ left (F := F) ⟨n, hN⟩ c ∗ Pile (F := F) n c)).post (P₁ := fun _ => iprop(Prot (F := F) k (n + 1) c ∗ (left (F := F) ⟨n, hN⟩ c ∗ Pile (F := F) n c) ∗ Inst X Wt s hf c (.rs (r + 1)))) (fun _ => by
      iintro ⟨H1, H2, H3, H4⟩
      isplitl [H2]; · iexact H2
      isplitl [H3 H4]; · isplitl [H3] <;> iassumption
      iexact H1)).use $$ [H1 H2 H3 H4 H5 H6]
  · isplitr; · iexact HC
    isplitl [H2 H5 H6]
    · isplitl [H5]; · iexact H5
      isplitl [H2]
      · rw [cut_two s r hf c hs hr har]; iexact H2
      iexact H6
    isplitl [H1]; · iexact H1
    isplitl [H3]; · iapply (hl f); iexact H3
    iexact H4
  iexact W

theorem take3_step {n : ℕ} (hN : n + 2 < 112 := by decide) (hcp : cp ⟨n, by omega⟩ = ⟨false, s, hf, r, 1⟩ := by decide +kernel) (hcp2 : cp ⟨n + 1, by omega⟩ = ⟨false, s, hf, r, 2⟩ := by decide +kernel)
    (hcp3 : cp ⟨n + 2, by omega⟩ = ⟨false, s, hf, r, 3⟩ := by decide +kernel) (har : ar (ax s r) = 4 := by decide +kernel) {h : ℕ} (hh' : ht s (r + 1) = h := by decide +kernel) {hn' : n + 2 < 128}
    {fst : Bool} {hh : 0 < (bS h).numel} {rb rb2 rb3 : RB h} (hrb : rb.1 = ![rbo s r 1, 256 * hf] := by revert c; decide +kernel) (hrb2 : rb2.1 = ![rbo s r 2, 256 * hf] := by revert c; decide +kernel)
    (hrb3 : rb3.1 = ![rbo s r 3, 256 * hf] := by revert c; decide +kernel) {s1 s2 s3 : TB h}
    {b : TB h} (hb : b.1 = ![lo s (r + 1) c.val, 256 * hf] := by revert c; decide +kernel) {k : ℕ} (hk : n + 2 < k := by decide) :
    Tri X Wt c (Loc X Wt k n s hf (.rsF r) c) (take3 fst hh (base r).m n hn' rb rb2 rb3 s1 s2 s3 b) fun _ => Loc X Wt k (n + 3) s hf (.rs (r + 1)) c := by
  have S1 := await_step X Wt ⟨n, by omega⟩ c (h := h) (by dsimp only; omega) (by unfold Cert.KernelIdeal.AR.hn; rw [hcp]; exact hh') (tSl (base r).m s1) (rSl rb) k (by dsimp only; omega)
  have S2 := await_step X Wt ⟨n + 1, by omega⟩ c (h := h) (by dsimp only; omega) (by unfold Cert.KernelIdeal.AR.hn; rw [hcp2]; exact hh') (tSl (base r).m s2) (rSl rb2) k (by dsimp only; omega)
  have S3 := await_step X Wt ⟨n + 2, by omega⟩ c (h := h) hn' (by unfold Cert.KernelIdeal.AR.hn; rw [hcp3]; exact hh') (tSl (base r).m s3) (rSl rb3) k hk
  rw [sendPay_rs s r hf c X Wt _ 1 hcp, recvPay_rs s r hf c X Wt _ 1 hcp] at S1
  rw [sendPay_rs s r hf c X Wt _ 2 hcp2, recvPay_rs s r hf c X Wt _ 2 hcp2] at S2
  rw [sendPay_rs s r hf c X Wt _ 3 hcp3, recvPay_rs s r hf c X Wt _ 3 hcp3] at S3
  have e := pile_succ (F := F) ⟨n, by omega⟩ c
  have e2 := pile_succ (F := F) ⟨n + 1, by omega⟩ c
  have e3 := pile_succ (F := F) ⟨n + 2, by omega⟩ c
  have l1 := left_rs (F := F) s r hf c _ 1 hcp
  have l2 := left_rs (F := F) s r hf c _ 2 hcp2
  have l3 := left_rs (F := F) s r hf c _ 3 hcp3
  dsimp only at e e2 e3
  subst hh'
  rw [← rR_set rb hrb] at S1 l1
  rw [← rR_set rb2 hrb2] at S2 l2
  rw [← rR_set rb3 hrb3] at S3 l3
  unfold Loc take3
  rw [e3, e2, e]
  refine Tri.bind (S1.frame _) fun _ => Tri.bind (Tri.pre sep_assoc.1 (S2.frame _)) fun _ => Tri.bind (Tri.pre sep_assoc.1 (S3.frame _)) fun _ => .mk ?_
  rw [wpc, wp_bind]
  unfold ldR
  iintro ⟨#HC, ⟨H1, A3, ⟨%f3, %Hf3, B3⟩⟩, ⟨A2, ⟨%f2, %Hf2, B2⟩⟩, ⟨A1, ⟨%f1, %Hf1, B1⟩⟩, H4, H5⟩
  iapply (wp_ldR c (rR rb) _ f1 (Finset.Subset.refl _) _) $$ B1
  iintro B1
  rw [wp_bind]
  iapply (wp_ldR c (rR rb2) _ f2 (Finset.Subset.refl _) _) $$ B2
  iintro B2
  rw [wp_bind]
  iapply (wp_ldR c (rR rb3) _ f3 (Finset.Subset.refl _) _) $$ B3
  iintro B3
  have fin := fin_step X Wt s hf r c hs hr rfl fst hh b hb
    (addf (addf (fun j => f1 ((rR rb).emb j)) (fun j => f2 ((rR rb2).emb j))) (fun j => f3 ((rR rb3).emb j))) (fun j => by
    show FloatOps.addf _ (FloatOps.addf (FloatOps.addf (f1 ((rR rb).emb j)) (f2 ((rR rb2).emb j))) (f3 ((rR rb3).emb j))) = _
    rw [came X s hf r c hs hr 1 rfl rb hrb f1 (by rw [← rR_set rb hrb]; exact Hf1) j, came X s hf r c hs hr 2 rfl rb2 hrb2 f2 (by rw [← rR_set rb2 hrb2]; exact Hf2) j,
      came X s hf r c hs hr 3 rfl rb3 hrb3 f3 (by rw [← rR_set rb3 hrb3]; exact Hf3) j, A_four X s r c har, har])
  unfold Inst
  icases H5 with ⟨H5, H6⟩
  let R : sProp 𝕄 := iprop(left (F := F) ⟨n + 2, by omega⟩ c ∗ left (F := F) ⟨n + 1, by omega⟩ c ∗ left (F := F) ⟨n, by omega⟩ c ∗ Pile (F := F) n c)
  ihave W := ((fin.frame iprop(Prot (F := F) k (n + 3) c ∗ R)).post (P₁ := fun _ => iprop(Prot (F := F) k (n + 3) c ∗ R ∗ Inst X Wt s hf c (.rs (r + 1)))) (fun _ => by
      iintro ⟨H1, H2, H3⟩
      isplitl [H2]; · iexact H2
      isplitl [H3]; · iexact H3
      iexact H1)).use $$ [H1 A1 A2 A3 B1 B2 B3 H4 H5 H6]
  · isplitr; · iexact HC
    isplitl [A1 A2 A3 H5 H6]
    · isplitl [H5]; · iexact H5
      isplitl [A1 A2 A3]
      · iapply (cut_four s r hf c hs hr har _ _ _).2
        isplitl [A1]; · iexact A1
        isplitl [A2] <;> iassumption
      iexact H6
    isplitl [H1]; · iexact H1
    isplitl [B3]; · iapply (l3 f3); iexact B3
    isplitl [B2]; · iapply (l2 f2); iexact B2
    isplitl [B1]; · iapply (l1 f1); iexact B1
    iexact H4
  iexact W

end Cert.KernelIdeal.AR
-- ==== Proof.State.lean ====
/-
The state of all eight streams' halves together, and how a step of one of them is a step of the whole.
-/
module

public import proofs.«01_k».proof.Proof.Take

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- A stream and a half. -/
abbrev I8 := Fin 4 × Fin 2

def St (k w : ℕ) (ph : I8 → Ph) (c : Dev nD) : sProp 𝕄 :=
  iprop(Prot (F := F) k w c ∗ Pile (F := F) w c ∗ bigSep Finset.univ fun i : I8 => Inst X Wt i.1.val i.2.val c (ph i))

variable {X Wt}

theorem Tri.liftR {c : Dev nD} {α : Type} {k w k' w' : ℕ} {ph : I8 → Ph} {p p' : Ph} {prog : Pg F α} {R : sProp 𝕄} {R' : α → sProp 𝕄}
    (i : I8) (hp : ph i = p)
    (t : Tri X Wt c iprop(Loc X Wt k w i.1.val i.2.val p c ∗ R) prog fun a => iprop(Loc X Wt k' w' i.1.val i.2.val p' c ∗ R' a)) :
    Tri X Wt c iprop(St X Wt k w ph c ∗ R) prog fun a => iprop(St X Wt k' w' (Function.update ph i p') c ∗ R' a) := by
  subst hp
  let O : sProp 𝕄 := bigSep (Finset.univ.erase i) fun i : I8 => Inst X Wt i.1.val i.2.val c (ph i)
  have e : ∀ q : Ph, (bigSep Finset.univ fun j : I8 => Inst X Wt j.1.val j.2.val c (Function.update ph i q j)) = iprop(Inst X Wt i.1.val i.2.val c q ∗ O) := by
    intro q
    rw [one_and (i := i) (t := Finset.univ.erase i) (Finset.notMem_erase _ _) (Finset.insert_erase (Finset.mem_univ _)).symm, Function.update_self]
    congr 1
    exact bigSep_congr fun j hj => by rw [Function.update_of_ne (Finset.mem_erase.mp hj).1]
  have e0 := e (ph i)
  rw [Function.update_eq_self] at e0
  refine (Tri.pre ?_ (t.frame O)).post fun a => ?_
  · unfold St Loc
    rw [e0]
    iintro ⟨⟨H1, H2, H3, H4⟩, H5⟩
    isplitr [H4]
    · isplitr [H5]
      · isplitl [H1]; · iexact H1
        isplitl [H2] <;> iassumption
      iexact H5
    iexact H4
  · unfold St Loc
    rw [e p']
    iintro ⟨⟨⟨H1, H2, H3⟩, H5⟩, H4⟩
    isplitr [H5]
    · isplitl [H1]; · iexact H1
      isplitl [H2]; · iexact H2
      isplitl [H3] <;> iassumption
    iexact H5

theorem Tri.lift {c : Dev nD} {k w k' w' : ℕ} {ph : I8 → Ph} {p p' : Ph} {prog : Pg F PUnit} {R : sProp 𝕄}
    (i : I8) (hp : ph i = p)
    (t : Tri X Wt c (Loc X Wt k w i.1.val i.2.val p c) prog fun _ => Loc X Wt k' w' i.1.val i.2.val p' c) :
    Tri X Wt c iprop(St X Wt k w ph c ∗ R) prog fun _ => iprop(St X Wt k' w' (Function.update ph i p') c ∗ R) :=
  Tri.liftR i hp (t.frame R)

/-- A change of one half's state by itself. -/
theorem St.change {c : Dev nD} {k w : ℕ} {ph : I8 → Ph} {p p' : Ph} {R R' : sProp 𝕄} (i : I8) (hp : ph i = p)
    (t : iprop(Inst X Wt i.1.val i.2.val c p ∗ R) ⊢ iprop(Inst X Wt i.1.val i.2.val c p' ∗ R')) :
    iprop(St X Wt k w ph c ∗ R) ⊢ iprop(St X Wt k w (Function.update ph i p') c ∗ R') := by
  subst hp
  let O : sProp 𝕄 := bigSep (Finset.univ.erase i) fun i : I8 => Inst X Wt i.1.val i.2.val c (ph i)
  have e : ∀ q : Ph, (bigSep Finset.univ fun j : I8 => Inst X Wt j.1.val j.2.val c (Function.update ph i q j)) = iprop(Inst X Wt i.1.val i.2.val c q ∗ O) := by
    intro q
    rw [one_and (i := i) (t := Finset.univ.erase i) (Finset.notMem_erase _ _) (Finset.insert_erase (Finset.mem_univ _)).symm, Function.update_self]
    congr 1
    exact bigSep_congr fun j hj => by rw [Function.update_of_ne (Finset.mem_erase.mp hj).1]
  have e0 := e (ph i)
  rw [Function.update_eq_self] at e0
  unfold St
  rw [e0, e p']
  iintro ⟨⟨H1, H2, H3, H4⟩, H5⟩
  ihave T := t $$ [H3 H5]
  · isplitl [H3] <;> iassumption
  icases T with ⟨H3, H5⟩
  isplitr [H5]
  · isplitl [H1]; · iexact H1
    isplitl [H2]; · iexact H2
    isplitl [H3] <;> iassumption
  iexact H5

/-- The state by the values of its parts. -/
theorem St.eq {c : Dev nD} {k w : ℕ} {ph ph' : I8 → Ph} (h : ∀ i, ph i = ph' i) : St X Wt k w ph c = St X Wt k w ph' c := by
  rw [show ph = ph' from funext h]

/-- One step of one half, then the rest. -/
theorem Tri.next {c : Dev nD} {α : Type} {k w k' w' : ℕ} {ph : I8 → Ph} {p p' : Ph} {prog : Pg F PUnit} {R : sProp 𝕄} {more : PUnit → Pg F α} {Q : α → sProp 𝕄}
    (i : I8) (hp : ph i = p)
    (t : Tri X Wt c (Loc X Wt k w i.1.val i.2.val p c) prog fun _ => Loc X Wt k' w' i.1.val i.2.val p' c)
    (h : Tri X Wt c iprop(St X Wt k' w' (Function.update ph i p') c ∗ R) (more ⟨⟩) Q) :
    Tri X Wt c iprop(St X Wt k w ph c ∗ R) (prog >>= more) Q :=
  (Tri.lift i hp t).bind fun _ => h
/-- The last step. -/
theorem Tri.last {c : Dev nD} {k w k' w' : ℕ} {ph ph' : I8 → Ph} {p p' : Ph} {prog : Pg F PUnit} {R : sProp 𝕄}
    (i : I8) (hp : ph i = p)
    (t : Tri X Wt c (Loc X Wt k w i.1.val i.2.val p c) prog fun _ => Loc X Wt k' w' i.1.val i.2.val p' c)
    (h : ∀ j, Function.update ph i p' j = ph' j) :
    Tri X Wt c iprop(St X Wt k w ph c ∗ R) prog fun _ => iprop(St X Wt k' w' ph' c ∗ R) := by
  have T := Tri.lift (R := R) i hp t
  rw [St.eq h] at T
  exact T

end Cert.KernelIdeal.AR
-- ==== Proof.SegsA.lean ====
/-
The summing: the parts of the body before the product, as steps of the halves.
-/
module

public import proofs.«01_k».proof.Proof.State

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- The phases of the first and of the second halves. -/
def both (p q : Ph) : I8 → Ph := fun i => if i.2 = 0 then p else q

theorem seg0_step (c : Dev nD) (R : sProp 𝕄) : Tri X Wt c iprop(St X Wt 0 0 (both (.rs 0) (.rs 0)) c ∗ R) (seg0 c)
    fun _ => iprop(St X Wt 8 0 (both (.rsF 0) (.rs 0)) c ∗ R) := by
  unfold seg0
  refine .next (0, 0) rfl (send1_step X Wt 0 0 0 c (by decide) (by decide)) ?_
  refine .next (1, 0) rfl (send3_step X Wt 1 0 0 c (by decide) (by decide)) ?_
  refine .next (2, 0) rfl (send3_step X Wt 2 0 0 c (by decide) (by decide)) ?_
  exact .last (3, 0) rfl (send1_step X Wt 3 0 0 c (by decide) (by decide)) (by decide)

theorem seg1_step (c : Dev nD) (R : sProp 𝕄) : Tri X Wt c iprop(St X Wt 8 0 (both (.rsF 0) (.rs 0)) c ∗ R) (seg1 c)
    fun _ => iprop(St X Wt 26 8 (both (.rsF 1) (.rsF 0)) c ∗ R) := by
  unfold seg1
  refine .next (0, 1) rfl (send1_step X Wt 0 1 0 c (by decide) (by decide)) ?_
  refine .next (1, 1) rfl (send3_step X Wt 1 1 0 c (by decide) (by decide)) ?_
  refine .next (2, 1) rfl (send3_step X Wt 2 1 0 c (by decide) (by decide)) ?_
  refine .next (3, 1) rfl (send1_step X Wt 3 1 0 c (by decide) (by decide)) ?_
  refine .next (0, 0) rfl (take1_step X Wt 0 0 0 c (by decide) (by decide)) ?_
  refine .next (0, 0) rfl (send3_step X Wt 0 0 1 c (by decide) (by decide)) ?_
  refine .next (1, 0) rfl (take3_step X Wt 1 0 0 c (by decide) (by decide)) ?_
  refine .next (1, 0) rfl (send3_step X Wt 1 0 1 c (by decide) (by decide)) ?_
  refine .next (2, 0) rfl (take3_step X Wt 2 0 0 c (by decide) (by decide)) ?_
  refine .next (2, 0) rfl (send1_step X Wt 2 0 1 c (by decide) (by decide)) ?_
  refine .next (3, 0) rfl (take1_step X Wt 3 0 0 c (by decide) (by decide)) ?_
  exact .last (3, 0) rfl (send3_step X Wt 3 0 1 c (by decide) (by decide)) (by decide)

theorem seg2_step (c : Dev nD) (R : sProp 𝕄) : Tri X Wt c iprop(St X Wt 26 8 (both (.rsF 1) (.rsF 0)) c ∗ R) (seg2 c)
    fun _ => iprop(St X Wt 46 26 (both (.rsF 2) (.rsF 1)) c ∗ R) := by
  unfold seg2
  refine .next (0, 1) rfl (take1_step X Wt 0 1 0 c (by decide) (by decide)) ?_
  refine .next (0, 1) rfl (send3_step X Wt 0 1 1 c (by decide) (by decide)) ?_
  refine .next (1, 1) rfl (take3_step X Wt 1 1 0 c (by decide) (by decide)) ?_
  refine .next (1, 1) rfl (send3_step X Wt 1 1 1 c (by decide) (by decide)) ?_
  refine .next (2, 1) rfl (take3_step X Wt 2 1 0 c (by decide) (by decide)) ?_
  refine .next (2, 1) rfl (send1_step X Wt 2 1 1 c (by decide) (by decide)) ?_
  refine .next (3, 1) rfl (take1_step X Wt 3 1 0 c (by decide) (by decide)) ?_
  refine .next (3, 1) rfl (send3_step X Wt 3 1 1 c (by decide) (by decide)) ?_
  refine .next (0, 0) rfl (take3_step X Wt 0 0 1 c (by decide) (by decide)) ?_
  refine .next (0, 0) rfl (send3_step X Wt 0 0 2 c (by decide) (by decide)) ?_
  refine .next (1, 0) rfl (take3_step X Wt 1 0 1 c (by decide) (by decide)) ?_
  refine .next (1, 0) rfl (send1_step X Wt 1 0 2 c (by decide) (by decide)) ?_
  refine .next (2, 0) rfl (take1_step X Wt 2 0 1 c (by decide) (by decide)) ?_
  refine .next (2, 0) rfl (send3_step X Wt 2 0 2 c (by decide) (by decide)) ?_
  refine .next (3, 0) rfl (take3_step X Wt 3 0 1 c (by decide) (by decide)) ?_
  exact .last (3, 0) rfl (send3_step X Wt 3 0 2 c (by decide) (by decide)) (by decide)

end Cert.KernelIdeal.AR
-- ==== Proof.Stash.lean ====
/-
The product.  Each half's finished rows go, eight of each stream, to a strip of the landing zone; the strips are read
as one matrix and multiplied; the product's rows are stored in the result.
-/
module

public import proofs.«01_k».proof.Proof.SegsA
public import Idealize.ShloMosaic.Lib.Pipeline.Value

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- What a strip is to hold, and the zone once the strip of stream `s` is stored. -/
def Zc (c : Dev nD) : RC F := fun i => A X (((i 0 : ℕ) - 1984) / 8) 3 c (lo (((i 0 : ℕ) - 1984) / 8) 3 c + ((i 0 : ℕ) - 1984) % 8) (i 1)
def put (s : ℕ) (c : Dev nD) (f : RC F) : RC F := fun i => if ((i 0 : ℕ) - 1984) / 8 = s then Zc X c i else f i

/-- A store inside a larger set held. -/
theorem wp_stR_in (c : Dev nD) (r : Rect S2048x512) (v : Vec F r.shape .f32) (hx hm) (f g : RC F) (hg : ∀ j, g (r.emb j) = v j) {Z : Finset RI} (hZ : r.set ⊆ Z)
    (hfg : ∀ i ∈ Z \ r.set, f i = g i) (Q : PUnit → sProp 𝕄) :
    ptR c Z f ⊢ iprop((ptR c Z g -∗ Q ⟨⟩) -∗ wpc c (Prog.lift (.store rM r v Finset.univ hx hm)) Q) := by
  have e := ptR_congr (F := F) c (Z \ r.set) hfg
  iintro H K
  ihave H := (ptR_split c f hZ).1 $$ H
  icases H with ⟨H1, H2⟩
  iapply (wp_stR c r v hx hm f g hg _) $$ H1
  iintro H1
  iapply K
  iapply (ptR_split c g hZ).2
  isplitl [H1]; · iexact H1
  rw [← e]; iexact H2

/-- Eight rows to their strip. -/
theorem strip_step (s hf : ℕ) (hs : s < 4) (hhf : hf < 2) (c : Dev nD) {b : TB 8} (hb : b.1 = ![lo s 3 c.val, 256 * hf]) {r : RB 8} (hr : r.1 = ![1984 + 8 * s, 256 * hf]) (f : RC F) :
    Tri X Wt c iprop(pt .a c (Rs s 3 hf c) fullShare (bufOf (A X s 3 c)) ∗ ptR c (rset 1984 32 hf) f) (strip b r)
      fun _ => iprop(pt .a c (Rs s 3 hf c) fullShare (bufOf (A X s 3 c)) ∗ ptR c (rset 1984 32 hf) (put X s c f)) := by
  refine .mk ?_
  have h8 : ht s 3 = 8 := ht_three ⟨s, hs⟩
  have e1 : (tR b).set = Rs s 3 hf c := by unfold Rs; rw [h8]; exact tR_set b hb
  have e2 : (rR r).set = rset (1984 + 8 * s) 8 hf := rR_set r hr
  unfold strip ldT ldR stR
  rw [wpc, wp_bind]
  iintro ⟨-, H1, H2⟩
  iapply (wp_ld .a c (tR b) _ _ (by rw [e1]) _) $$ H1
  iintro H1
  rw [wp_bind]
  have hZ : (rR r).set ⊆ rset 1984 32 hf := by
    rw [e2]; intro i hi; rw [mem_rset] at hi ⊢; omega
  iapply (wp_ldR c (rR r) _ f hZ _) $$ H2
  iintro H2
  iapply (wp_stR_in c (rR r) _ _ _ f (put X s c f) (fun j => ?_) hZ (fun i hi => ?_) _) $$ H2
  · have e := same_cast (F := F) (h := 8) (fun j => bufOf (A X s 3 c) ((tR b).emb j))
    refine Eq.trans ?_ (congrFun e j).symm
    have hj : (j 0 : ℕ) < 8 := (j 0).isLt
    unfold put Zc bufOf
    rw [(rR_at r hr j).1, (rR_at r hr j).2, (tR_at b hb j).1, (tR_at b hb j).2,
      show (1984 + 8 * s + (j 0 : ℕ) - 1984) / 8 = s by omega, show (1984 + 8 * s + (j 0 : ℕ) - 1984) % 8 = (j 0 : ℕ) by omega, if_pos rfl]
  · rw [e2, Finset.mem_sdiff, mem_rset, mem_rset] at hi
    unfold put
    rw [if_neg (by omega)]
  · iintro H2
    isplitl [H1] <;> iassumption

/-- The zone where one half's strips go. -/
def Zone (hf : ℕ) (c : Dev nD) : sProp 𝕄 := iprop(∃ f : RC F, ptR c (rset 1984 32 hf) f)
/-- The weights. -/
def wpt (c : Dev nD) : sProp 𝕄 := ((c : Thread nD τ).loc cc0_stg1_0) ↦[Finset.univ]{fullShare} fun i => Wt c (i 0) (i 1)

variable {X Wt}
theorem Tri.strip {c : Dev nD} {k w : ℕ} {ph : I8 → Ph} (i : I8) (hp : ph i = .rs 3) {b : TB 8} (hb : b.1 = ![lo i.1.val 3 c.val, 256 * i.2.val]) {r : RB 8}
    (hr : r.1 = ![1984 + 8 * i.1.val, 256 * i.2.val]) (f : RC F) :
    Tri X Wt c iprop(St X Wt k w ph c ∗ ptR c (rset 1984 32 i.2.val) f) (strip b r) fun _ => iprop(St X Wt k w ph c ∗ ptR c (rset 1984 32 i.2.val) (put X i.1.val c f)) := by
  have T := strip_step X Wt i.1.val i.2.val i.1.isLt i.2.isLt c hb hr f
  have U := Tri.liftR (k := k) (w := w) (k' := k) (w' := w) (p' := .rs 3) i hp (R := ptR c (rset 1984 32 i.2.val) f) (R' := fun _ => ptR c (rset 1984 32 i.2.val) (put X i.1.val c f))
    (prog := Cert.KernelIdeal.AR.strip b r) (X := X) (Wt := Wt) (by
      unfold Loc Inst
      refine (Tri.pre ?_ (T.frame iprop(Prot (F := F) k w c ∗ Pile (F := F) w c ∗ rest X i.1.val i.2.val c 3))).post fun _ => ?_
      · iintro ⟨⟨H1, H2, H3, H4⟩, H5⟩
        isplitl [H3 H5]; · isplitl [H3]; · iexact H3
                           iexact H5
        isplitl [H1]; · iexact H1
        isplitl [H2] <;> iassumption
      · iintro ⟨⟨H3, H5⟩, H1, H2, H4⟩
        isplitr [H5]
        · isplitl [H1]; · iexact H1
          isplitl [H2]; · iexact H2
          isplitl [H3]; · iexact H3
          iexact H4
        iexact H5)
  rw [← hp, Function.update_eq_self] at U
  exact U
variable (X Wt)

theorem wp_ldW (c : Dev nD) (r : Rect S512x512) (hl) (Q : Vec F r.shape .f32 → sProp 𝕄) :
    wpt Wt c ⊢ iprop((wpt Wt c -∗ Q (fun j => Wt c (r.emb j 0) (r.emb j 1))) -∗ wpc c (Prog.lift (.load wM r.toLoadRect hl)) Q) :=
  ld_view c wM r hl (fun i : S512x512.Idx => Wt c (i 0) (i 1)) (Finset.subset_univ _) Q

/-- The matrix and the weights read. -/
theorem read_step (c : Dev nD) (hf : Fin 2) (hc : 256 * hf.val + 256 ≤ 512) (f : RC F) (hfz : ∀ i ∈ rset 1984 32 hf.val, f i = Zc X c i) (hw) :
    Tri X Wt c iprop(ptR c (rset 1984 32 hf.val) f ∗ wpt Wt c)
      (do
        let x ← ldR h_S32x256 (rAt 32 1984 (256 * hf.val) (by decide) hc)
        let w ← Prog.lift (.load wM (Rect.unit (s := S512x512) ![256 * hf.val, 0] S256x512.size hw).toLoadRect (View.loadsAt_vmem h_S256x512))
        pure (x, w))
      fun a => iprop(⌜a = (xh X c hf.val, wh Wt c hf.val)⌝ ∗ Zone (F := F) hf.val c ∗ wpt Wt c) := by
  have hi : 1984 + 32 ≤ 2048 := by decide
  refine .mk ?_
  have eZ := rR_set (rAt 32 1984 (256 * hf.val) (by decide) hc) rfl
  unfold ldR
  rw [wpc, wp_bind]
  iintro ⟨-, H2, H3⟩
  iapply (wp_ldR c (rR (rAt 32 1984 (256 * hf.val) hi hc)) _ f eZ.subset _) $$ H2
  iintro H2
  rw [wp_bind]
  iapply (wp_ldW Wt c _ _ _) $$ H3
  iintro H3
  simp only [Prog.pure_eq_ret]
  rw [wp_ret]
  imodintro
  isplitr
  · ipureintro
    refine Prod.ext ?_ ?_
    · refine funext fun j => ?_
      have hj : (j 0 : ℕ) < 32 := (j 0).isLt
      have e := rR_at (rAt 32 1984 (256 * hf.val) (by decide) hc) rfl j
      show f _ = _
      rw [hfz _ (by rw [← eZ, ← Rect.map_emb_univ]; exact Finset.mem_map_of_mem _ (Finset.mem_univ j))]
      unfold Zc xh
      rw [e.1, e.2, show 1984 + (j 0 : ℕ) - 1984 = (j 0 : ℕ) by omega]
    · refine funext fun j => ?_
      show Wt c _ _ = Wt c _ _
      congr 1
      · show 256 * hf.val + 1 * (j 0 : ℕ) = _; omega
      · show 0 + 1 * (j 1 : ℕ) = _; omega
  isplitl [H2]
  · unfold Zone; iexists _; iexact H2
  iexact H3

theorem put_all (c : Dev nD) (hf : ℕ) (f : RC F) (i : RI) (hi : i ∈ rset 1984 32 hf) : put X 3 c (put X 2 c (put X 1 c (put X 0 c f))) i = Zc X c i := by
  rw [mem_rset] at hi
  unfold put
  repeat' split
  all_goals first | rfl | omega

variable {X Wt} in
theorem Tri.ex {c : Dev nD} {α β : Type} {P : β → sProp 𝕄} {p : Pg F α} {P' : α → sProp 𝕄} (h : ∀ b, Tri X Wt c (P b) p P') : Tri X Wt c iprop(∃ b, P b) p P' := by
  refine .mk ?_
  iintro ⟨HC, ⟨%b, H⟩⟩
  iapply (h b).use
  isplitl [HC] <;> iassumption

/-- Four strips, then the matrix and the weights read. -/
theorem stash_step {c : Dev nD} {k w : ℕ} {ph : I8 → Ph} (hf : Fin 2) (hp : ∀ s, ph (s, hf) = .rs 3) {col : ℕ} (hcol : col = 256 * hf.val) (hc : col + 256 ≤ 512) {b0 b1 b2 b3 : TB 8}
    (h0 : b0.1 = ![lo 0 3 c.val, 256 * hf.val]) (h1 : b1.1 = ![lo 1 3 c.val, 256 * hf.val]) (h2 : b2.1 = ![lo 2 3 c.val, 256 * hf.val]) (h3 : b3.1 = ![lo 3 3 c.val, 256 * hf.val]) (R : sProp 𝕄) :
    Tri X Wt c iprop(St X Wt k w ph c ∗ Zone (F := F) hf.val c ∗ wpt Wt c ∗ R) (stash col hc b0 b1 b2 b3)
      fun a => iprop(⌜a = (xh X c hf.val, wh Wt c hf.val)⌝ ∗ St X Wt k w ph c ∗ Zone (F := F) hf.val c ∗ wpt Wt c ∗ R) := by
  subst hcol
  refine Tri.pre (P := iprop(∃ f, (St X Wt k w ph c ∗ ptR c (rset 1984 32 hf.val) f) ∗ wpt Wt c ∗ R)) ?_ (Tri.ex fun f => ?_)
  · unfold Zone
    iintro ⟨H1, ⟨%f, H2⟩, H3⟩
    iexists f
    isplitr [H3]
    · isplitl [H1] <;> iassumption
    iexact H3
  unfold stash
  refine Tri.bind ((Tri.strip (0, hf) (hp 0) h0 rfl f).frame _) fun _ => ?_
  refine Tri.bind ((Tri.strip (1, hf) (hp 1) h1 rfl _).frame _) fun _ => ?_
  refine Tri.bind ((Tri.strip (2, hf) (hp 2) h2 rfl _).frame _) fun _ => ?_
  refine Tri.bind ((Tri.strip (3, hf) (hp 3) h3 rfl _).frame _) fun _ => ?_
  refine (Tri.pre ?_ ((read_step X Wt c hf hc _ (put_all X c hf.val f) _).frame iprop(St X Wt k w ph c ∗ R))).post fun a => ?_
  · iintro ⟨⟨H1, H2⟩, H3, H4⟩
    isplitl [H2 H3]
    · isplitl [H2]; · iexact H2
      iexact H3
    isplitl [H1] <;> iassumption
  · iintro ⟨⟨H1, H2, H3⟩, H4, H5⟩
    isplitl [H1]; · iexact H1
    isplitl [H4]; · iexact H4
    isplitl [H2]; · iexact H2
    isplitl [H3] <;> iassumption

/-! ### The result's rows -/

theorem oR_set {a : ℕ} (b : OB) (hb : b.1 = ![a, 0]) : (Rect.unit (s := S1024x512) b.1 S8x512.size b.2).set = wset a 8 := by
  ext i
  rw [mem_wset, Rect.mem_set_unit, hb]
  exact ⟨fun H => H 0, fun H x => by fin_cases x <;> [exact H; exact ⟨Nat.zero_le _, (i 1).isLt⟩]⟩

/-- Rows of the product, as stored, are the result's. -/
theorem O_rows (c : Dev nD) (s : Fin 4) (v : Vec F S8x512 .f32) (h : ∀ j : S8x512.Idx, v j = Om X Wt c (i32 (8 * s.val + (j 0 : ℕ)) (j 1))) {b : OB} (hb : b.1 = ![lo s.val 3 c.val, 0]) (j) :
    bufOf (O X Wt) ((Rect.unit (s := S1024x512) b.1 S8x512.size b.2).emb j) = v j := by
  have e0 : (((Rect.unit (s := S1024x512) b.1 S8x512.size b.2).emb j 0 : Fin _) : ℕ) = lo s.val 3 c.val + (j 0 : ℕ) :=
    (unit_at (s := S1024x512) b.1 S8x512.size b.2 j 0).trans (congrArg (· + (j 0 : ℕ)) (congrFun hb 0))
  have e1 : (((Rect.unit (s := S1024x512) b.1 S8x512.size b.2).emb j 1 : Fin _) : ℕ) = (j 1 : ℕ) :=
    (unit_at (s := S1024x512) b.1 S8x512.size b.2 j 1).trans ((congrArg (· + (j 1 : ℕ)) (congrFun hb 1)).trans (Nat.zero_add _))
  unfold bufOf
  rw [e0, e1, h]
  have o := own_lo c s ⟨(j 0 : ℕ), (j 0).isLt⟩
  have d := lo_div c s ⟨(j 0 : ℕ), (j 0).isLt⟩
  dsimp only at o d
  unfold O
  rw [o, d.1, d.2]

/-- Eight of the 32 rows of a matrix. -/
theorem rows_at (off : ℕ) (x : FVec F S32x512 .f32) (h) (j : S8x512.Idx) (hoff : off + 8 ≤ 32) :
    extractStridedSlice S8x512 ![off, 0] x h j = x (i32 (off + (j 0 : ℕ)) (j 1)) := by
  have hj : (j 0 : ℕ) < 8 := (j 0).isLt
  have hj1 : (j 1 : ℕ) < 512 := (j 1).isLt
  refine extractStridedSlice_apply _ x h j _ fun a => ?_
  fin_cases a
  · show (off + (j 0 : ℕ)) % 32 = off + (j 0 : ℕ); omega
  · show (j 1 : ℕ) % 512 = 0 + (j 1 : ℕ); omega

/-- Where the rows of stream `s` go. -/
def OutRow (s : ℕ) (c : Dev nD) : sProp 𝕄 := iprop(∃ f : TC F, pt .o c (wset (lo s 3 c.val) 8) fullShare f)

theorem stO_step (c : Dev nD) (s : Fin 4) (v : Vec F S8x512 .f32) (h : ∀ j : S8x512.Idx, v j = Om X Wt c (i32 (8 * s.val + (j 0 : ℕ)) (j 1))) {b : OB} (hb : b.1 = ![lo s.val 3 c.val, 0]) :
    Tri X Wt c (OutRow (F := F) s.val c) (stO b v) fun _ => pt .o c (wset (lo s.val 3 c.val) 8) fullShare (bufOf (O X Wt)) := by
  refine .mk ?_
  unfold OutRow stO
  rw [wpc, wp_bind]
  iintro ⟨-, ⟨%f, H⟩⟩
  iapply (wp_ld .o c _ _ f (by rw [oR_set b hb]) _) $$ H
  iintro H
  iapply (wp_stS .o c _ _ _ _ f (bufOf (O X Wt)) (O_rows X Wt c s v h hb) (oR_set b hb) _) $$ H
  iintro H; iexact H

theorem halves (c : Dev nD) (s : Fin 4) : (pt .o c (wset (lo s.val 3 c.val) 8) fullShare (bufOf (O X Wt)) : sProp 𝕄)
    ⊢ iprop(pt .o c (Rs s.val 3 0 c) fullShare (bufOf (O X Wt)) ∗ pt .o c (Rs s.val 3 1 c) fullShare (bufOf (O X Wt))) := by
  have e : wset (lo s.val 3 c.val) 8 = Rs s.val 3 0 c ∪ Rs s.val 3 1 c := by
    ext i
    have h1 : (i 1 : ℕ) < 512 := (i 1).isLt
    unfold Rs
    rw [ht_three, Finset.mem_union, mem_wset, mem_tset, mem_tset]
    omega
  rw [e]
  refine (pt_union .o c fullShare _ ?_).1
  rw [Finset.disjoint_left]
  intro i h1 h2
  unfold Rs at h1 h2
  rw [mem_tset] at h1 h2
  omega

/-- With its rows of the result in place a half goes over to the gathering. -/
theorem turn (c : Dev nD) (s hf : ℕ) (hs : s < 4) (R : sProp 𝕄) : iprop(Inst X Wt s hf c (.rs 3) ∗ pt .o c (Rs s 3 hf c) fullShare (bufOf (O X Wt)) ∗ R) ⊢ iprop(Inst X Wt s hf c (.ag 3) ∗ R) := by
  unfold Inst rest
  iintro ⟨⟨H1, H2, ⟨%f, H3⟩⟩, H4, H5⟩
  isplitr [H5]
  · isplitl [H4]; · iexact H4
    isplitl [H2]; · iexact H2
    iexists _
    have J := pt_join (F := F) .a c fullShare (bufOf (A X s 3 c)) f (Finset.disjoint_sdiff (s := Rs s 3 hf c) (t := Rs s 0 hf c))
    rw [Finset.union_sdiff_of_subset (Rs_sub_zero s 3 hf c hs (by decide))] at J
    iapply J
    isplitl [H1]; · iexact H1
    iexact H3
  iexact H5

end Cert.KernelIdeal.AR
-- ==== Proof.SegsC.lean ====
/-
The gathering: the parts of the body after the product, as steps of the halves.
-/
module

public import proofs.«01_k».proof.Proof.SegsA

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

theorem seg5_step (c : Dev nD) (R : sProp 𝕄) : Tri X Wt c iprop(St X Wt 66 56 (both (.agF 2) (.ag 3)) c ∗ R) (seg5 c)
    fun _ => iprop(St X Wt 86 66 (both (.agF 1) (.agF 2)) c ∗ R) := by
  unfold seg5
  refine .next (0, 1) rfl (give3_step X Wt 0 1 2 c (by decide) (by decide)) ?_
  refine .next (1, 1) rfl (give1_step X Wt 1 1 2 c (by decide) (by decide)) ?_
  refine .next (2, 1) rfl (give3_step X Wt 2 1 2 c (by decide) (by decide)) ?_
  refine .next (3, 1) rfl (give3_step X Wt 3 1 2 c (by decide) (by decide)) ?_
  refine .next (0, 0) rfl (join3_step X Wt 0 0 2 c (by decide) (by decide)) ?_
  refine .next (0, 0) rfl (give3_step X Wt 0 0 1 c (by decide) (by decide)) ?_
  refine .next (1, 0) rfl (join1_step X Wt 1 0 2 c (by decide) (by decide)) ?_
  refine .next (1, 0) rfl (give3_step X Wt 1 0 1 c (by decide) (by decide)) ?_
  refine .next (2, 0) rfl (join3_step X Wt 2 0 2 c (by decide) (by decide)) ?_
  refine .next (2, 0) rfl (give1_step X Wt 2 0 1 c (by decide) (by decide)) ?_
  refine .next (3, 0) rfl (join3_step X Wt 3 0 2 c (by decide) (by decide)) ?_
  exact .last (3, 0) rfl (give3_step X Wt 3 0 1 c (by decide) (by decide)) (by decide)

theorem seg6_step (c : Dev nD) (R : sProp 𝕄) : Tri X Wt c iprop(St X Wt 86 66 (both (.agF 1) (.agF 2)) c ∗ R) (seg6 c)
    fun _ => iprop(St X Wt 104 86 (both (.agF 0) (.agF 1)) c ∗ R) := by
  unfold seg6
  refine .next (0, 1) rfl (join3_step X Wt 0 1 2 c (by decide) (by decide)) ?_
  refine .next (0, 1) rfl (give3_step X Wt 0 1 1 c (by decide) (by decide)) ?_
  refine .next (1, 1) rfl (join1_step X Wt 1 1 2 c (by decide) (by decide)) ?_
  refine .next (1, 1) rfl (give3_step X Wt 1 1 1 c (by decide) (by decide)) ?_
  refine .next (2, 1) rfl (join3_step X Wt 2 1 2 c (by decide) (by decide)) ?_
  refine .next (2, 1) rfl (give1_step X Wt 2 1 1 c (by decide) (by decide)) ?_
  refine .next (3, 1) rfl (join3_step X Wt 3 1 2 c (by decide) (by decide)) ?_
  refine .next (3, 1) rfl (give3_step X Wt 3 1 1 c (by decide) (by decide)) ?_
  refine .next (0, 0) rfl (join3_step X Wt 0 0 1 c (by decide) (by decide)) ?_
  refine .next (0, 0) rfl (give1_step X Wt 0 0 0 c (by decide) (by decide)) ?_
  refine .next (1, 0) rfl (join3_step X Wt 1 0 1 c (by decide) (by decide)) ?_
  refine .next (1, 0) rfl (give3_step X Wt 1 0 0 c (by decide) (by decide)) ?_
  refine .next (2, 0) rfl (join1_step X Wt 2 0 1 c (by decide) (by decide)) ?_
  refine .next (2, 0) rfl (give3_step X Wt 2 0 0 c (by decide) (by decide)) ?_
  refine .next (3, 0) rfl (join3_step X Wt 3 0 1 c (by decide) (by decide)) ?_
  exact .last (3, 0) rfl (give1_step X Wt 3 0 0 c (by decide) (by decide)) (by decide)

theorem seg7_step (c : Dev nD) (R : sProp 𝕄) : Tri X Wt c iprop(St X Wt 104 86 (both (.agF 0) (.agF 1)) c ∗ R) (seg7 c)
    fun _ => iprop(St X Wt 112 104 (both (.ag 0) (.agF 0)) c ∗ R) := by
  unfold seg7
  refine .next (0, 1) rfl (join3_step X Wt 0 1 1 c (by decide) (by decide)) ?_
  refine .next (0, 1) rfl (give1_step X Wt 0 1 0 c (by decide) (by decide)) ?_
  refine .next (1, 1) rfl (join3_step X Wt 1 1 1 c (by decide) (by decide)) ?_
  refine .next (1, 1) rfl (give3_step X Wt 1 1 0 c (by decide) (by decide)) ?_
  refine .next (2, 1) rfl (join1_step X Wt 2 1 1 c (by decide) (by decide)) ?_
  refine .next (2, 1) rfl (give3_step X Wt 2 1 0 c (by decide) (by decide)) ?_
  refine .next (3, 1) rfl (join3_step X Wt 3 1 1 c (by decide) (by decide)) ?_
  refine .next (3, 1) rfl (give1_step X Wt 3 1 0 c (by decide) (by decide)) ?_
  refine .next (0, 0) rfl (join1_step X Wt 0 0 0 c (by decide) (by decide)) ?_
  refine .next (1, 0) rfl (join3_step X Wt 1 0 0 c (by decide) (by decide)) ?_
  refine .next (2, 0) rfl (join3_step X Wt 2 0 0 c (by decide) (by decide)) ?_
  exact .last (3, 0) rfl (join1_step X Wt 3 0 0 c (by decide) (by decide)) (by decide)

theorem seg8_step (c : Dev nD) (R : sProp 𝕄) : Tri X Wt c iprop(St X Wt 112 104 (both (.ag 0) (.agF 0)) c ∗ R) (seg8 c)
    fun _ => iprop(St X Wt 112 112 (both (.ag 0) (.ag 0)) c ∗ R) := by
  unfold seg8
  refine .next (0, 1) rfl (join1_step X Wt 0 1 0 c (by decide) (by decide)) ?_
  refine .next (1, 1) rfl (join3_step X Wt 1 1 0 c (by decide) (by decide)) ?_
  refine .next (2, 1) rfl (join3_step X Wt 2 1 0 c (by decide) (by decide)) ?_
  exact .last (3, 1) rfl (join1_step X Wt 3 1 0 c (by decide) (by decide)) (by decide)

end Cert.KernelIdeal.AR
-- ==== Proof.SegsB.lean ====
/-
The part of the body around the product.
-/
module

public import proofs.«01_k».proof.Proof.Stash
public import proofs.«01_k».proof.Proof.SegsC

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- The places of the result's own rows, one for each stream. -/
def Outs (c : Dev nD) : sProp 𝕄 := iprop(OutRow (F := F) 0 c ∗ OutRow (F := F) 1 c ∗ OutRow (F := F) 2 c ∗ OutRow (F := F) 3 c)

theorem seg3_step (c : Dev nD) (R : sProp 𝕄) :
    Tri X Wt c iprop(St X Wt 46 26 (both (.rsF 2) (.rsF 1)) c ∗ Zone (F := F) 0 c ∗ wpt Wt c ∗ R) (seg3 c)
      fun a => iprop(⌜a = (xh X c 0, wh Wt c 0)⌝ ∗ St X Wt 56 46 (both (.rs 3) (.rsF 2)) c ∗ Zone (F := F) 0 c ∗ wpt Wt c ∗ R) := by
  unfold seg3
  refine .next (0, 1) rfl (take3_step X Wt 0 1 1 c (by decide) (by decide)) ?_
  refine .next (0, 1) rfl (send3_step X Wt 0 1 2 c (by decide) (by decide)) ?_
  refine .next (1, 1) rfl (take3_step X Wt 1 1 1 c (by decide) (by decide)) ?_
  refine .next (1, 1) rfl (send1_step X Wt 1 1 2 c (by decide) (by decide)) ?_
  refine .next (2, 1) rfl (take1_step X Wt 2 1 1 c (by decide) (by decide)) ?_
  refine .next (2, 1) rfl (send3_step X Wt 2 1 2 c (by decide) (by decide)) ?_
  refine .next (3, 1) rfl (take3_step X Wt 3 1 1 c (by decide) (by decide)) ?_
  refine .next (3, 1) rfl (send3_step X Wt 3 1 2 c (by decide) (by decide)) ?_
  refine .next (0, 0) rfl (take3_step X Wt 0 0 2 c (by decide) (by decide)) ?_
  refine .next (1, 0) rfl (take1_step X Wt 1 0 2 c (by decide) (by decide)) ?_
  refine .next (2, 0) rfl (take3_step X Wt 2 0 2 c (by decide) (by decide)) ?_
  refine .bind (.last (ph' := both (.rs 3) (.rsF 2)) (3, 0) rfl (take3_step X Wt 3 0 2 c (by decide) (by decide)) (by decide)) fun _ => ?_
  exact stash_step X Wt 0 (by decide) rfl (by decide) (by revert c; decide +kernel) (by revert c; decide +kernel) (by revert c; decide +kernel) (by revert c; decide +kernel) R

variable {X Wt} in
/-- Knowing the value returned. -/
theorem Tri.known {c : Dev nD} {α β : Type} {a v : α} {P : sProp 𝕄} {p : Pg F β} {P' : β → sProp 𝕄} (h : a = v → Tri X Wt c P p P') : Tri X Wt c iprop(⌜a = v⌝ ∗ P) p P' := by
  refine .mk ?_
  iintro ⟨HC, %e, H⟩
  iapply (h e).use
  isplitl [HC] <;> iassumption

/-- All the halves go over to the gathering. -/
theorem turn_all (c : Dev nD) (k w : ℕ) (R : sProp 𝕄) :
    iprop(St X Wt k w (both (.rs 3) (.rs 3)) c ∗ (bigSep Finset.univ fun s : Fin 4 => pt .o c (wset (lo s.val 3 c.val) 8) fullShare (bufOf (O X Wt))) ∗ R)
      ⊢ iprop(St X Wt k w (both (.ag 3) (.ag 3)) c ∗ R) := by
  have T : ∀ i : I8, iprop(Inst X Wt i.1.val i.2.val c (both (.rs 3) (.rs 3) i) ∗ pt .o c (Rs i.1.val 3 i.2.val c) fullShare (bufOf (O X Wt)))
      ⊢ Inst X Wt i.1.val i.2.val c (both (.ag 3) (.ag 3) i) := by
    intro i
    have e : both (.rs 3) (.rs 3) i = .rs 3 := by revert i; decide
    have e' : both (.ag 3) (.ag 3) i = .ag 3 := by revert i; decide
    rw [e, e']
    have t := turn X Wt c i.1.val i.2.val i.1.isLt iprop(emp)
    iintro ⟨H1, H2⟩
    ihave t := t $$ [H1 H2]
    · isplitl [H1]; · iexact H1
      isplitl [H2]; · iexact H2
      iempintro
    icases t with ⟨t, -⟩
    iexact t
  have B : (bigSep Finset.univ fun s : Fin 4 => (pt .o c (wset (lo s.val 3 c.val) 8) fullShare (bufOf (O X Wt)) : sProp 𝕄))
      ⊢ bigSep Finset.univ fun i : I8 => pt .o c (Rs i.1.val 3 i.2.val c) fullShare (bufOf (O X Wt)) := by
    rw [bigSep_univ_prod]
    refine bigSep_mono fun s _ => ?_
    rw [one_and (i := (0 : Fin 2)) (t := {1}) (by decide) (by decide), bigSep_singleton]
    exact halves X Wt c s
  unfold St
  iintro ⟨⟨H1, H2, H3⟩, H4, H5⟩
  isplitr [H5]
  · isplitl [H1]; · iexact H1
    isplitl [H2]; · iexact H2
    ihave H4 := B $$ H4
    have T' : iprop((bigSep Finset.univ fun i : I8 => Inst X Wt i.1.val i.2.val c (both (.rs 3) (.rs 3) i))
        ∗ bigSep Finset.univ fun i : I8 => pt .o c (Rs i.1.val 3 i.2.val c) fullShare (bufOf (O X Wt)))
        ⊢ bigSep Finset.univ fun i : I8 => Inst X Wt i.1.val i.2.val c (both (.ag 3) (.ag 3) i) := by
      rw [← bigSep_sep']; exact bigSep_mono fun i _ => T i
    iapply T'
    isplitl [H3]; · iexact H3
    iexact H4
  iexact H5

theorem seg4_step (c : Dev nD) (R : sProp 𝕄) :
    Tri X Wt c iprop(St X Wt 56 46 (both (.rs 3) (.rsF 2)) c ∗ Zone (F := F) 1 c ∗ wpt Wt c ∗ Outs (F := F) c ∗ R) (seg4 c (dot0 (xh X c 0) (wh Wt c 0)))
      fun _ => iprop(St X Wt 66 56 (both (.agF 2) (.ag 3)) c ∗ Zone (F := F) 1 c ∗ wpt Wt c ∗ R) := by
  unfold seg4
  refine .next (0, 1) rfl (take3_step X Wt 0 1 2 c (by decide) (by decide)) ?_
  refine .next (1, 1) rfl (take1_step X Wt 1 1 2 c (by decide) (by decide)) ?_
  refine .next (2, 1) rfl (take3_step X Wt 2 1 2 c (by decide) (by decide)) ?_
  refine .bind (.last (ph' := both (.rs 3) (.rs 3)) (3, 1) rfl (take3_step X Wt 3 1 2 c (by decide) (by decide)) (by decide)) fun _ => ?_
  refine .bind (stash_step X Wt 1 (by decide) rfl (by decide) (by revert c; decide +kernel) (by revert c; decide +kernel) (by revert c; decide +kernel) (by revert c; decide +kernel) _) fun a => ?_
  refine .known fun e => ?_
  subst e
  let S0 : sProp 𝕄 := iprop(St X Wt 56 56 (both (.rs 3) (.rs 3)) c ∗ Zone (F := F) 1 c ∗ wpt Wt c ∗ R)
  let o : ℕ → sProp 𝕄 := fun s => pt .o c (wset (lo s 3 c.val) 8) fullShare (bufOf (O X Wt))
  refine .pre (P := iprop(OutRow (F := F) 0 c ∗ OutRow (F := F) 1 c ∗ OutRow (F := F) 2 c ∗ OutRow (F := F) 3 c ∗ S0)) ?_ ?_
  · unfold Outs
    iintro ⟨H1, H2, H3, ⟨H4, H5, H6, H7⟩, H8⟩
    isplitl [H4]; · iexact H4
    isplitl [H5]; · iexact H5
    isplitl [H6]; · iexact H6
    isplitl [H7]; · iexact H7
    isplitl [H1]; · iexact H1
    isplitl [H2]; · iexact H2
    isplitl [H3] <;> iassumption
  refine .bind ((stO_step X Wt c 0 (k0_pay40 (dot0 (xh X c 0) (wh Wt c 0)) (xh X c 1) (wh Wt c 1)) (fun j => rows_at 0 (Om X Wt c) slices_S32x512_o0_0_S8x512 j (by decide)) (by revert c; decide +kernel)).frame _) fun _ => ?_
  refine .pre (P := iprop(OutRow (F := F) 1 c ∗ OutRow (F := F) 2 c ∗ OutRow (F := F) 3 c ∗ S0 ∗ o 0)) ?_ ?_
  · iintro ⟨H1, H2, H3, H4, H5⟩
    isplitl [H2]; · iexact H2
    isplitl [H3]; · iexact H3
    isplitl [H4]; · iexact H4
    isplitl [H5]; · iexact H5
    iexact H1
  refine .bind ((stO_step X Wt c 1 (k0_pay41 (dot0 (xh X c 0) (wh Wt c 0)) (xh X c 1) (wh Wt c 1)) (fun j => rows_at 8 (Om X Wt c) slices_S32x512_o8_0_S8x512 j (by decide)) (by revert c; decide +kernel)).frame _) fun _ => ?_
  refine .pre (P := iprop(OutRow (F := F) 2 c ∗ OutRow (F := F) 3 c ∗ S0 ∗ o 0 ∗ o 1)) ?_ ?_
  · iintro ⟨H1, H2, H3, H4, H5⟩
    isplitl [H2]; · iexact H2
    isplitl [H3]; · iexact H3
    isplitl [H4]; · iexact H4
    isplitl [H5]; · iexact H5
    iexact H1
  refine .bind ((stO_step X Wt c 2 (k0_pay42 (dot0 (xh X c 0) (wh Wt c 0)) (xh X c 1) (wh Wt c 1)) (fun j => rows_at 16 (Om X Wt c) slices_S32x512_o16_0_S8x512 j (by decide)) (by revert c; decide +kernel)).frame _) fun _ => ?_
  refine .pre (P := iprop(OutRow (F := F) 3 c ∗ S0 ∗ o 0 ∗ o 1 ∗ o 2)) ?_ ?_
  · iintro ⟨H1, H2, H3, H4, H5⟩
    isplitl [H2]; · iexact H2
    isplitl [H3]; · iexact H3
    isplitl [H4]; · iexact H4
    isplitl [H5]; · iexact H5
    iexact H1
  refine .bind ((stO_step X Wt c 3 (k0_pay43 (dot0 (xh X c 0) (wh Wt c 0)) (xh X c 1) (wh Wt c 1)) (fun j => rows_at 24 (Om X Wt c) slices_S32x512_o24_0_S8x512 j (by decide)) (by revert c; decide +kernel)).frame _) fun _ => ?_
  refine .pre (P := iprop(St X Wt 56 56 (both (.ag 3) (.ag 3)) c ∗ Zone (F := F) 1 c ∗ wpt Wt c ∗ R)) ?_ ?_
  · refine BIBase.Entails.trans ?_ (turn_all X Wt c 56 56 _)
    have e : (bigSep Finset.univ fun s : Fin 4 => (pt .o c (wset (lo s.val 3 c.val) 8) fullShare (bufOf (O X Wt)) : sProp 𝕄)) = iprop(o 0 ∗ o 1 ∗ o 2 ∗ o 3) := by
      rw [one_and (i := (0 : Fin 4)) (t := {1, 2, 3}) (by decide) (by decide), one_and (i := (1 : Fin 4)) (t := {2, 3}) (by decide) (by decide),
        one_and (i := (2 : Fin 4)) (t := {3}) (by decide) (by decide), bigSep_singleton]
      rfl
    rw [e]
    iintro ⟨H4, ⟨H5, H6⟩, H1, H2, H3⟩
    isplitl [H5]; · iexact H5
    isplitl [H1 H2 H3 H4]
    · isplitl [H1]; · iexact H1
      isplitl [H2]; · iexact H2
      isplitl [H3]; · iexact H3
      iexact H4
    iexact H6
  refine .next (0, 0) rfl (give3_step X Wt 0 0 2 c (by decide) (by decide)) ?_
  refine .next (1, 0) rfl (give1_step X Wt 1 0 2 c (by decide) (by decide)) ?_
  refine .next (2, 0) rfl (give3_step X Wt 2 0 2 c (by decide) (by decide)) ?_
  exact .last (3, 0) rfl (give3_step X Wt 3 0 2 c (by decide) (by decide)) (by decide)

/-- The body after the meeting. -/
theorem prog_step (c : Dev nD) :
    Tri X Wt c iprop(Start (F := F) c ∗ Pile (F := F) 0 c ∗ (bigSep Finset.univ fun i : I8 => Inst X Wt i.1.val i.2.val c (.rs 0)) ∗ Zone (F := F) 0 c ∗ Zone (F := F) 1 c ∗ wpt Wt c ∗ Outs (F := F) c)
      (prog c)
      fun _ => iprop(semVal (barC c) 0 ∗ Prot (F := F) 112 112 c ∗ Pile (F := F) 112 c ∗ (bigSep Finset.univ fun i : I8 => Inst X Wt i.1.val i.2.val c (.ag 0)) ∗ Zone (F := F) 0 c ∗ Zone (F := F) 1 c ∗ wpt Wt c) := by
  have e1 : both (.rs 0) (.rs 0) = fun _ => Ph.rs 0 := by funext i; revert i; decide
  have e2 : both (.ag 0) (.ag 0) = fun _ => Ph.ag 0 := by funext i; revert i; decide
  unfold prog
  refine .bind ((meet_step X Wt c).frame _) fun _ => ?_
  refine .pre (P := iprop(St X Wt 0 0 (both (.rs 0) (.rs 0)) c ∗ Zone (F := F) 0 c ∗ wpt Wt c ∗ Zone (F := F) 1 c ∗ Outs (F := F) c ∗ semVal (barC c) 0)) ?_ ?_
  · unfold St
    rw [e1]
    iintro ⟨⟨H1, H2⟩, H3, H4, H5, H6, H7, H8⟩
    isplitl [H1 H3 H4]
    · isplitl [H1]; · iexact H1
      isplitl [H3] <;> iassumption
    isplitl [H5]; · iexact H5
    isplitl [H7]; · iexact H7
    isplitl [H6]; · iexact H6
    isplitl [H8] <;> iassumption
  refine .bind (seg0_step X Wt c _) fun _ => ?_
  refine .bind (seg1_step X Wt c _) fun _ => ?_
  refine .bind (seg2_step X Wt c _) fun _ => ?_
  refine .bind (seg3_step X Wt c _) fun a => ?_
  refine .known fun e => ?_
  subst e
  refine .pre (P := iprop(St X Wt 56 46 (both (.rs 3) (.rsF 2)) c ∗ Zone (F := F) 1 c ∗ wpt Wt c ∗ Outs (F := F) c ∗ Zone (F := F) 0 c ∗ semVal (barC c) 0)) ?_ ?_
  · iintro ⟨H1, H2, H3, H4, H5, H6⟩
    isplitl [H1]; · iexact H1
    isplitl [H4]; · iexact H4
    isplitl [H3]; · iexact H3
    isplitl [H5]; · iexact H5
    isplitl [H2] <;> iassumption
  refine .bind (seg4_step X Wt c _) fun _ => ?_
  refine .bind (seg5_step X Wt c _) fun _ => ?_
  refine .bind (seg6_step X Wt c _) fun _ => ?_
  refine .bind (seg7_step X Wt c _) fun _ => ?_
  refine (seg8_step X Wt c _).post fun _ => ?_
  unfold St
  rw [e2]
  iintro ⟨⟨H1, H2, H3⟩, H4, H5, H6, H7⟩
  isplitl [H7]; · iexact H7
  isplitl [H1]; · iexact H1
  isplitl [H2]; · iexact H2
  isplitl [H3]; · iexact H3
  isplitl [H6]; · iexact H6
  isplitl [H4]; · iexact H4
  iexact H5

end Cert.KernelIdeal.AR
-- ==== Proof.Whole.lean ====
/-
The buffers whole and in pieces: how the four large buffers are cut up for the exchange, and how they come back.
-/
module

public import proofs.«01_k».proof.Proof.SegsB
@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-! ### A buffer as a family of rectangles -/

theorem TC_ne : Nonempty (TC F) := ⟨bufOf fun _ _ => (FloatOps.ofBits .f32 0 : F .f32)⟩
theorem RC_ne : Nonempty (RC F) := ⟨fun _ => (FloatOps.ofBits .f32 0 : F .f32)⟩
theorem pt_none (x : Bf) (c : Dev nD) (f : TC F) : (pt x c ∅ fullShare f : sProp 𝕄) = BI.emp := by cases x <;> exact pointsTo_empty
theorem ptR_none (c : Dev nD) (f : RC F) : (ptR c ∅ f : sProp 𝕄) = BI.emp := pointsTo_empty
theorem ptR_union (c : Dev nD) {I J : Finset RI} (f : RC F) (h : Disjoint I J) : ptR c (I ∪ J) f ⊣⊢ iprop(ptR c I f ∗ ptR c J f) := pointsTo_union h
theorem ptR_join (c : Dev nD) {I J : Finset RI} (f g : RC F) (h : Disjoint I J) : iprop(ptR c I f ∗ ptR c J g) ⊢ ptR c (I ∪ J) (J.piecewise g f) := pointsTo_join h

theorem away {T Y : Type} [DecidableEq T] [DecidableEq Y] {S : Finset T} {K : T → Finset Y} {t : T} (ht : t ∉ S) (h : ∀ i ∈ insert t S, ∀ j ∈ insert t S, i ≠ j → Disjoint (K i) (K j)) :
    Disjoint (K t) (S.biUnion K) :=
  (Finset.disjoint_biUnion_right _ _ _).mpr fun j hj => h t (Finset.mem_insert_self _ _) j (Finset.mem_insert_of_mem hj) fun e => ht (e ▸ hj)

theorem pt_fam (x : Bf) (c : Dev nD) {T : Type} [DecidableEq T] (S : Finset T) (K : T → Finset TI) (f : TC F) (h : ∀ t ∈ S, ∀ t' ∈ S, t ≠ t' → Disjoint (K t) (K t')) :
    pt x c (S.biUnion K) fullShare f = bigSep S fun t => pt x c (K t) fullShare f := by
  induction S using Finset.induction_on with
  | empty => rw [Finset.biUnion_empty, pt_none, bigSep_empty]
  | insert t S ht ih =>
    rw [Finset.biUnion_insert, bigSep_insert ht, (pt_union x c fullShare f (away ht h)).1.antisymm (pt_union x c fullShare f (away ht h)).2,
      ih fun i hi j hj => h i (Finset.mem_insert_of_mem hi) j (Finset.mem_insert_of_mem hj)]
    rfl
theorem ptR_fam (c : Dev nD) {T : Type} [DecidableEq T] (S : Finset T) (K : T → Finset RI) (f : RC F) (h : ∀ t ∈ S, ∀ t' ∈ S, t ≠ t' → Disjoint (K t) (K t')) :
    ptR c (S.biUnion K) f = bigSep S fun t => ptR c (K t) f := by
  induction S using Finset.induction_on with
  | empty => rw [Finset.biUnion_empty, ptR_none, bigSep_empty]
  | insert t S ht ih =>
    rw [Finset.biUnion_insert, bigSep_insert ht, (ptR_union c f (away ht h)).1.antisymm (ptR_union c f (away ht h)).2,
      ih fun i hi j hj => h i (Finset.mem_insert_of_mem hi) j (Finset.mem_insert_of_mem hj)]
    rfl
/-- The same with the contents unknown. -/
theorem pt_fam_ex (x : Bf) (c : Dev nD) {T : Type} [DecidableEq T] (S : Finset T) (K : T → Finset TI) (h : ∀ t ∈ S, ∀ t' ∈ S, t ≠ t' → Disjoint (K t) (K t')) :
    bigSep S (fun t => iprop(∃ f : TC F, pt x c (K t) fullShare f)) ⊢ iprop(∃ f : TC F, pt x c (S.biUnion K) fullShare f) := by
  induction S using Finset.induction_on with
  | empty =>
    rw [Finset.biUnion_empty, bigSep_empty]
    obtain ⟨z⟩ := (TC_ne : Nonempty (TC F))
    have e := pt_none (F := F) x c z
    iintro -
    iexists z; rw [e]; iempintro
  | insert t S ht ih =>
    rw [Finset.biUnion_insert, bigSep_insert ht]
    have ih' := ih fun i hi j hj => h i (Finset.mem_insert_of_mem hi) j (Finset.mem_insert_of_mem hj)
    refine (show iprop((∃ f : TC F, pt x c (K t) fullShare f) ∗ bigSep S (fun t => iprop(∃ f : TC F, pt x c (K t) fullShare f))) ⊢ _ from ?_)
    iintro ⟨⟨%f, H1⟩, H2⟩
    ihave H2 := ih' $$ H2
    icases H2 with ⟨%g, H2⟩
    iexists _
    iapply (pt_join x c fullShare f g (away ht h))
    isplitl [H1] <;> iassumption
theorem ptR_fam_ex (c : Dev nD) {T : Type} [DecidableEq T] (S : Finset T) (K : T → Finset RI) (h : ∀ t ∈ S, ∀ t' ∈ S, t ≠ t' → Disjoint (K t) (K t')) :
    bigSep S (fun t => iprop(∃ f : RC F, ptR c (K t) f)) ⊢ iprop(∃ f : RC F, ptR c (S.biUnion K) f) := by
  induction S using Finset.induction_on with
  | empty =>
    rw [Finset.biUnion_empty, bigSep_empty]
    obtain ⟨z⟩ := (RC_ne : Nonempty (RC F))
    have e := ptR_none (F := F) c z
    iintro -
    iexists z; rw [e]; iempintro
  | insert t S ht ih =>
    rw [Finset.biUnion_insert, bigSep_insert ht]
    have ih' := ih fun i hi j hj => h i (Finset.mem_insert_of_mem hi) j (Finset.mem_insert_of_mem hj)
    refine (show iprop((∃ f : RC F, ptR c (K t) f) ∗ bigSep S (fun t => iprop(∃ f : RC F, ptR c (K t) f))) ⊢ _ from ?_)
    iintro ⟨⟨%f, H1⟩, H2⟩
    ihave H2 := ih' $$ H2
    icases H2 with ⟨%g, H2⟩
    iexists _
    iapply (ptR_join c f g (away ht h))
    isplitl [H1] <;> iassumption

theorem tset_apart {a h p b g q : ℕ} (H : Apart a h p b g q) : Disjoint (tset a h p) (tset b g q) := by
  rw [Finset.disjoint_left]
  intro i h1 h2
  rw [mem_tset] at h1 h2
  rcases H with H | H | H <;> omega
theorem rset_apart {a h p b g q : ℕ} (H : Apart a h p b g q) : Disjoint (rset a h p) (rset b g q) := by
  rw [Finset.disjoint_left]
  intro i h1 h2
  rw [mem_rset] at h1 h2
  rcases H with H | H | H <;> omega
theorem tw_apart {a h p b g : ℕ} (H : a + h ≤ b ∨ b + g ≤ a) : Disjoint (tset a h p) (wset b g) := by
  rw [Finset.disjoint_left]
  intro i h1 h2
  rw [mem_tset] at h1; rw [mem_wset] at h2
  omega
theorem ww_apart {a h b g : ℕ} (H : a + h ≤ b ∨ b + g ≤ a) : Disjoint (wset a h) (wset b g) := by
  rw [Finset.disjoint_left]
  intro i h1 h2
  rw [mem_wset] at h1 h2
  omega

theorem two (Φ : Fin 2 → sProp 𝕄) : bigSep Finset.univ Φ = iprop(Φ 0 ∗ Φ 1) := bigSep_univ_eq_bigSepL [(0 : Fin 2), 1] (by decide) (by decide) Φ
theorem four (Φ : Fin 4 → sProp 𝕄) : bigSep Finset.univ Φ = iprop(Φ 0 ∗ Φ 1 ∗ Φ 2 ∗ Φ 3) := bigSep_univ_eq_bigSepL [(0 : Fin 4), 1, 2, 3] (by decide) (by decide) Φ
theorem sum_univ {I J : Type} [Fintype I] [Fintype J] (Φ : I ⊕ J → sProp 𝕄) :
    bigSep Finset.univ Φ = iprop((bigSep Finset.univ fun i => Φ (.inl i)) ∗ bigSep Finset.univ fun j => Φ (.inr j)) := BI.bigSep_univ_sum Φ

/-! ### The eight blocks -/

theorem blocks_disj (c : Dev nD) (i j : I8) (h : i ≠ j) : Disjoint (Rs i.1.val 0 i.2.val c) (Rs j.1.val 0 j.2.val c) := by
  refine tset_apart ?_
  show 256 * i.1.val + 256 ≤ 256 * j.1.val ∨ 256 * j.1.val + 256 ≤ 256 * i.1.val ∨ i.2.val ≠ j.2.val
  by_contra hn
  have h2 : i.2.val = j.2.val := by tauto
  exact h (Prod.ext (Fin.ext (by omega)) (Fin.ext h2))
theorem blocks_all (c : Dev nD) : (Finset.univ : Finset I8).biUnion (fun i => Rs i.1.val 0 i.2.val c) = Finset.univ := by
  refine Finset.eq_univ_iff_forall.mpr fun i => ?_
  have h0 : (i 0 : ℕ) < 1024 := (i 0).isLt
  have h1 : (i 1 : ℕ) < 512 := (i 1).isLt
  rw [Finset.mem_biUnion]
  refine ⟨(⟨(i 0 : ℕ) / 256, by omega⟩, ⟨(i 1 : ℕ) / 256, by omega⟩), Finset.mem_univ _, ?_⟩
  dsimp only
  rw [Rs_zero, mem_tset]
  omega

/-- A buffer of 1024 rows is its eight blocks. -/
theorem pt_blocks (x : Bf) (c : Dev nD) (f : TC F) :
    pt x c Finset.univ fullShare f = bigSep Finset.univ fun i : I8 => pt x c (Rs i.1.val 0 i.2.val c) fullShare f := by
  rw [← pt_fam x c Finset.univ _ f fun i _ j _ h => blocks_disj c i j h, blocks_all]
/-- The same with the contents unknown. -/
theorem pt_blocks_ex (x : Bf) (c : Dev nD) :
    (bigSep Finset.univ fun i : I8 => iprop(∃ f : TC F, pt x c (Rs i.1.val 0 i.2.val c) fullShare f)) ⊢ iprop(∃ f : TC F, pt x c Finset.univ fullShare f) := by
  refine (pt_fam_ex x c Finset.univ (fun i : I8 => Rs i.1.val 0 i.2.val c) fun i _ j _ h => blocks_disj c i j h).trans ?_
  rw [blocks_all]

/-- The two input buffers as the exchange starts with them. -/
theorem start_insts (c : Dev nD) (f : TC F) :
    iprop(pt .t c Finset.univ fullShare (bufOf (X c)) ∗ pt .a c Finset.univ fullShare f) ⊢ bigSep Finset.univ fun i : I8 => Inst X Wt i.1.val i.2.val c (.rs 0) := by
  rw [pt_blocks, pt_blocks, ← bigSep_sep']
  refine bigSep_mono fun i _ => (show iprop(pt .t c (Rs i.1.val 0 i.2.val c) fullShare (bufOf (X c)) ∗ pt .a c (Rs i.1.val 0 i.2.val c) fullShare f)
    ⊢ iprop(pt .t c (Rs i.1.val 0 i.2.val c) fullShare (bufOf (X c)) ∗ ∃ f, pt .a c (Rs i.1.val 0 i.2.val c) fullShare f) from ?_)
  iintro ⟨H1, H2⟩
  isplitl [H1]; · iexact H1
  iexists f; iexact H2
/-- The three buffers as it leaves them. -/
theorem end_insts (c : Dev nD) : (bigSep Finset.univ fun i : I8 => Inst X Wt i.1.val i.2.val c (.ag 0))
    ⊢ iprop(pt .o c Finset.univ fullShare (bufOf (O X Wt)) ∗ pt .t c Finset.univ fullShare (bufOf (X c)) ∗ ∃ f, pt .a c Finset.univ fullShare f) := by
  rw [pt_blocks, pt_blocks]
  refine BIBase.Entails.trans ?_ (sep_mono_right (sep_mono_right (pt_blocks_ex .a c)))
  rw [← bigSep_sep', ← bigSep_sep']
  exact Entails.of_eq rfl

/-! ### The landing zone -/

/-- The places in the landing zone: those of the summing's copies, and the strips of the product. -/
def zs : Ix ⊕ Fin 2 → Finset RI
  | .inl n => if (cp n).ag then ∅ else rset (ro n) (hn n) (cp n).hf
  | .inr h => rset 1984 32 h.val
theorem zs_disj (x y : Ix ⊕ Fin 2) (h : x ≠ y) : Disjoint (zs x) (zs y) := by
  rcases x with n | p <;> rcases y with m | q <;> unfold zs
  · have hne : n ≠ m := fun e => h (by rw [e])
    dsimp only
    split
    · exact Finset.disjoint_empty_left _
    split
    · exact Finset.disjoint_empty_right _
    exact rset_apart (ro_apart n m (Bool.eq_false_iff.mpr ‹_›) (Bool.eq_false_iff.mpr ‹_›) hne)
  · dsimp only
    split
    · exact Finset.disjoint_empty_left _
    exact rset_apart (.inl (ro_low n (Bool.eq_false_iff.mpr ‹_›)))
  · dsimp only
    split
    · exact Finset.disjoint_empty_right _
    exact rset_apart (.inr (.inl (ro_low m (Bool.eq_false_iff.mpr ‹_›))))
  · exact rset_apart (.inr (.inr fun e => h (by rw [Fin.ext e])))
def zAll : Finset RI := (Finset.univ : Finset (Ix ⊕ Fin 2)).biUnion zs
/-- What of the landing zone no one uses. -/
def Spare (c : Dev nD) : sProp 𝕄 := iprop(∃ f : RC F, ptR c (Finset.univ \ zAll) f)
/-- A copy's place. -/
def place (n : Ix) (c : Dev nD) : sProp 𝕄 := iprop(∃ f : RC F, ptR c (zs (.inl n)) f)

theorem left_place (n : Ix) (c : Dev nD) : left (F := F) n c ⊢ place (F := F) n c := by
  unfold left place zs
  dsimp only
  split
  · obtain ⟨z⟩ := (RC_ne : Nonempty (RC F))
    have e : (ptR c ∅ z : sProp 𝕄) = BI.emp := pointsTo_empty
    iintro -
    iexists z
    rw [e]; iempintro
  · exact BIBase.Entails.rfl

theorem zone_split (c : Dev nD) (f : RC F) :
    ptR c Finset.univ f ⊢ iprop((bigSep Finset.univ fun n : Ix => place (F := F) n c) ∗ Zone (F := F) 0 c ∗ Zone (F := F) 1 c ∗ Spare (F := F) c) := by
  refine (ptR_split c f (Finset.subset_univ zAll)).1.trans ?_
  unfold zAll
  rw [ptR_fam c Finset.univ zs f fun i _ j _ h => zs_disj i j h, sum_univ, two]
  have T : (bigSep Finset.univ fun n : Ix => ptR c (zs (.inl n)) f) ⊢ bigSep Finset.univ fun n : Ix => place (F := F) n c :=
    bigSep_mono fun n _ => (by unfold place; iintro H; iexists f; iexact H : iprop(ptR c (zs (.inl n)) f) ⊢ place n c)
  iintro ⟨⟨H1, H2, H3⟩, H4⟩
  isplitl [H1]
  · iapply T; iexact H1
  isplitl [H2]; · unfold Zone; iexists f; iexact H2
  isplitl [H3]; · unfold Zone; iexists f; iexact H3
  unfold Spare zAll; iexists f; iexact H4
theorem zone_join (c : Dev nD) :
    iprop((bigSep Finset.univ fun n : Ix => place (F := F) n c) ∗ Zone (F := F) 0 c ∗ Zone (F := F) 1 c ∗ Spare (F := F) c) ⊢ iprop(∃ f : RC F, ptR c Finset.univ f) := by
  have J := ptR_fam_ex (F := F) c Finset.univ zs fun i _ j _ h => zs_disj i j h
  rw [sum_univ, two] at J
  unfold Spare
  iintro ⟨H1, H2, H3, ⟨%g, H4⟩⟩
  ihave H := J $$ [H1 H2 H3]
  · isplitl [H1]; · unfold place; iexact H1
    isplitl [H2]; · unfold Zone; iexact H2
    unfold Zone; iexact H3
  icases H with ⟨%f, H⟩
  have U := ptR_join (F := F) c f g (Finset.disjoint_sdiff (s := zAll) (t := Finset.univ))
  rw [Finset.union_sdiff_of_subset (Finset.subset_univ _)] at U
  iexists _
  iapply U
  isplitl [H]; · unfold zAll; iexact H
  iexact H4

/-! ### The result's buffer at the start -/

/-- The places in the result: those of the gathering's copies, and the device's own rows. -/
def os (c : Dev nD) : Ix ⊕ Fin 4 → Finset TI
  | .inl n => if (cp n).ag then tset (so n (src n c).val) (hn n) (cp n).hf else ∅
  | .inr s => wset (lo s.val 3 c.val) 8
theorem os_disj (c : Dev nD) (x y : Ix ⊕ Fin 4) (h : x ≠ y) : Disjoint (os c x) (os c y) := by
  rcases x with n | p <;> rcases y with m | q <;> unfold os
  · have hne : n ≠ m := fun e => h (by rw [e])
    dsimp only
    split
    · split
      · exact tset_apart (land_apart c n m ‹_› ‹_› hne)
      · exact Finset.disjoint_empty_right _
    · exact Finset.disjoint_empty_left _
  · dsimp only
    split
    · exact tw_apart (land_own c n q ‹_›)
    · exact Finset.disjoint_empty_left _
  · dsimp only
    split
    · exact (tw_apart (land_own c m p ‹_›)).symm
    · exact Finset.disjoint_empty_right _
  · exact ww_apart (own_apart c p q fun e => h (by rw [e]))

theorem land_of (n : Ix) (c : Dev nD) (f : TC F) : iprop(place (F := F) n c ∗ pt .o c (os c (.inl n)) fullShare f) ⊢ land (F := F) n c := by
  unfold place zs os land
  dsimp only
  split
  · iintro ⟨-, H⟩; iexists f; iexact H
  · iintro ⟨H, -⟩; iexact H
theorem out_split (c : Dev nD) (f : TC F) :
    iprop(pt .o c Finset.univ fullShare f ∗ bigSep Finset.univ fun n : Ix => place (F := F) n c) ⊢ iprop((bigSep Finset.univ fun n : Ix => land (F := F) n c) ∗ Outs (F := F) c) := by
  refine (sep_mono_left (pt_split .o c fullShare f (Finset.subset_univ (Finset.univ.biUnion (os c)))).1).trans ?_
  rw [pt_fam .o c Finset.univ (os c) f fun i _ j _ h => os_disj c i j h, sum_univ, four]
  have T : iprop((bigSep Finset.univ fun n : Ix => place (F := F) n c) ∗ bigSep Finset.univ fun n : Ix => pt .o c (os c (.inl n)) fullShare f)
      ⊢ bigSep Finset.univ fun n : Ix => land (F := F) n c := by
    rw [← bigSep_sep']; exact bigSep_mono fun n _ => land_of n c f
  iintro ⟨⟨⟨H1, H2, H3, H4, H5⟩, -⟩, H⟩
  isplitl [H H1]
  · iapply T
    isplitl [H]; · iexact H
    iexact H1
  unfold Outs OutRow
  isplitl [H2]; · iexists f; iexact H2
  isplitl [H3]; · iexists f; iexact H3
  isplitl [H4]; · iexists f; iexact H4
  iexists f; iexact H5

end Cert.KernelIdeal.AR
-- ==== Proof.Ghost.lean ====
/-
The set-up of the exchange: all the cells and duties there are, how they are dealt to the devices, and the leave to wait that the launch gives.
-/
module

public import proofs.«01_k».proof.Proof.Whole
public import Idealize.ShloMosaic.Lib.Pipeline.Launch
public import Idealize.ShloMosaic.Lib.Pipeline.Kit
@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-! ### The cells and the duties -/

/-- A device's cells: the sending ends, the receiving ends, the meeting's. -/
abbrev CI := (Ix ⊕ Ix) ⊕ Unit
def csem : CI → SemLoc sig
  | .inl (.inl n) => .dma (sS n.val (lt128 n))
  | .inl (.inr n) => .dma (rS n.val (lt128 n))
  | .inr _ => .reg barS
def kcell (x : CI × Dev nD) : GSem nD τ sig := ((x.2 : Thread nD τ), csem x.1)
theorem kd_csem (k : CI) : kd (csem k) = (match k with | .inl (.inl n) => .snd n | .inl (.inr n) => .rcv n | .inr _ => .bar) := by
  rcases k with (n | n) | u
  · exact kd_snd n
  · exact kd_rcv n
  · rfl
theorem csem_inj : Function.Injective csem := by
  intro k k' h
  have e : kd (csem k) = kd (csem k') := by rw [h]
  rw [kd_csem, kd_csem] at e
  rcases k with (n | n) | u <;> rcases k' with (n' | n') | u' <;> dsimp only at e <;> first | (injection e with e; rw [e]) | rfl | cases e
theorem kcell_inj : Function.Injective kcell := by
  rintro ⟨k, c⟩ ⟨k', c'⟩ h
  have h1 : c = c' := congrArg (fun g : GSem nD τ sig => g.1.1) h
  have h2 : csem k = csem k' := congrArg Prod.snd h
  rw [h1, csem_inj h2]
def xCells : Finset (GSem nD τ sig) := Finset.univ.map ⟨kcell, kcell_inj⟩

/-- A device's duties: one for each of the first two kinds of cell, seven for the third. -/
abbrev DI := (Ix ⊕ Ix) ⊕ Fin 7
def tokOf (x : DI × Dev nD) : GSem nD τ sig × ℕ × D := match x.1 with
  | .inl k => (kcell (.inl k, x.2), 0, 0)
  | .inr b => (barC x.2, 0, b)
theorem tokOf_inj : Function.Injective tokOf := by
  rintro ⟨k, c⟩ ⟨k', c'⟩ h
  rcases k with k | b <;> rcases k' with k' | b'
  · have h1 := kcell_inj (congrArg Prod.fst h)
    injection h1 with h1 h2
    injection h1 with h1
    have h3 : c = c' := h2
    rw [h1, h3]
  · have h1 := kcell_inj (show kcell (.inl k, c) = kcell (.inr (), c') from congrArg Prod.fst h)
    injection h1 with h1 h2
    cases h1
  · have h1 := kcell_inj (show kcell (.inr (), c) = kcell (.inl k', c') from congrArg Prod.fst h)
    injection h1 with h1 h2
    cases h1
  · have h1 := kcell_inj (show kcell (.inr (), c) = kcell (.inr (), c') from congrArg Prod.fst h)
    injection h1 with h1 h2
    have h3 : b = b' := congrArg (fun x : GSem nD τ sig × ℕ × D => x.2.2) h
    have h4 : c = c' := h2
    rw [h4, h3]
def xToks : Finset (GSem nD τ sig × ℕ × D) := Finset.univ.map ⟨tokOf, tokOf_inj⟩

/-- The kernel's own semaphores: those of the cells, and the sixteen of each array that are not used. -/
abbrev OI := (Ix ⊕ Ix) ⊕ (Fin 16 ⊕ Fin 16)
def osem : OI → SemLoc sig
  | .inl k => csem (.inl k)
  | .inr (.inl j) => .dma (sS (112 + j.val) (by omega))
  | .inr (.inr j) => .dma (rS (112 + j.val) (by omega))
/-- The place of one among all of the device's. -/
def onum : OI → ℕ
  | .inl (.inl n) => 3 + n.val
  | .inl (.inr n) => 131 + n.val
  | .inr (.inl j) => 3 + (112 + j.val)
  | .inr (.inr j) => 131 + (112 + j.val)
theorem osem_eq (k : OI) : ∃ q : DmaSem sig, osem k = .dma q ∧ q.val = onum k := by
  rcases k with (n | n) | (j | j)
  · exact ⟨_, rfl, sS_val ⟨n.val, lt128 n⟩⟩
  · exact ⟨_, rfl, rS_val ⟨n.val, lt128 n⟩⟩
  · exact ⟨_, rfl, sS_val ⟨112 + j.val, by omega⟩⟩
  · exact ⟨_, rfl, rS_val ⟨112 + j.val, by omega⟩⟩
theorem onum_inj (k k' : OI) (h : onum k = onum k') : k = k' := by
  rcases k with (n | n) | (j | j) <;> rcases k' with (n' | n') | (j' | j') <;> dsimp only [onum] at h <;>
    first
    | (exfalso; omega)
    | (have e : n = n' := Fin.ext (by omega); rw [e])
    | (have e : j = j' := Fin.ext (by omega); rw [e])

/-- The sixteen and sixteen not used. -/
def Ext (c : Dev nD) : sProp 𝕄 := bigSep Finset.univ fun j : Fin 16 ⊕ Fin 16 => semVal (((c : Dev nD) : Thread nD τ), osem (.inr j)) 0

theorem own_split (c : Dev nD) : (Pipeline.ownSems0 (Ix := Unit) (Name := ℕ) (U := UU) (Lvl := ℕ) (Val := Elt F) (τ := τ) osem c : sProp 𝕄)
    = iprop(((bigSep Finset.univ fun n : Ix => semVal (sC n c) 0) ∗ bigSep Finset.univ fun n : Ix => semVal (rC n c) 0) ∗ Ext (F := F) c) := by
  unfold Pipeline.ownSems0 Ext
  rw [sum_univ, sum_univ]
  rfl
theorem bar_split (c : Dev nD) : (unscopedSems0 c : sProp 𝕄) = semVal (barC c) 0 := by
  unfold unscopedSems0; rw [bigSep_eq_bigSepL_of_eq [SemLoc.reg barS] (by decide) (by decide)]; rfl

/-! ### What is dealt at the start -/

/-- The duties of a device's own cells. -/
def toks (c : Dev nD) : sProp 𝕄 :=
  iprop(((bigSep Finset.univ fun n : Ix => dutyTok ER (sC n c) 0 0) ∗ bigSep Finset.univ fun n : Ix => dutyTok ER (rC n c) 0 0)
    ∗ bigSep Finset.univ fun b : Fin 7 => dutyTok ER (barC c) 0 b)
/-- Those it has to do itself. -/
def mine (c : Dev nD) : sProp 𝕄 :=
  iprop(((bigSep Finset.univ fun n : Ix => dutyTok ER (sC n c) 0 0) ∗ bigSep Finset.univ fun n : Ix => dutyTok ER (rC n (dst n c)) 0 0)
    ∗ bigSep Finset.univ fun b : Fin 7 => dutyTok ER (barC (peer b c)) 0 (back b))
/-- Its positions. -/
def spots (c : Dev nD) : sProp 𝕄 :=
  iprop(((bigSep Finset.univ fun n : Ix => atPos ER (sC n c) 0 ∅ 0) ∗ bigSep Finset.univ fun n : Ix => atPos ER (rC n c) 0 ∅ 0)
    ∗ atPos ER (barC c) 0 ∅ 0)

/-- A copy's two devices change places. -/
def hop (n : Ix) : Dev nD ≃ Dev nD := ⟨dst n, src n, fun c => src_dst n c, fun c => dst_src n c⟩
def mate (b : Fin 7) : Dev nD ≃ Dev nD := ⟨peer b, peer (back b), fun c => peer_back b c, fun c => by have h := peer_back (back b) c; rw [back_back] at h; exact h⟩
def backE : Fin 7 ≃ Fin 7 := ⟨back, back, back_back, back_back⟩

theorem deal : (bigSep Finset.univ fun c : Dev nD => toks (F := F) c) ⊢ bigSep Finset.univ fun c : Dev nD => mine (F := F) c := by
  have e1 : (bigSep Finset.univ fun c : Dev nD => bigSep Finset.univ fun n : Ix => (dutyTok ER (rC n c) 0 0 : sProp 𝕄))
      = bigSep Finset.univ fun c : Dev nD => bigSep Finset.univ fun n : Ix => dutyTok ER (rC n (dst n c)) 0 0 := by
    rw [bigSep_univ_comm]
    have h : ∀ n : Ix, (bigSep Finset.univ fun c : Dev nD => (dutyTok ER (rC n c) 0 0 : sProp 𝕄)) = bigSep Finset.univ fun c : Dev nD => dutyTok ER (rC n (dst n c)) 0 0 :=
      fun n => bigSep_univ_equiv (hop n) fun c : Dev nD => (dutyTok ER (rC n c) 0 0 : sProp 𝕄)
    rw [bigSep_congr fun n _ => h n, bigSep_univ_comm]
  have e2 : (bigSep Finset.univ fun c : Dev nD => bigSep Finset.univ fun b : Fin 7 => (dutyTok ER (barC c) 0 b : sProp 𝕄))
      = bigSep Finset.univ fun c : Dev nD => bigSep Finset.univ fun b : Fin 7 => dutyTok ER (barC (peer b c)) 0 (back b) := by
    have h0 : ∀ c : Dev nD, (bigSep Finset.univ fun b : Fin 7 => (dutyTok ER (barC c) 0 b : sProp 𝕄)) = bigSep Finset.univ fun b : Fin 7 => dutyTok ER (barC c) 0 (back b) :=
      fun c => bigSep_univ_equiv backE fun b : Fin 7 => (dutyTok ER (barC c) 0 b : sProp 𝕄)
    rw [bigSep_congr fun c _ => h0 c, bigSep_univ_comm]
    have h : ∀ b : Fin 7, (bigSep Finset.univ fun c : Dev nD => (dutyTok ER (barC c) 0 (back b) : sProp 𝕄)) = bigSep Finset.univ fun c : Dev nD => dutyTok ER (barC (peer b c)) 0 (back b) :=
      fun b => bigSep_univ_equiv (mate b) fun c : Dev nD => (dutyTok ER (barC c) 0 (back b) : sProp 𝕄)
    rw [bigSep_congr fun b _ => h b, bigSep_univ_comm]
  unfold toks mine
  rw [bigSep_sep', bigSep_sep', bigSep_sep', bigSep_sep', e1, e2]

/-- What the start of all deals to a device. -/
def G (c : Dev nD) : sProp 𝕄 :=
  iprop((bigSep Finset.univ fun k : CI => roundState ER (Rd X Wt) (kcell (k, c)) 0)
    ∗ (bigSep Finset.univ fun k : CI => reached ER (kcell (k, c)) 0) ∗ spots (F := F) c ∗ toks (F := F) c)

/-- What every device knows of the cells, the levels aside. -/
def Known : sProp 𝕄 :=
  iprop((bigSep Finset.univ fun p : Ix × Dev nD => iprop((cinv X Wt (sC p.1 p.2) ∗ reached ER (sC p.1 p.2) 0) ∗ cinv X Wt (rC p.1 p.2) ∗ reached ER (rC p.1 p.2) 0))
    ∗ (bigSep Finset.univ fun c : Dev nD => iprop(cinv X Wt (barC c) ∗ reached ER (barC c) 0)))
instance Known_pers : BI.Persistent (Known X Wt) := by unfold Known; infer_instance
def G' (c : Dev nD) : sProp 𝕄 := iprop(Known X Wt ∗ spots (F := F) c ∗ mine (F := F) c ∗ Ext (F := F) c)

theorem cells_dev (Φ : GSem nD τ sig → sProp 𝕄) : bigSep xCells Φ = bigSep Finset.univ fun c : Dev nD => bigSep Finset.univ fun k : CI => Φ (kcell (k, c)) := by
  unfold xCells; rw [bigSep_map, bigSep_univ_prod, bigSep_univ_comm]; rfl
theorem toks_dev : bigSep xToks (fun x => (dutyTok ER x.1 x.2.1 x.2.2 : sProp 𝕄)) = bigSep Finset.univ fun c : Dev nD => toks (F := F) c := by
  unfold xToks; rw [bigSep_map, bigSep_univ_prod, bigSep_univ_comm]
  refine bigSep_congr fun c _ => ?_
  unfold toks
  rw [sum_univ, sum_univ]; rfl
theorem spots_dev (c : Dev nD) : (bigSep Finset.univ fun k : CI => (atPos ER (kcell (k, c)) 0 ∅ 0 : sProp 𝕄)) = spots (F := F) c := by
  unfold spots
  rw [sum_univ, sum_univ, Fintype.univ_ofSubsingleton, bigSep_singleton]; rfl

theorem fund_x : BI.own (ER (initOf xCells xToks)) ⊢ (|==> bigSep Finset.univ (G X Wt) : sProp 𝕄) := by
  have e : bigSep xCells (fun g => (atPos ER g 0 ∅ 0 : sProp 𝕄)) = bigSep Finset.univ fun c : Dev nD => spots (F := F) c :=
    (cells_dev _).trans (bigSep_congr fun c _ => spots_dev (F := F) c)
  iintro HX
  imod (Rounds.fund ER (Rd X Wt) xCells xToks) $$ HX with ⟨Hst, Hr, Hat, Htok⟩
  imodintro
  ihave Hst' := (Entails.of_eq (cells_dev fun g => roundState ER (Rd X Wt) g 0)) $$ Hst
  ihave Hat' := (Entails.of_eq e) $$ Hat
  ihave Hr' := (Entails.of_eq (cells_dev fun g => reached ER g 0)) $$ Hr
  ihave Htok' := (Entails.of_eq (toks_dev (F := F))) $$ Htok
  unfold G; simp only [bigSep_sep']
  isplitl [Hst']; · iexact Hst'
  isplitl [Hr']; · iexact Hr'
  isplitl [Hat'] <;> iassumption

/-! ### The cells' invariants -/

theorem core_alloc (c : Dev nD) :
    iprop(Pipeline.ownSems0 (Ix := Unit) (Name := ℕ) (U := UU) (Lvl := ℕ) (Val := Elt F) (τ := τ) osem c ∗ unscopedSems0 c ∗ G X Wt c)
      ⊢ |={Set.univ}=> iprop((bigSep Finset.univ fun k : CI => cinv X Wt (kcell (k, c)))
          ∗ (bigSep Finset.univ fun k : CI => reached ER (kcell (k, c)) 0) ∗ spots (F := F) c ∗ toks (F := F) c ∗ Ext (F := F) c) := by
  unfold G
  rw [own_split, bar_split]
  iintro ⟨⟨⟨Hs, Hr⟩, Hx⟩, Hb, Hst, Hre, Hat, Htok⟩
  imod (show iprop((bigSep Finset.univ fun k : CI => semVal (kcell (k, c)) 0) ∗ bigSep Finset.univ fun k : CI => roundState ER (Rd X Wt) (kcell (k, c)) 0)
      ⊢ (|={Set.univ}=> bigSep Finset.univ fun k : CI => cinv X Wt (kcell (k, c)) : sProp 𝕄) from by
        rw [← bigSep_sep']
        exact (bigSep_mono fun k _ => (Rounds.body_intro ER (Rd X Wt) (kcell (k, c))).trans inv_alloc).trans (bigSep_fupd _ _)) $$ [Hs Hr Hb Hst] with Hinv
  · isplitr [Hst]
    · rw [sum_univ, sum_univ, Fintype.univ_ofSubsingleton, bigSep_singleton]
      isplitr [Hb]
      · isplitl [Hs]; · iexact Hs
        iexact Hr
      iexact Hb
    iexact Hst
  imodintro
  isplitl [Hinv]; · iexact Hinv
  isplitl [Hre]; · iexact Hre
  isplitl [Hat]; · iexact Hat
  isplitl [Htok] <;> iassumption

theorem with_all {I : Type} [DecidableEq I] {S : Finset I} {R : sProp 𝕄} [BI.Persistent R] (Φ : I → sProp 𝕄) :
    iprop(R ∗ bigSep S Φ) ⊢ bigSep S fun i => iprop(R ∗ Φ i) := by
  rw [bigSep_sep']; exact sep_mono_left (BI.bigSep_of_persistent S R)

theorem known_of : iprop((bigSep Finset.univ fun c : Dev nD => bigSep Finset.univ fun k : CI => cinv X Wt (kcell (k, c)))
      ∗ bigSep Finset.univ fun c : Dev nD => bigSep Finset.univ fun k : CI => (reached ER (kcell (k, c)) 0 : sProp 𝕄)) ⊢ Known X Wt := by
  have e : ∀ Φ : GSem nD τ sig → sProp 𝕄, (bigSep Finset.univ fun c : Dev nD => bigSep Finset.univ fun k : CI => Φ (kcell (k, c)))
      = iprop(((bigSep Finset.univ fun p : Ix × Dev nD => Φ (sC p.1 p.2)) ∗ bigSep Finset.univ fun p : Ix × Dev nD => Φ (rC p.1 p.2)) ∗ bigSep Finset.univ fun c : Dev nD => Φ (barC c)) := by
    intro Φ
    rw [bigSep_univ_comm, sum_univ, sum_univ, Fintype.univ_ofSubsingleton, bigSep_singleton, bigSep_univ_prod, bigSep_univ_prod]
    rfl
  have e1 := e fun g => cinv X Wt g
  have e2 := e fun g => (reached ER g 0 : sProp 𝕄)
  rw [e1, e2]
  unfold Known
  rw [bigSep_sep', bigSep_sep', bigSep_sep', bigSep_sep']
  iintro ⟨⟨⟨H1, H2⟩, H3⟩, ⟨H4, H5⟩, H6⟩
  isplitr [H3 H6]
  · isplitl [H1 H4]; · isplitl [H1] <;> iassumption
    isplitl [H2] <;> iassumption
  isplitl [H3] <;> iassumption

theorem regroup :
    (bigSep Finset.univ fun c : Dev nD => iprop((bigSep Finset.univ fun k : CI => cinv X Wt (kcell (k, c)))
          ∗ (bigSep Finset.univ fun k : CI => reached ER (kcell (k, c)) 0) ∗ spots (F := F) c ∗ toks (F := F) c ∗ Ext (F := F) c) : sProp 𝕄)
      ⊢ bigSep Finset.univ (G' X Wt) := by
  rw [bigSep_sep', bigSep_sep', bigSep_sep', bigSep_sep']
  have J : iprop((bigSep Finset.univ fun c : Dev nD => spots (F := F) c) ∗ (bigSep Finset.univ fun c : Dev nD => mine (F := F) c) ∗ bigSep Finset.univ fun c : Dev nD => Ext (F := F) c)
      ⊢ bigSep Finset.univ fun c : Dev nD => iprop(spots (F := F) c ∗ mine (F := F) c ∗ Ext (F := F) c) := by
    rw [bigSep_sep', bigSep_sep']
  have K : iprop(Known X Wt ∗ bigSep Finset.univ fun c : Dev nD => iprop(spots (F := F) c ∗ mine (F := F) c ∗ Ext (F := F) c)) ⊢ bigSep Finset.univ (G' X Wt) :=
    with_all (R := Known X Wt) fun c : Dev nD => iprop(spots (F := F) c ∗ mine (F := F) c ∗ Ext (F := F) c)
  iintro ⟨HI, HR, Hat, Htok, Hx⟩
  ihave HK := (known_of X Wt) $$ [HI HR]
  · isplitl [HI] <;> iassumption
  ihave Hm := (deal (F := F)) $$ Htok
  iapply K
  isplitl [HK]; · iexact HK
  iapply J
  isplitl [Hat]; · iexact Hat
  isplitl [Hm] <;> iassumption

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans (BI.fupd_mono (regroup X Wt))

/-! ### What is owed at the start, and the leave to wait that comes with it -/

abbrev O₀ (c : Dev nD) : CellTallies nD τ sig Unit := owed 0 c + owedB 0 c

theorem rC_eq {n m : Ix} {c d : Dev nD} (h : rC n c = rC m d) : n = m ∧ c = d := by
  have h1 := kcell_inj (show kcell (.inl (.inr n), c) = kcell (.inl (.inr m), d) from h)
  injection h1 with h1 h2
  injection h1 with h1
  injection h1 with h1
  exact ⟨h1, h2⟩
theorem barC_eq {c d : Dev nD} (h : barC c = barC d) : c = d := congrArg (fun g : GSem nD τ sig => g.1.1) h
theorem rC_ne_bar (n : Ix) (c d : Dev nD) : rC n c ≠ barC d := fun h => by
  have h1 := congrArg Prod.snd h
  cases h1

theorem owes_rcv (d c : Dev nD) (n : Ix) : O₀ d (rC n c) () = if d = src n c then amt n else 0 := by
  unfold O₀
  rw [Pi.add_apply, Finsupp.add_apply]
  have hB : owedB 0 d (rC n c) () = 0 := by
    by_contra h
    obtain ⟨p, hp⟩ := owedB_pos (Nat.pos_of_ne_zero h)
    exact rC_ne_bar _ _ _ hp
  rw [hB, Nat.add_zero]
  unfold owed
  rw [Finset.sum_apply, Finsupp.finset_sum_apply, Finset.sum_eq_single n]
  · rw [tallyAt_apply]
    by_cases h : d = src n c
    · subst h; rw [dst_src, if_pos ⟨rfl, rfl⟩, if_pos rfl]
    · rw [if_neg h, if_neg fun h' => h ?_]
      rw [(rC_eq h'.1).2, src_dst]
  · intro m _ hm
    rw [tallyAt_apply, if_neg fun h' => hm (rC_eq h'.1).1.symm]
  · intro h; exact (h (by simp)).elim
theorem owes_bar (d c : Dev nD) : O₀ d (barC c) () = ∑ p : Fin 7, if d = peer (back p) c then 1 else 0 := by
  unfold O₀
  rw [Pi.add_apply, Finsupp.add_apply]
  have hR : owed 0 d (barC c) () = 0 := by
    by_contra h
    obtain ⟨n, -, hp⟩ := owed_pos (Nat.pos_of_ne_zero h)
    exact rC_ne_bar _ _ _ hp.symm
  rw [hR, Nat.zero_add]
  unfold owedB
  rw [Finset.sum_apply, Finsupp.finset_sum_apply, Finset.filter_true_of_mem fun _ _ => Nat.zero_le _]
  refine Finset.sum_congr rfl fun p _ => ?_
  rw [tallyAt_apply]
  by_cases h : d = peer (back p) c
  · rw [if_pos h, if_pos ⟨by rw [h]; exact congrArg barC ((mate p).right_inv c).symm, rfl⟩]
  · rw [if_neg h, if_neg fun h' => h ?_]
    rw [barC_eq h'.1, peer_back]

theorem launch_bar (c : Dev nD) : tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owes_bar d c, Finset.sum_comm,
    Finset.sum_congr rfl fun p _ => (Finset.sum_ite_eq' Finset.univ (peer (back p) c) fun _ => 1).trans (if_pos (Finset.mem_univ _))]
  rfl
theorem launch_rcv (n : Ix) (c : Dev nD) : tallyOn (rC n c) (launchCredit (Pipeline.owing O₀) 0 (rC n c)) = (tallyAt (rC n c) () (amt n) : CellTallies nD τ sig Unit) := by
  unfold tallyAt; refine congrArg _ (Finsupp.ext fun u => ?_); cases u
  rw [Pipeline.launchCredit_owing, Finsupp.single_eq_same, Finset.sum_congr rfl fun d _ => owes_rcv d c n, Finset.sum_ite_eq' Finset.univ (src n c) fun _ => amt n,
    if_pos (Finset.mem_univ _)]

def rEmb : Ix ↪ SemLoc sig := ⟨fun n => csem (.inl (.inr n)), fun n m h => by
  have h1 := csem_inj h
  injection h1 with h1
  injection h1⟩
theorem creds (c : Dev nD) :
    (Pipeline.launchCred O₀ c : sProp 𝕄) ⊢ iprop(cred (tallyAt (barC c) () 7) ∗ bigSep Finset.univ fun n : Ix => cred (tallyAt (rC n c) () (amt n))) := by
  unfold Pipeline.launchCred
  rw [bigSep_univ_at _ (SemLoc.reg barS), launch_bar]
  refine sep_mono_right ?_
  have h : (Finset.univ.map rEmb) ⊆ Finset.univ.erase (SemLoc.reg barS : SemLoc sig) := fun s hs => by
    obtain ⟨n, -, rfl⟩ := Finset.mem_map.mp hs
    exact Finset.mem_erase.mpr ⟨(fun h => by cases h), Finset.mem_univ _⟩
  refine (bigSep_subset h).trans ?_
  rw [bigSep_map]
  exact bigSep_mono fun n _ => Entails.of_eq (congrArg cred (launch_rcv n c))

end Cert.KernelIdeal.AR
-- ==== Proof.BodyEq.lean ====
/-
The retold body (`prog'` of `Program`) is the kernel's body: the two are peeled together, one effect at a time.
-/
module

public import proofs.«01_k».proof.Proof.Program

@[expose] public section

noncomputable section

namespace Cert.KernelIdeal.AR

open Idealize.ShloMosaic Idealize.ShloMosaic.TcCoe Idealize.SL.Sem
open Cert.KernelIdeal Cert.KernelIdeal.Gen

variable {F : FTy → Type} [FloatOps F]

/-- Two programs with the same first effect are the same if what follows is. -/
theorem peel {α X : Type} (e : TpuEff nD τ sig (Elt F) Λ₀ .tc X) (k k' : X → Prog (TpuEff nD τ sig (Elt F) Λ₀ .tc) α) (h : ∀ x, k x = k' x) :
    Prog.op e k = Prog.op e k' := congrArg _ (funext h)

set_option maxRecDepth 65536 in
set_option maxHeartbeats 4000000 in
/-- The kernel's body is the retold one. -/
theorem body_eq (i0 i1 i2 i3 i4) :
    (cc0_body tM i0 wM i1 oM i2 aM i3 rM i4 cc0_scratch2 cc0_scratch3 : Pg F PUnit) = prog' := by
  rw [cc0_body_eq_skeleton]
  iterate 509 refine peel _ _ _ fun x => ?_
  rfl

end Cert.KernelIdeal.AR
-- ==== Proof.Body.lean ====
/-
The body of a device, from whole buffers to whole buffers.
-/
module

public import proofs.«01_k».proof.Proof.Ghost
public import proofs.«01_k».proof.Proof.BodyEq
@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → ℕ → ℕ → F .f32) (Wt : Dev nD → ℕ → ℕ → F .f32)

/-- What a device holds of the exchange when its body starts. -/
def Keys (c : Dev nD) : sProp 𝕄 :=
  iprop(spots (F := F) c ∗ mine (F := F) c ∗ cred (tallyAt (barC c) () 7) ∗ bigSep Finset.univ fun n : Ix => cred (tallyAt (rC n c) () (amt n)))

theorem start_keys (c : Dev nD) :
    iprop(Keys (F := F) c ∗ (bigSep Finset.univ fun n : Ix => land (F := F) n c) ∗ ∃ W, owes (c : Thread nD τ) (O₀ c) W) ⊢ Start (F := F) c := by
  have A1 : iprop((bigSep Finset.univ fun n : Ix => (dutyTok ER (sC n c) 0 0 : sProp 𝕄)) ∗ bigSep Finset.univ fun n : Ix => dutyTok ER (rC n (dst n c)) 0 0)
      ⊢ bigSep Finset.univ fun n : Ix => iprop(dutyTok ER (sC n c) 0 0 ∗ dutyTok ER (rC n (dst n c)) 0 0) := by rw [← bigSep_sep']
  have A2 : iprop((bigSep Finset.univ fun n : Ix => (atPos ER (sC n c) 0 ∅ 0 : sProp 𝕄)) ∗ (bigSep Finset.univ fun n : Ix => (atPos ER (rC n c) 0 ∅ 0 : sProp 𝕄))
        ∗ bigSep Finset.univ fun n : Ix => cred (tallyAt (rC n c) () (amt n)))
      ⊢ bigSep Finset.univ fun n : Ix => toAwait (F := F) n c := by rw [← bigSep_sep', ← bigSep_sep']; exact Entails.of_eq rfl
  unfold Keys spots mine Start
  iintro ⟨⟨⟨⟨P1, P2⟩, P3⟩, ⟨⟨T1, T2⟩, T3⟩, C1, C2⟩, HL, HO⟩
  isplitl [T3 HL HO]
  · isplitl [T3]; · iexact T3
    isplitl [HL]; · iexact HL
    iexact HO
  isplitl [P3]; · iexact P3
  isplitl [C1]; · iexact C1
  isplitl [T1 T2]
  · iapply A1; isplitl [T1] <;> iassumption
  iapply A2
  isplitl [P1]; · iexact P1
  isplitl [P2] <;> iassumption

/-- What the body needs of the buffers, and what it leaves. -/
def Bufs (c : Dev nD) : sProp 𝕄 :=
  iprop(pt .t c Finset.univ fullShare (bufOf (X c)) ∗ wpt Wt c ∗ (∃ f, pt .o c Finset.univ fullShare f) ∗ (∃ f, pt .a c Finset.univ fullShare f) ∗ ∃ f, ptR (F := F) c Finset.univ f)
def BufsDone (c : Dev nD) : sProp 𝕄 :=
  iprop(pt .t c Finset.univ fullShare (bufOf (X c)) ∗ wpt Wt c ∗ pt .o c Finset.univ fullShare (bufOf (O X Wt)) ∗ (∃ f, pt .a c Finset.univ fullShare f) ∗ ∃ f, ptR (F := F) c Finset.univ f)
def Sems (c : Dev nD) : sProp 𝕄 := iprop(semVal (barC c) 0 ∗ bigSep Finset.univ fun n : Ix => done (F := F) n c)

theorem piles (c : Dev nD) : Pile (F := F) 112 c ⊢ bigSep Finset.univ fun n : Ix => place (F := F) n c := by
  unfold Pile
  rw [show lt 112 = Finset.univ from Finset.filter_true_of_mem fun n _ => n.isLt]
  exact bigSep_mono fun n _ => left_place n c
theorem prot_done (c : Dev nD) : Prot (F := F) 112 112 c ⊢ iprop((bigSep Finset.univ fun n : Ix => done (F := F) n c) ∗ ∃ W, owes (c : Thread nD τ) 0 W) := by
  unfold Prot
  rw [show lt 112 = Finset.univ from Finset.filter_true_of_mem fun n _ => n.isLt, owed_end]
  iintro ⟨-, -, -, H1, H2⟩
  isplitl [H1] <;> iassumption

theorem split_start (c : Dev nD) :
    iprop((Keys (F := F) c ∗ ∃ W, owes (c : Thread nD τ) (O₀ c) W) ∗ Bufs X Wt c)
      ⊢ iprop((Start (F := F) c ∗ Pile (F := F) 0 c ∗ (bigSep Finset.univ fun i : I8 => Inst X Wt i.1.val i.2.val c (.rs 0)) ∗ Zone (F := F) 0 c ∗ Zone (F := F) 1 c ∗ wpt Wt c ∗ Outs (F := F) c)
        ∗ Spare (F := F) c) := by
  unfold Bufs
  iintro ⟨⟨HK, HO⟩, Ht, Hw, ⟨%fo, Ho⟩, ⟨%fa, Ha⟩, ⟨%fr, Hr⟩⟩
  ihave Hz := (zone_split c fr) $$ Hr
  icases Hz with ⟨Hp, Hz0, Hz1, Hsp⟩
  ihave Hl := (out_split c fo) $$ [Ho Hp]
  · isplitl [Ho] <;> iassumption
  icases Hl with ⟨Hl, Houts⟩
  ihave Hi := (start_insts X Wt c fa) $$ [Ht Ha]
  · isplitl [Ht] <;> iassumption
  isplitr [Hsp]
  · isplitl [HK HO Hl]
    · iapply (start_keys c)
      isplitl [HK]; · iexact HK
      isplitl [Hl] <;> iassumption
    isplitr
    · unfold Pile
      rw [show lt 0 = ∅ from Finset.filter_false_of_mem fun _ _ => by omega, bigSep_empty]; iempintro
    isplitl [Hi]; · iexact Hi
    isplitl [Hz0]; · iexact Hz0
    isplitl [Hz1]; · iexact Hz1
    isplitl [Hw] <;> iassumption
  iexact Hsp

theorem join_end (c : Dev nD) :
    iprop((semVal (barC c) 0 ∗ Prot (F := F) 112 112 c ∗ Pile (F := F) 112 c ∗ (bigSep Finset.univ fun i : I8 => Inst X Wt i.1.val i.2.val c (.ag 0)) ∗ Zone (F := F) 0 c ∗ Zone (F := F) 1 c ∗ wpt Wt c)
        ∗ Spare (F := F) c)
      ⊢ iprop(Sems (F := F) c ∗ BufsDone X Wt c ∗ ∃ W, owes (c : Thread nD τ) 0 W) := by
  iintro ⟨⟨H1, H2, H3, H4, H5, H6, H7⟩, H8⟩
  ihave H2 := (prot_done c) $$ H2
  icases H2 with ⟨Hd, HO⟩
  ihave H3 := (piles c) $$ H3
  ihave H4 := (end_insts X Wt c) $$ H4
  icases H4 with ⟨Ho, Ht, Ha⟩
  ihave Hz := (zone_join c) $$ [H3 H5 H6 H8]
  · isplitl [H3]; · iexact H3
    isplitl [H5]; · iexact H5
    isplitl [H6] <;> iassumption
  unfold Sems BufsDone
  isplitl [H1 Hd]; · isplitl [H1] <;> iassumption
  isplitr [HO]
  · isplitl [Ht]; · iexact Ht
    isplitl [H7]; · iexact H7
    isplitl [Ho]; · iexact Ho
    isplitl [Ha] <;> iassumption
  iexact HO

/-- The body, from whole buffers to whole buffers. -/
theorem body_run (c : Dev nD) :
    iprop(Ctx X Wt ∗ (Keys (F := F) c ∗ ∃ W, owes (c : Thread nD τ) (O₀ c) W) ∗ Bufs X Wt c)
      ⊢ wpc c (prog c) fun _ => iprop(Sems (F := F) c ∗ BufsDone X Wt c ∗ ∃ W, owes (c : Thread nD τ) 0 W) :=
  (Tri.post (Tri.pre (split_start X Wt c) ((prog_step X Wt c).frame (Spare (F := F) c))) fun _ => join_end X Wt c).use

theorem ask_device (c : Dev nD) (k : Dev nD → Pg F PUnit) (Q : PUnit → sProp 𝕄) : wpc c (k c) Q ⊢ wpc c (Prog.lift .deviceId >>= k) Q := by
  unfold wpc
  simp only [Prog.lift, Prog.bind_op, Prog.bind_ret, wp_deviceId]
  exact BIBase.Entails.rfl
theorem body_start (c : Dev nD) (Q : PUnit → sProp 𝕄) : wpc c (prog c) Q ⊢ wpc c prog' Q := ask_device c prog Q

end Cert.KernelIdeal.AR
-- ==== Proof.Launch.lean ====
/-
The launch: what the one grid point needs and leaves, and the run of the whole program.
-/
module

public import proofs.«01_k».proof.Proof.Body
public import proofs.«01_k».proof.Proof.Gen.KernelIdeal.Launch
public import proofs.«01_k».proof.Proof.Gen.KernelIdeal.Points
public import Idealize.ShloMosaic.Lib.Tactic
public import Idealize.ShloMosaic.Lib.Pipeline.CollectiveSegs
@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Idealize.ShloMosaic.Loc nD τ sig) → Buf (Elt F) ℓ) (ρ : Dev nD → PrngReg)

/-- The memory at launch: any contents, every counter at zero. -/
def s₀ : MemSt nD τ sig (Elt F) := ⟨m, fun _ => 0, ρ⟩

/-! ### Tables of the arguments -/

def ti (a b : ℕ) : TI := fun x => match x with
  | ⟨0, _⟩ => ⟨a % 1024, Nat.mod_lt _ (by decide)⟩
  | ⟨1, _⟩ => ⟨b % 512, Nat.mod_lt _ (by decide)⟩
def wi (a b : ℕ) : S512x512.Idx := fun x => match x with
  | ⟨0, _⟩ => ⟨a % 512, Nat.mod_lt _ (by decide)⟩
  | ⟨1, _⟩ => ⟨b % 512, Nat.mod_lt _ (by decide)⟩
theorem ti_at (i : TI) : ti (i 0) (i 1) = i := by
  funext x
  fin_cases x
  · exact Fin.ext (Nat.mod_eq_of_lt (i 0).isLt)
  · exact Fin.ext (Nat.mod_eq_of_lt (i 1).isLt)
theorem wi_at (i : S512x512.Idx) : wi (i 0) (i 1) = i := by
  funext x
  fin_cases x
  · exact Fin.ext (Nat.mod_eq_of_lt (i 0).isLt)
  · exact Fin.ext (Nat.mod_eq_of_lt (i 1).isLt)

/-- The staged arguments of a device. -/
def xstg (c : Dev nD) : TC F := (win0_0.blk (0 : Fin 1)).view.read (Elt F) ((s₀ m ρ).mem ((c : Thread nD τ).loc main_arg0))
def wstg (c : Dev nD) : S512x512.Idx → F .f32 := (win0_1.blk (0 : Fin 1)).view.read (Elt F) ((s₀ m ρ).mem ((c : Thread nD τ).loc main_arg1))
def Xm (c : Dev nD) (a b : ℕ) : F .f32 := xstg m ρ c (ti a b)
def Wm (c : Dev nD) (a b : ℕ) : F .f32 := wstg m ρ c (wi a b)
theorem buf_x (c : Dev nD) : bufOf (Xm m ρ c) = xstg m ρ c := funext fun i => congrArg (xstg m ρ c) (ti_at i)
theorem buf_w (c : Dev nD) : (fun i : S512x512.Idx => Wm m ρ c (i 0) (i 1)) = wstg m ρ c := funext fun i => congrArg (wstg m ρ c) (wi_at i)
theorem wpt_m (c : Dev nD) : wpt (Wm m ρ) c = (((c : Thread nD τ).loc cc0_stg1_0) ↦{fullShare} wstg m ρ c : sProp 𝕄) := by
  unfold wpt
  exact congrArg (fun f : S512x512.Idx → F .f32 => (((c : Thread nD τ).loc cc0_stg1_0) ↦{fullShare} f : sProp 𝕄)) (buf_w m ρ c)
/-- The result, on every device. -/
def outm : TC F := bufOf (O (Xm m ρ) (Wm m ρ))

/-! ### The proof data of the one pipeline point -/

def Φ₀ (c : Dev nD) : sProp 𝕄 :=
  iprop((Known (Xm m ρ) (Wm m ρ) ∗ Lev (F := F) ∗ Keys (F := F) c ∗ Ext (F := F) c)
    ∗ (∃ f, pt .a c Finset.univ fullShare f) ∗ ∃ f, ptR (F := F) c Finset.univ f)
def Φ₁ (c : Dev nD) : sProp 𝕄 :=
  iprop((Sems (F := F) c ∗ Ext (F := F) c) ∗ (∃ f, pt .a c Finset.univ fullShare f) ∗ ∃ f, ptR (F := F) c Finset.univ f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outm m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0
theorem split_W (Φ : Fin cfg0.W → sProp 𝕄) : bigSep Finset.univ Φ = iprop(Φ (0 : Fin 3) ∗ Φ (1 : Fin 3) ∗ Φ (2 : Fin 3)) := bigSep_W0 Φ

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (outm m ρ))

theorem sound_pre (c : Dev nD) : bodyPre m ρ c
    ⊢ iprop((Ctx (Xm m ρ) (Wm m ρ) ∗ (Keys (F := F) c ∗ ∃ W, owes (c : Thread nD τ) (O₀ c) W) ∗ Bufs (Xm m ρ) (Wm m ρ) c) ∗ Ext (F := F) c) := by
  unfold bodyPre Φ₀
  iintro ⟨⟨⟨#HK, #HL, Hk, Hx⟩, Ha, Hr⟩, Ho, ⟨%d0, %g0, %hg0, H0⟩, ⟨%d1, %g1, %hg1, H1⟩, ⟨%d2, %g2, %hg2, H2⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]
  isplitr [Hx]
  · isplitr
    · unfold Known at *
      unfold Ctx
      icases HK with ⟨#K1, #K2⟩
      isplitr; · iexact K1
      isplitr; · iexact K2
      iexact HL
    isplitl [Hk HO]
    · isplitl [Hk]; · iexact Hk
      iexists W; iexact HO
    unfold Bufs
    rw [buf_x, wpt_m]
    unfold pt
    isplitl [H0]; · iexact H0
    isplitl [H1]; · iexact H1
    isplitl [H2]; · iexists g2; iexact H2
    isplitl [Ha] <;> iassumption
  iexact Hx

theorem sound_post (c : Dev nD) :
    iprop((Sems (F := F) c ∗ BufsDone (Xm m ρ) (Wm m ρ) c ∗ ∃ W, owes (c : Thread nD τ) 0 W) ∗ Ext (F := F) c) ⊢ bodyPost m ρ c := by
  unfold bodyPost Φ₁ BufsDone outm Dat.owesAt Pipeline.owesWithin
  rw [show (dats m ρ 0 c).owed t₀.succ = 0 from rfl, buf_x, wpt_m]
  iintro ⟨⟨Hs, ⟨Ht, Hw, Ho, Ha, Hr⟩, ⟨%W, HO⟩⟩, Hx⟩
  isplitl [Hs Hx Ha Hr]
  · isplitl [Hs Hx]; · isplitl [Hs] <;> iassumption
    isplitl [Ha] <;> iassumption
  isplitl [HO]
  · iexists W
    isplitr; · ipureintro; exact fun _ _ => Or.inl trivial
    iexact HO
  unfold pt
  isplitl [Ht]
  · iexists _; isplitr; · (ipureintro; rfl)
    iexact Ht
  isplitl [Hw]
  · iexists _; isplitr; · (ipureintro; rfl)
    iexact Hw
  iexists _; isplitr; · (ipureintro; rfl)
  iexact Ho

theorem sound_body (c : Dev nD) : bodyPre m ρ c ⊢ wpc c prog' fun _ => bodyPost m ρ c := by
  refine (sound_pre m ρ c).trans (BIBase.Entails.trans ?_ (body_start c _))
  refine (sep_mono_left (body_run (Xm m ρ) (Wm m ρ) c)).trans ?_
  exact (wp_frame_r _ _ _).trans (wp_mono _ _ _ fun _ => sound_post m ρ c)

/-- What the pipeline calls at its point is the retold body. -/
theorem body_at : (defs₀ (F := F) .tc cfg0.body (cfg0.bodyArgs t₀ (cfg0.slots t₀)) : Pg F PUnit) = prog' :=
  body_eq (Memref.isWhole_whole _) (Memref.isWhole_whole _) (Memref.isWhole_whole _) (Memref.isWhole_whole _) (Memref.isWhole_whole _)

theorem body_obligation (c : Dev nD) : BodyObligation (dats (F := F) m ρ 0 c) (defs₀ (F := F)) 𝒱₀ () Set.univ := fun t => by
  rw [show t = t₀ from fin_N0 t, body_at]
  rw [split_W, split_W]
  simp only [owns_whole]
  have h := sound_body m ρ c
  unfold bodyPre bodyPost at h
  revert h
  generalize (prog' : Pg F PUnit) = p
  intro h
  exact h

/-! ### The launch -/

theorem ownFacts : Pipeline.OwnSemFacts cfg0.spec osem where
  isScoped k := by
    rcases k with (n | n) | (j | j)
    · revert n; decide +kernel
    · revert n; decide +kernel
    · revert j; decide +kernel
    · revert j; decide +kernel
  inj k k' h := by
    obtain ⟨q, e, v⟩ := osem_eq k
    obtain ⟨q', e', v'⟩ := osem_eq k'
    rw [e, e'] at h
    injection h with h
    exact onum_inj k k' (by rw [← v, ← v', h])
  disj k w s h := by
    obtain ⟨q, e, v⟩ := osem_eq k
    rw [e] at h
    injection h with h
    have lo : 3 ≤ onum k := by rcases k with (n | n) | (j | j) <;> dsimp only [onum] <;> omega
    have hi : (((cfg0.spec w).sem s : DmaSem sig)).val < 3 := by clear h; revert s; revert w; decide +kernel
    have e2 := congrArg (fun q : DmaSem sig => q.val) h
    dsimp only at e2
    omega

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf xCells xToks)

def start (c : Dev nD) : sProp 𝕄 := iprop(Known (Xm m ρ) (Wm m ρ) ∗ Lev (F := F) ∗ Keys (F := F) c ∗ Ext (F := F) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m ρ) (Wm m ρ) c)
      ⊢ |={Set.univ}=> iprop(start m ρ c ∗ emp) := by
  iintro ⟨-, Hlev, Hcr, -, HG⟩
  ihave Hc := (creds (F := F) c) $$ Hcr
  icases Hc with ⟨C1, C2⟩
  unfold start G' Keys Lev
  icases HG with ⟨HK, Hs, Hm, Hx⟩
  imodintro
  isplitl
  · isplitl [HK]; · iexact HK
    isplitl [Hlev]; · iexact Hlev
    isplitr [Hx]
    · isplitl [Hs]; · iexact Hs
      isplitl [Hm]; · iexact Hm
      isplitl [C1] <;> iassumption
    iexact Hx
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start
  iintro ⟨Hs, -, Ha, Hr⟩
  isplitl [Hs]; · iexact Hs
  isplitl [Ha]; · iexact Ha
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_split, bar_split]
  have D : (bigSep Finset.univ fun n : Ix => done (F := F) n c) ⊢ iprop((bigSep Finset.univ fun n : Ix => semVal (sC n c) 0) ∗ bigSep Finset.univ fun n : Ix => semVal (rC n c) 0) := by
    rw [← bigSep_sep']; exact Entails.of_eq rfl
  unfold Φ₁ Sems
  iintro ⟨⟨⟨Hb, Hd⟩, Hx⟩, Ha, Hr⟩
  isplitl [Hb]; · iexact Hb
  isplitl [Hd Hx]
  · isplitl [Hd]
    · iapply D; iexact Hd
    iexact Hx
  isplitl [Ha]; · iexact Ha
  iexact Hr

theorem waits (c : Dev nD) : (levAts L lv : sProp 𝕄) ⊢ Pipeline.cellsWaits cfgs (dats m ρ) () 0 c :=
  Pipeline.cellsWaits_intro cfgs (dats m ρ) () 0 c fun w s t => by
    have h : lv ((c : Thread nD τ), .dma ((cfg0.win w).sem s)) () = 0 := by clear t; revert c s; revert w; decide +kernel
    have e : (levAts L lv : sProp 𝕄) ⊢ Lev (F := F) := by unfold Lev; exact .rfl
    rcases t with ⟨_ | _, ht⟩
    · exact e.trans (mayWait_start c _ h)
    · show _ ⊢ MayWait (c : Thread nD τ) _ () 0
      rw [MayWait_zero]; iintro -; iempintro

/-! ### The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any values, from any memory: every fair execution ends, with the arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xm m ρ) (Wm m ρ)) (G' := G' (Xm m ρ) (Wm m ρ)) (u₀ := u₀)
    (hu₀ := by
      unfold u₀
      iintro Hu
      ihave H := (ownU_pair _ _) $$ Hu
      icases H with ⟨HP, HX⟩
      imod (fund_x (Xm m ρ) (Wm m ρ)) $$ HX with HG
      imodintro
      isplitl [HP] <;> iassumption)
    (hglob := glob (Xm m ρ) (Wm m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.AR
-- ==== Proof.Result.lean ====
/-
What the program's run leaves: the arguments as they were and the same result on every device.
-/
module

public import proofs.«01_k».proof.Proof.Launch
public import Idealize.ShloMosaic.Lib.Layout
@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Idealize.ShloMosaic.Loc nD τ sig) → Buf (Elt F) ℓ) (ρ : Dev nD → PrngReg)

theorem idx0 : (fun a => (win0_0.index (0 : Fin 1)) a * main_arg0.ty.shape.size a) = fun _ => 0 := funext fun a => by fin_cases a <;> decide
theorem idx1 : (fun a => (win0_1.index (0 : Fin 1)) a * main_arg1.ty.shape.size a) = fun _ => 0 := funext fun a => by fin_cases a <;> decide
theorem idx2 : (fun a => (win0_2.index (0 : Fin 1)) a * main_v1.ty.shape.size a) = fun _ => 0 := funext fun a => by fin_cases a <;> decide

/-- The staged arguments are the arguments. -/
theorem xstg_eq (c : Dev nD) : xstg m ρ c = m ((c : Thread nD τ).loc main_arg0) :=
  Memref.read_access_unit_zero (Elt F) main_arg0 idx0 (fun a => by fin_cases a <;> decide) _
theorem wstg_eq (c : Dev nD) : wstg m ρ c = m ((c : Thread nD τ).loc main_arg1) :=
  Memref.read_access_unit_zero (Elt F) main_arg1 idx1 (fun a => by fin_cases a <;> decide) _

theorem final_t (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _
theorem final_o (c : Dev nD) : finalA m ρ c (2 : Fin 3) = outm m ρ := by
  have h : (win0_2.blk (0 : Fin 1)).view.read (Elt F) (finalA m ρ c (2 : Fin 3)) = outm m ρ := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt F) main_v1 idx2 (fun a => by fin_cases a <;> decide) _).symm

/-- The run: the arguments unchanged, the result on every device, every counter at zero. -/
theorem run : θ_run defs (onTc (τ := τ) (main (F := F))) ⟨m, fun _ => 0, ρ⟩ (fun r =>
    (∀ c : Dev nD, r.2.mem ((c : Thread nD τ).loc main_v1) = outm m ρ
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_o m ρ c), (h.1 c (0 : Fin 3)).trans (final_t m ρ c),
    (h.1 c (1 : Fin 3)).trans (final_w m ρ c)⟩, h.2⟩) (run_main m ρ)

end Cert.KernelIdeal.AR
-- ==== Proof.Same.lean ====
/-
The kernel as printed and the kernel printed for exact reading are one program: their texts agree, operation by operation.
-/
module

public import proofs.«01_k».proof.Proof.BodyEq
public import proofs.«01_k».proof.Proof.Gen.Kernel.Skeleton

@[expose] public section

noncomputable section

namespace Cert.KernelIdeal.AR

open Idealize.ShloMosaic Idealize.ShloMosaic.TcCoe Idealize.SL.Sem
open Cert.KernelIdeal Cert.KernelIdeal.Gen

variable {F : FTy → Type} [FloatOps F]

set_option maxRecDepth 65536 in
set_option maxHeartbeats 4000000 in
/-- The two bodies. -/
theorem body_same (i0 i1 i2 i3 i4) :
    (Cert.Kernel.cc0_body tM i0 wM i1 oM i2 aM i3 rM i4 cc0_scratch2 cc0_scratch3 : Pg F PUnit)
      = cc0_body tM i0 wM i1 oM i2 aM i3 rM i4 cc0_scratch2 cc0_scratch3 := by
  rw [Cert.Kernel.Gen.cc0_body_eq_skeleton, cc0_body_eq_skeleton]
  iterate 509 refine peel _ _ _ fun x => ?_
  rfl

end Cert.KernelIdeal.AR
-- ==== Proof.Tables.lean ====
/-
The two tables of bodies, of the kernel as printed and of the kernel printed for exact reading, are one.
-/
module

public import proofs.«01_k».proof.Proof.Same

@[expose] public section

noncomputable section

namespace Cert.KernelIdeal.AR

open Idealize.ShloMosaic Idealize.ShloMosaic.TcCoe Idealize.SL.Sem
open Cert.KernelIdeal Cert.KernelIdeal.Gen

variable {F : FTy → Type} [FloatOps F]

/-- The two tables of bodies. -/
theorem defs₀_same : (Cert.Kernel.defs₀ (F := F)) = (defs₀ (F := F)) := by
  unfold Cert.Kernel.defs₀ defs₀
  refine congrArg (Defs.onTc (τ := τ) (nD := nD) (sig := sig) (Λ := Λ₀) (Val := Elt F)) ?_
  funext ℓ a
  match ℓ, a with
  | 0, (t, s) => exact body_same _ _ _ _ _

theorem defs_same : (Cert.Kernel.defs (F := F)) = (defs (F := F)) := by
  unfold Cert.Kernel.defs defs
  rw [defs₀_same]
  rfl

end Cert.KernelIdeal.AR
-- ==== Proof.Value.lean ====
/-
The value of the run over the extended reals.
-/
module

public import proofs.«01_k».proof.Proof.Result
public import Idealize.ShloMosaic.Lib.Pointwise
public import Idealize.ShloMosaic.Lib.ValueIdx
@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The devices whose tables make up a device's running sum. -/
def who (s : ℕ) : ℕ → Dev nD → List (Dev nD)
  | 0, c => [c]
  | r + 1, c =>
    if ar (ax s r) = 2 then who s r c ++ who s r (sh (ax s r) 1 c)
    else who s r c ++ ((who s r (sh (ax s r) 3 c) ++ who s r (sh (ax s r) 2 c)) ++ who s r (sh (ax s r) 1 c))

theorem A_who (X : Dev nD → ℕ → ℕ → Ideal .f32) (s : ℕ) (ρ κ : ℕ) : ∀ (r : ℕ) (c : Dev nD), A X s r c ρ κ = ((who s r c).map fun d => (X d ρ κ : EReal)).sum
  | 0, c => by simp [A, who]
  | r + 1, c => by
    unfold A who
    split
    · rw [A_who X s ρ κ r, A_who X s ρ κ r, List.map_append, List.sum_append]; rfl
    · rw [A_who X s ρ κ r, A_who X s ρ κ r, A_who X s ρ κ r, A_who X s ρ κ r]
      simp only [List.map_append, List.sum_append]; rfl

theorem who_all (s : Fin 4) (c : Dev nD) : (who s.val 3 c).Perm (List.finRange 32) := by revert s c; decide +kernel

/-- After the three rounds a device holds the sum over all devices. -/
theorem A_all (X : Dev nD → ℕ → ℕ → Ideal .f32) (s : ℕ) (hs : s < 4) (c : Dev nD) (ρ κ : ℕ) : A X s 3 c ρ κ = ∑ d : Fin 32, (X d ρ κ : EReal) := by
  rw [A_who, (((who_all ⟨s, hs⟩ c).map _).sum_eq), ← Fin.sum_univ_def]

/-- The product at an index: two half sums. -/
theorem Om_at (X Wt : Dev nD → ℕ → ℕ → Ideal .f32) (d : Dev nD) (i : S32x512.Idx) :
    Om X Wt d i = (∑ k : Fin 256, (xh X d 0 (ix2 (i 0) k) * wh Wt d 0 (ix2 k (i 1)) : EReal)) + ∑ k : Fin 256, (xh X d 1 (ix2 (i 0) k) * wh Wt d 1 (ix2 k (i 1)) : EReal) := by
  unfold Om
  pointwise [k0_pay39, dot0, k0_pay30, k0_pay29]

theorem own_row (ρ : Fin 1024) : lo (ρ.val / 256) 3 (own ρ.val).val + ρ.val % 8 = ρ.val := by revert ρ; decide +kernel

theorem half_x (X : Dev nD → ℕ → ℕ → Ideal .f32) (ρ : Fin 1024) (h κ : ℕ) (i : S32x256.Idx) (hi : (i 0 : ℕ) = 8 * (ρ.val / 256) + ρ.val % 8) :
    xh X (own ρ.val) h i = ∑ d : Fin 32, (X d ρ.val (256 * h + (i 1 : ℕ)) : EReal) := by
  have hr := ρ.isLt
  unfold xh
  rw [hi, show (8 * (ρ.val / 256) + ρ.val % 8) / 8 = ρ.val / 256 by omega, show (8 * (ρ.val / 256) + ρ.val % 8) % 8 = ρ.val % 8 by omega,
    own_row, A_all X _ (by omega)]

/-- The result at an index. -/
theorem O_at (X Wt : Dev nD → ℕ → ℕ → Ideal .f32) (ρ : Fin 1024) (κ : Fin 512) :
    O X Wt ρ.val κ.val = ∑ k : Fin 512, ((∑ d : Fin 32, (X d ρ.val k.val : EReal)) * (Wt (own ρ.val) k.val κ.val : EReal) : EReal) := by
  have hr := ρ.isLt
  have h0 : ((i32 (8 * (ρ.val / 256) + ρ.val % 8) κ.val 0 : Fin 32) : ℕ) = 8 * (ρ.val / 256) + ρ.val % 8 := Nat.mod_eq_of_lt (by omega)
  have h1 : ((i32 (8 * (ρ.val / 256) + ρ.val % 8) κ.val 1 : Fin 512) : ℕ) = κ.val := Nat.mod_eq_of_lt κ.isLt
  unfold O
  rw [Om_at, Fin.sum_univ_add (a := 256) (b := 256) fun k : Fin (256 + 256) => ((∑ d : Fin 32, (X d ρ.val k.val : EReal)) * (Wt (own ρ.val) k.val κ.val : EReal) : EReal)]
  congr 1 <;> refine Finset.sum_congr rfl fun k _ => ?_
  · rw [half_x X ρ 0 κ _ h0]
    show (∑ d : Fin 32, (X d ρ.val (256 * 0 + k.val) : EReal)) * Wt (own ρ.val) (256 * 0 + k.val) ((i32 (8 * (ρ.val / 256) + ρ.val % 8) κ.val 1 : Fin 512) : ℕ) = _
    rw [h1, show 256 * 0 + k.val = k.val by omega]
    rfl
  · rw [half_x X ρ 1 κ _ h0]
    show (∑ d : Fin 32, (X d ρ.val (256 * 1 + k.val) : EReal)) * Wt (own ρ.val) (256 * 1 + k.val) ((i32 (8 * (ρ.val / 256) + ρ.val % 8) κ.val 1 : Fin 512) : ℕ) = _
    rw [h1]
    rfl

end Cert.KernelIdeal.AR
-- ==== Proof.Ref.lean ====
/-
The reference's result, index by index: the sum of the 32 tables times the weights.
-/
module

public import proofs.«01_k».proof.Proof.Gen.ReferenceIdeal
public import Idealize.ShloMosaic.Lib.Pointwise

@[expose] public section

noncomputable section

namespace Cert.ReferenceIdeal.AR

open Cert.ReferenceIdeal Cert.ReferenceIdeal.Gen Idealize.ShloMosaic

/-- What the reference computes. -/
def refOut (t : S32768x512.Idx → EReal) (w : S512x512.Idx → EReal) : FVec Ideal S1024x512 .f32 :=
  Host.dotGeneral (F := Ideal) (φ₁ := .f32) (φ₂ := .f32) dot_S1024x512_S512x512_S1024x512_1_0_0_1_n_n none
    (Host.reduceAdd (F := Ideal) (φ := .f32) (shapeCast S32x1024x512 t shapeCasts_S32768x512_S32x1024x512) (constant S_ .f32 0x00000000#32) reducesTo_S32x1024x512_S1024x512_d0 h_S_) w

theorem ref_at (t : S32768x512.Idx → EReal) (w : S512x512.Idx → EReal) (j : S1024x512.Idx) :
    refOut t w j = ∑ k : Fin 512, (∑ d : Fin 32, t (ix2 ⟨d.val * 1024 + (j 0).val, by have h : (j 0).val < 1024 := (j 0).isLt; omega⟩ k)) * w (ix2 k (j 1)) := by
  pointwise [refOut]

end Cert.ReferenceIdeal.AR
-- ==== Proof.Agree.lean ====
/-
The kernel's result and the reference's are the same array.
-/
module

public import proofs.«01_k».proof.Proof.Value
public import proofs.«01_k».proof.Proof.Ref
public import Idealize.ShloMosaic.Lib.Layout

@[expose] public section

noncomputable section

namespace Cert.KernelIdeal.AR

open Cert.KernelIdeal Cert.KernelIdeal.Gen Idealize.ShloMosaic Idealize.ShloMosaic.TcCoe

/-- Row `a`, column `b` of a device's block, in the whole array. -/
theorem tile_at (h : Layout.Tiles ⟨2, ![1024, 512]⟩ ⟨2, ![32768, 512]⟩ 0 32) (d : Fin 32) (a : Fin 1024) (b : Fin 512) :
    h.idx d (ti a.val b.val) = ix2 ⟨d.val * 1024 + a.val, by have h1 := d.isLt; have h2 := a.isLt; omega⟩ b := by
  funext x
  fin_cases x
  · refine Fin.ext ((h.idx_val d _ _).trans ?_)
    exact congrArg (fun n => d.val * 1024 + n) (Nat.mod_eq_of_lt a.isLt)
  · refine Fin.ext ((h.idx_val d _ _).trans ?_)
    exact Nat.mod_eq_of_lt b.isLt

theorem whole_at (a b : Fin 512) : wi a.val b.val = ix2 a b := by
  funext x
  fin_cases x
  · exact Fin.ext (Nat.mod_eq_of_lt a.isLt)
  · exact Fin.ext (Nat.mod_eq_of_lt b.isLt)

/-- Where each device holds its block of the tables and all of the weights, the result is the reference's. -/
theorem out_ref (m : (ℓ : Idealize.ShloMosaic.Loc nD τ sig) → Buf (Elt Ideal) ℓ) (ρ : Dev nD → PrngReg)
    (t : (⟨2, ![32768, 512]⟩ : Shape).Idx → EReal) (w : S512x512.Idx → EReal)
    (h : ∀ c : Dev nD, m ((c : Thread nD τ).loc main_arg0) = Layout.block ⟨2, ![1024, 512]⟩ ⟨2, ![32768, 512]⟩ 0 32 c t
      ∧ m ((c : Thread nD τ).loc main_arg1) = w) :
    outm m ρ = Cert.ReferenceIdeal.AR.refOut t w := by
  funext j
  rw [Cert.ReferenceIdeal.AR.ref_at]
  refine (O_at (Xm m ρ) (Wm m ρ) (j 0) (j 1)).trans (Finset.sum_congr rfl fun k _ => ?_)
  have hw : (Wm m ρ (own (j 0).val) k.val (j 1).val : EReal) = w (ix2 k (j 1)) := by
    unfold Wm; rw [wstg_eq, (h _).2]; exact congrArg w (whole_at k (j 1))
  have hx : ∀ d : Fin 32, (Xm m ρ d (j 0).val k.val : EReal) = t (ix2 ⟨d.val * 1024 + (j 0).val, by have h : (j 0).val < 1024 := (j 0).isLt; omega⟩ k) := fun d => by
    unfold Xm; rw [xstg_eq, (h _).1]; exact congrArg t (tile_at _ d (j 0) k)
  rw [hw]
  exact congrArg (fun s : EReal => s * w (ix2 k (j 1))) (Finset.sum_congr rfl fun d _ => hx d)

end Cert.KernelIdeal.AR
-- ==== Proof.lean ====
/- The claims about the all-reduce and product kernel, put together: its run is proved once, for any float values, in Proof/Result.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Tables
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, leaves its arguments and ends with every counter at zero. -/
theorem frame_kernel : Cert.quiescent_Kernel := fun m ρ _ => by
  rw [Cert.KernelIdeal.AR.defs_same]
  exact (θ_run Cert.KernelIdeal.defs _ _).mono (fun _ h => ⟨fun c => (h.1 c).2, h.2⟩) (Cert.KernelIdeal.AR.run (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.KernelIdeal.AR.run (F := Ideal) m ρ)

/-- The reference runs and leaves its arguments; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel ends on every device with the reference's result of the whole arrays. -/
theorem algebraic : Cert.algebraic_KernelIdeal_ReferenceIdeal := fun m ρ m' ρ' _ hagree =>
  ⟨Cert.ReferenceIdeal.AR.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono (fun _ h c => ⟨(h.1 c).1.trans (Cert.KernelIdeal.AR.out_ref m ρ _ _ hagree), (h.1 c).2⟩)
      (Cert.KernelIdeal.AR.run (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
